-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥
  ∧ IdealRules.named_const.Statement Cert.Kernel2Ideal.κ "ln2" .f32 0x3F317218#32 ((Real.log 2 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xF149F2CA#32 ⊥
  ∧ IdealRules.named_const.Statement Cert.Kernel3Ideal.κ "ln2" .f32 0x3F317218#32 ((Real.log 2 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v37_1)) (v1 : (c : Dev Cert.Kernel4Ideal.nD) → Buf (Elt Ideal) ((c.tc : Thread Cert.Kernel4Ideal.nD Cert.Kernel4Ideal.τ).loc Cert.Kernel4Ideal.main_v37_2)) (v2 : (c : Dev Cert.Kernel4Ideal.nD) → Buf (Elt Ideal) ((c.tc : Thread Cert.Kernel4Ideal.nD Cert.Kernel4Ideal.τ).loc Cert.Kernel4Ideal.main_v37_3)) (v3 : (c : Dev Cert.Kernel4Ideal.nD) → Buf (Elt Ideal) ((c.tc : Thread Cert.Kernel4Ideal.nD Cert.Kernel4Ideal.τ).loc Cert.Kernel4Ideal.main_v37_4)) (v4 : (c : Dev Cert.Kernel4Ideal.nD) → Buf (Elt Ideal) ((c.tc : Thread Cert.Kernel4Ideal.nD Cert.Kernel4Ideal.τ).loc Cert.Kernel4Ideal.main_v37_7)) (v5 : (c : Dev Cert.Kernel4Ideal.nD) → Buf (Elt Ideal) ((c.tc : Thread Cert.Kernel4Ideal.nD Cert.Kernel4Ideal.τ).loc Cert.Kernel4Ideal.main_v37_8)) (v6 : (c : Dev Cert.Kernel4Ideal.nD) → Buf (Elt Ideal) ((c.tc : Thread Cert.Kernel4Ideal.nD Cert.Kernel4Ideal.τ).loc Cert.Kernel4Ideal.main_v37_9)) (v7 : (c : Dev Cert.Kernel4Ideal.nD) → Buf (Elt Ideal) ((c.tc : Thread Cert.Kernel4Ideal.nD Cert.Kernel4Ideal.τ).loc Cert.Kernel4Ideal.main_v37_10)) (v8 : (c : Dev Cert.Kernel4Ideal.nD) → Buf (Elt Ideal) ((c.tc : Thread Cert.Kernel4Ideal.nD Cert.Kernel4Ideal.τ).loc Cert.Kernel4Ideal.main_v37_11)) (v9 : (c : Dev Cert.Kernel4Ideal.nD) → Buf (Elt Ideal) ((c.tc : Thread Cert.Kernel4Ideal.nD Cert.Kernel4Ideal.τ).loc Cert.Kernel4Ideal.main_v37_12)) (v10 : (c : Dev Cert.Kernel4Ideal.nD) → Buf (Elt Ideal) ((c.tc : Thread Cert.Kernel4Ideal.nD Cert.Kernel4Ideal.τ).loc Cert.Kernel4Ideal.main_v37_13)) (v11 : (c : Dev Cert.Kernel4Ideal.nD) → Buf (Elt Ideal) ((c.tc : Thread Cert.Kernel4Ideal.nD Cert.Kernel4Ideal.τ).loc Cert.Kernel4Ideal.main_v37_14)) (v12 : (c : Dev Cert.Kernel4Ideal.nD) → Buf (Elt Ideal) ((c.tc : Thread Cert.Kernel4Ideal.nD Cert.Kernel4Ideal.τ).loc Cert.Kernel4Ideal.main_v37_15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_1) = v0 c
          ∧ r.2.mem ((c.tc : Thread Cert.Kernel4Ideal.nD Cert.Kernel4Ideal.τ).loc Cert.Kernel4Ideal.main_v37_2) = v1 c
          ∧ r.2.mem ((c.tc : Thread Cert.Kernel4Ideal.nD Cert.Kernel4Ideal.τ).loc Cert.Kernel4Ideal.main_v37_3) = v2 c
          ∧ r.2.mem ((c.tc : Thread Cert.Kernel4Ideal.nD Cert.Kernel4Ideal.τ).loc Cert.Kernel4Ideal.main_v37_4) = v3 c
          ∧ r.2.mem ((c.tc : Thread Cert.Kernel4Ideal.nD Cert.Kernel4Ideal.τ).loc Cert.Kernel4Ideal.main_v37_7) = v4 c
          ∧ r.2.mem ((c.tc : Thread Cert.Kernel4Ideal.nD Cert.Kernel4Ideal.τ).loc Cert.Kernel4Ideal.main_v37_8) = v5 c
          ∧ r.2.mem ((c.tc : Thread Cert.Kernel4Ideal.nD Cert.Kernel4Ideal.τ).loc Cert.Kernel4Ideal.main_v37_9) = v6 c
          ∧ r.2.mem ((c.tc : Thread Cert.Kernel4Ideal.nD Cert.Kernel4Ideal.τ).loc Cert.Kernel4Ideal.main_v37_10) = v7 c
          ∧ r.2.mem ((c.tc : Thread Cert.Kernel4Ideal.nD Cert.Kernel4Ideal.τ).loc Cert.Kernel4Ideal.main_v37_11) = v8 c
          ∧ r.2.mem ((c.tc : Thread Cert.Kernel4Ideal.nD Cert.Kernel4Ideal.τ).loc Cert.Kernel4Ideal.main_v37_12) = v9 c
          ∧ r.2.mem ((c.tc : Thread Cert.Kernel4Ideal.nD Cert.Kernel4Ideal.τ).loc Cert.Kernel4Ideal.main_v37_13) = v10 c
          ∧ r.2.mem ((c.tc : Thread Cert.Kernel4Ideal.nD Cert.Kernel4Ideal.τ).loc Cert.Kernel4Ideal.main_v37_14) = v11 c
          ∧ r.2.mem ((c.tc : Thread Cert.Kernel4Ideal.nD Cert.Kernel4Ideal.τ).loc Cert.Kernel4Ideal.main_v37_15) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v62) = v2 c
          ∧ r.2.mem ((c.tc : Thread Cert.Reference4Ideal.nD Cert.Reference4Ideal.τ).loc Cert.Reference4Ideal.main_v63) = v3 c
          ∧ r.2.mem ((c.tc : Thread Cert.Reference4Ideal.nD Cert.Reference4Ideal.τ).loc Cert.Reference4Ideal.main_v64) = v4 c
          ∧ r.2.mem ((c.tc : Thread Cert.Reference4Ideal.nD Cert.Reference4Ideal.τ).loc Cert.Reference4Ideal.main_v65) = v5 c
          ∧ r.2.mem ((c.tc : Thread Cert.Reference4Ideal.nD Cert.Reference4Ideal.τ).loc Cert.Reference4Ideal.main_v66) = v6 c
          ∧ r.2.mem ((c.tc : Thread Cert.Reference4Ideal.nD Cert.Reference4Ideal.τ).loc Cert.Reference4Ideal.main_v67) = v7 c
          ∧ r.2.mem ((c.tc : Thread Cert.Reference4Ideal.nD Cert.Reference4Ideal.τ).loc Cert.Reference4Ideal.main_v68) = v8 c
          ∧ r.2.mem ((c.tc : Thread Cert.Reference4Ideal.nD Cert.Reference4Ideal.τ).loc Cert.Reference4Ideal.main_v69) = v9 c
          ∧ r.2.mem ((c.tc : Thread Cert.Reference4Ideal.nD Cert.Reference4Ideal.τ).loc Cert.Reference4Ideal.main_v70) = v10 c
          ∧ r.2.mem ((c.tc : Thread Cert.Reference4Ideal.nD Cert.Reference4Ideal.τ).loc Cert.Reference4Ideal.main_v71) = v11 c
          ∧ r.2.mem ((c.tc : Thread Cert.Reference4Ideal.nD Cert.Reference4Ideal.τ).loc Cert.Reference4Ideal.main_v72) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "minus_log2e" .f32 0xBFB8AA3B#32 ((-((Real.log 2)⁻¹) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v37)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v42) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S65536x512 : Shape := ⟨2, ![65536, 512]⟩
abbrev S65536x128 : Shape := ⟨2, ![65536, 128]⟩
abbrev S2048x512 : Shape := ⟨2, ![2048, 512]⟩
abbrev S128x512 : Shape := ⟨2, ![128, 512]⟩
abbrev S2048x128 : Shape := ⟨2, ![2048, 128]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 16
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x128, .f32⟩
  | .local _ .vmem, ⟨0, _⟩ => ⟨S2048x512, .bf16⟩
  | .local _ .vmem, ⟨1, _⟩ => ⟨S2048x512, .bf16⟩
  | .local _ .vmem, ⟨2, _⟩ => ⟨S128x512, .bf16⟩
  | .local _ .vmem, ⟨3, _⟩ => ⟨S128x512, .bf16⟩
  | .local _ .vmem, ⟨4, _⟩ => ⟨S2048x512, .bf16⟩
  | .local _ .vmem, ⟨5, _⟩ => ⟨S2048x512, .bf16⟩
  | .local _ .vmem, ⟨6, _⟩ => ⟨S128x512, .bf16⟩
  | .local _ .vmem, ⟨7, _⟩ => ⟨S128x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x128, .f32⟩
  | .local _ .vmem, ⟨13, _⟩ => ⟨S2048x128, .f32⟩
  | .local _ .vmem, ⟨14, _⟩ => ⟨S256x256, .f32⟩
  | .local _ .vmem, ⟨15, _⟩ => ⟨S256x256, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c16_i32 : BitVec 32 := 16#32
  let v1 : BitVec 32 := Scalar.muli arg2 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  ![v4.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c16_i32 : BitVec 32 := 16#32
  let v1 : BitVec 32 := Scalar.muli arg2 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  ![v4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S65536x512 : Shape := ⟨2, ![65536, 512]⟩
abbrev S16x4096x8x64 : Shape := ⟨4, ![16, 4096, 8, 64]⟩
abbrev S16x8x4096x64 : Shape := ⟨4, ![16, 8, 4096, 64]⟩
abbrev S_ : Shape := ⟨0, ![]⟩
abbrev S4096x4096 : Shape := ⟨2, ![4096, 4096]⟩
abbrev S16x8x4096x4096 : Shape := ⟨4, ![16, 8, 4096, 4096]⟩
abbrev S16x8x4096 : Shape := ⟨3, ![16, 8, 4096]⟩
abbrev S16x8x4096x1 : Shape := ⟨4, ![16, 8, 4096, 1]⟩
abbrev S16x4096x8 : Shape := ⟨3, ![16, 4096, 8]⟩
abbrev S16x4096x128 : Shape := ⟨3, ![16, 4096, 128]⟩
abbrev S65536x128 : Shape := ⟨2, ![65536, 128]⟩

abbrev nBuf : Space → Nat
  | .hbm => 61
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S65536x512, .f32⟩
  | .hbm, ⟨4, _⟩ => ⟨S16x4096x8x64, .f32⟩
  | .hbm, ⟨5, _⟩ => ⟨S16x8x4096x64, .f32⟩
  | .hbm, ⟨6, _⟩ => ⟨S_, .f32⟩
  | .hbm, ⟨7, _⟩ => ⟨S_, .f32⟩
  | .hbm, ⟨8, _⟩ => ⟨S16x8x4096x64, .f32⟩
  | .hbm, ⟨9, _⟩ => ⟨S16x8x4096x64, .f32⟩
  | .hbm, ⟨10, _⟩ => ⟨S65536x512, .f32⟩
  | .hbm, ⟨11, _⟩ => ⟨S16x4096x8x64, .f32⟩
  | .hbm, ⟨12, _⟩ => ⟨S16x8x4096x64, .f32⟩
  | .hbm, ⟨13, _⟩ => ⟨S65536x512, .f32⟩
  | .hbm, ⟨14, _⟩ => ⟨S16x4096x8x64, .f32⟩
  | .hbm, ⟨15, _⟩ => ⟨S16x8x4096x64, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S16x8x4096x4096, .f32⟩
  | .hbm, ⟨33, _⟩ => ⟨S_, .f32⟩
  | .hbm, ⟨34, _⟩ => ⟨S_, .f32⟩
  | .hbm, ⟨35, _⟩ => ⟨S16x8x4096x4096, .i1⟩
  | .hbm, ⟨36, _⟩ => ⟨S16x8x4096x4096, .f32⟩
  | .hbm, ⟨37, _⟩ => ⟨S16x8x4096x4096, .f32⟩
  | .hbm, ⟨38, _⟩ => ⟨S_, .f32⟩
  | .hbm, ⟨39, _⟩ => ⟨S16x8x4096, .f32⟩
  | .hbm, ⟨40, _⟩ => ⟨S16x8x4096x1, .f32⟩
  | .hbm, ⟨41, _⟩ => ⟨S16x8x4096x4096, .f32⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S16x8x4096x1, .f32⟩
  | .hbm, ⟨47, _⟩ => ⟨S16x8x4096x64, .f32⟩
  | .hbm, ⟨48, _⟩ => ⟨S16x8x4096x64, .f32⟩
  | .hbm, ⟨49, _⟩ => ⟨S16x8x4096x64, .f32⟩
  | .hbm, ⟨50, _⟩ => ⟨S16x8x4096x1, .f32⟩
  | .hbm, ⟨51, _⟩ => ⟨S16x8x4096x1, .f32⟩
  | .hbm, ⟨52, _⟩ => ⟨S16x8x4096, .f32⟩
  | .hbm, ⟨53, _⟩ => ⟨S16x4096x8x64, .f32⟩
  | .hbm, ⟨54, _⟩ => ⟨S65536x512, .f32⟩
  | .hbm, ⟨55, _⟩ => ⟨S65536x512, .bf16⟩
  | .hbm, ⟨56, _⟩ => ⟨S16x4096x8, .f32⟩
  | .hbm, ⟨57, _⟩ => ⟨S_, .i32⟩
  | .hbm, ⟨58, _⟩ => ⟨S_, .f32⟩
  | .hbm, ⟨59, _⟩ => ⟨S16x4096x128, .f32⟩
  | .hbm, ⟨60, _⟩ => ⟨S65536x128, .f32⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel2.lean ====
abbrev S16384x2048 : Shape := ⟨2, ![16384, 2048]⟩
abbrev S16384x512 : Shape := ⟨2, ![16384, 512]⟩
abbrev S1024x1024 : Shape := ⟨2, ![1024, 1024]⟩
abbrev S128x1024 : Shape := ⟨2, ![128, 1024]⟩
abbrev S1024x256 : Shape := ⟨2, ![1024, 256]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .bf16⟩
  | .hbm, ⟨4, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .bf16⟩
  | .local _ .vmem, ⟨7, _⟩ => ⟨S128x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x256, .f32⟩
  | .local _ .vmem, ⟨13, _⟩ => ⟨S1024x256, .f32⟩
  | .local _ .vmem, ⟨14, _⟩ => ⟨S256x256, .f32⟩
  | .local _ .vmem, ⟨15, _⟩ => ⟨S256x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.muli arg2 c8_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  ![v4.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.muli arg2 c8_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  ![v4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel2Ideal.lean ====
variable {F : FTy → Type} [FloatOps F] [Named F]
def κ : String → Option EReal := fun
  | "ln2" => some ((Real.log 2 : ℝ) : EReal)
  | "mask" => some ⊥
  | _ => none
-- ==== Reference2Ideal.lean ====
abbrev S16384x2048 : Shape := ⟨2, ![16384, 2048]⟩
abbrev S16x4096x8x64 : Shape := ⟨4, ![16, 4096, 8, 64]⟩
abbrev S16x8x4096x64 : Shape := ⟨4, ![16, 8, 4096, 64]⟩
abbrev S_ : Shape := ⟨0, ![]⟩
abbrev S4096x4096 : Shape := ⟨2, ![4096, 4096]⟩
abbrev S16x8x4096x4096 : Shape := ⟨4, ![16, 8, 4096, 4096]⟩
abbrev S16x8x4096 : Shape := ⟨3, ![16, 8, 4096]⟩
abbrev S16x8x4096x1 : Shape := ⟨4, ![16, 8, 4096, 1]⟩
abbrev S16x4096x8 : Shape := ⟨3, ![16, 4096, 8]⟩
abbrev S16x4096x128 : Shape := ⟨3, ![16, 4096, 128]⟩
abbrev S16384x512 : Shape := ⟨2, ![16384, 512]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x2048, .f32⟩
  | .hbm, ⟨4, _⟩ => ⟨S16x4096x8x64, .f32⟩
  | .hbm, ⟨5, _⟩ => ⟨S16x8x4096x64, .f32⟩
  | .hbm, ⟨6, _⟩ => ⟨S_, .f32⟩
  | .hbm, ⟨7, _⟩ => ⟨S_, .f32⟩
  | .hbm, ⟨8, _⟩ => ⟨S16x8x4096x64, .f32⟩
  | .hbm, ⟨9, _⟩ => ⟨S16x8x4096x64, .f32⟩
  | .hbm, ⟨10, _⟩ => ⟨S16384x2048, .f32⟩
  | .hbm, ⟨11, _⟩ => ⟨S16x4096x8x64, .f32⟩
  | .hbm, ⟨12, _⟩ => ⟨S16x8x4096x64, .f32⟩
  | .hbm, ⟨13, _⟩ => ⟨S16384x2048, .f32⟩
  | .hbm, ⟨14, _⟩ => ⟨S16x4096x8x64, .f32⟩
  | .hbm, ⟨15, _⟩ => ⟨S16x8x4096x64, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S16x8x4096x4096, .f32⟩
  | .hbm, ⟨33, _⟩ => ⟨S_, .f32⟩
  | .hbm, ⟨34, _⟩ => ⟨S_, .f32⟩
  | .hbm, ⟨35, _⟩ => ⟨S16x8x4096x4096, .i1⟩
  | .hbm, ⟨36, _⟩ => ⟨S16x8x4096x4096, .f32⟩
  | .hbm, ⟨37, _⟩ => ⟨S16x8x4096x4096, .f32⟩
  | .hbm, ⟨38, _⟩ => ⟨S_, .f32⟩
  | .hbm, ⟨39, _⟩ => ⟨S16x8x4096, .f32⟩
  | .hbm, ⟨40, _⟩ => ⟨S16x8x4096x1, .f32⟩
  | .hbm, ⟨41, _⟩ => ⟨S16x8x4096x4096, .f32⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S16x8x4096x1, .f32⟩
  | .hbm, ⟨47, _⟩ => ⟨S16x8x4096x64, .f32⟩
  | .hbm, ⟨48, _⟩ => ⟨S16x8x4096x64, .f32⟩
  | .hbm, ⟨49, _⟩ => ⟨S16x8x4096x64, .f32⟩
  | .hbm, ⟨50, _⟩ => ⟨S16x8x4096x1, .f32⟩
  | .hbm, ⟨51, _⟩ => ⟨S16x8x4096x1, .f32⟩
  | .hbm, ⟨52, _⟩ => ⟨S16x8x4096, .f32⟩
  | .hbm, ⟨53, _⟩ => ⟨S16x4096x8x64, .f32⟩
  | .hbm, ⟨54, _⟩ => ⟨S16384x2048, .f32⟩
  | .hbm, ⟨55, _⟩ => ⟨S16384x2048, .bf16⟩
  | .hbm, ⟨56, _⟩ => ⟨S16x4096x8, .f32⟩
  | .hbm, ⟨57, _⟩ => ⟨S_, .i32⟩
  | .hbm, ⟨58, _⟩ => ⟨S_, .f32⟩
  | .hbm, ⟨59, _⟩ => ⟨S16x4096x128, .f32⟩
  | .hbm, ⟨60, _⟩ => ⟨S16384x512, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S256x4096 : Shape := ⟨2, ![256, 4096]⟩
abbrev S128x4096 : Shape := ⟨2, ![128, 4096]⟩
abbrev S256x1024 : Shape := ⟨2, ![256, 1024]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩

abbrev nBuf : Space → Nat
  | .hbm => 5
  | .vmem => 16
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .bf16⟩
  | .hbm, ⟨3, _⟩ => ⟨S4096x8192, .bf16⟩
  | .hbm, ⟨4, _⟩ => ⟨S4096x2048, .f32⟩
  | .local _ .vmem, ⟨0, _⟩ => ⟨S256x4096, .bf16⟩
  | .local _ .vmem, ⟨1, _⟩ => ⟨S256x4096, .bf16⟩
  | .local _ .vmem, ⟨2, _⟩ => ⟨S128x4096, .bf16⟩
  | .local _ .vmem, ⟨3, _⟩ => ⟨S128x4096, .bf16⟩
  | .local _ .vmem, ⟨4, _⟩ => ⟨S256x4096, .bf16⟩
  | .local _ .vmem, ⟨5, _⟩ => ⟨S256x4096, .bf16⟩
  | .local _ .vmem, ⟨6, _⟩ => ⟨S128x4096, .bf16⟩
  | .local _ .vmem, ⟨7, _⟩ => ⟨S128x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S256x256, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.muli arg2 c2_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  ![v4.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.muli arg2 c2_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  ![v4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel3Ideal.lean ====
variable {F : FTy → Type} [FloatOps F] [Named F]
def κ : String → Option EReal := fun
  | "ln2" => some ((Real.log 2 : ℝ) : EReal)
  | "mask" => some ⊥
  | _ => none
-- ==== Reference3Ideal.lean ====
abbrev S4096x8192 : Shape := ⟨2, ![4096, 8192]⟩
abbrev S16x4096x8x64 : Shape := ⟨4, ![16, 4096, 8, 64]⟩
abbrev S16x8x4096x64 : Shape := ⟨4, ![16, 8, 4096, 64]⟩
abbrev S_ : Shape := ⟨0, ![]⟩
abbrev S4096x4096 : Shape := ⟨2, ![4096, 4096]⟩
abbrev S16x8x4096x4096 : Shape := ⟨4, ![16, 8, 4096, 4096]⟩
abbrev S16x8x4096 : Shape := ⟨3, ![16, 8, 4096]⟩
abbrev S16x8x4096x1 : Shape := ⟨4, ![16, 8, 4096, 1]⟩
abbrev S16x4096x8 : Shape := ⟨3, ![16, 4096, 8]⟩
abbrev S16x4096x128 : Shape := ⟨3, ![16, 4096, 128]⟩
abbrev S4096x2048 : Shape := ⟨2, ![4096, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .bf16⟩
  | .hbm, ⟨3, _⟩ => ⟨S4096x8192, .f32⟩
  | .hbm, ⟨4, _⟩ => ⟨S16x4096x8x64, .f32⟩
  | .hbm, ⟨5, _⟩ => ⟨S16x8x4096x64, .f32⟩
  | .hbm, ⟨6, _⟩ => ⟨S_, .f32⟩
  | .hbm, ⟨7, _⟩ => ⟨S_, .f32⟩
  | .hbm, ⟨8, _⟩ => ⟨S16x8x4096x64, .f32⟩
  | .hbm, ⟨9, _⟩ => ⟨S16x8x4096x64, .f32⟩
  | .hbm, ⟨10, _⟩ => ⟨S4096x8192, .f32⟩
  | .hbm, ⟨11, _⟩ => ⟨S16x4096x8x64, .f32⟩
  | .hbm, ⟨12, _⟩ => ⟨S16x8x4096x64, .f32⟩
  | .hbm, ⟨13, _⟩ => ⟨S4096x8192, .f32⟩
  | .hbm, ⟨14, _⟩ => ⟨S16x4096x8x64, .f32⟩
  | .hbm, ⟨15, _⟩ => ⟨S16x8x4096x64, .f32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S4096x4096, .i1⟩
  | .hbm, ⟨32, _⟩ => ⟨S16x8x4096x4096, .f32⟩
  | .hbm, ⟨33, _⟩ => ⟨S_, .f32⟩
  | .hbm, ⟨34, _⟩ => ⟨S_, .f32⟩
  | .hbm, ⟨35, _⟩ => ⟨S16x8x4096x4096, .i1⟩
  | .hbm, ⟨36, _⟩ => ⟨S16x8x4096x4096, .f32⟩
  | .hbm, ⟨37, _⟩ => ⟨S16x8x4096x4096, .f32⟩
  | .hbm, ⟨38, _⟩ => ⟨S_, .f32⟩
  | .hbm, ⟨39, _⟩ => ⟨S16x8x4096, .f32⟩
  | .hbm, ⟨40, _⟩ => ⟨S16x8x4096x1, .f32⟩
  | .hbm, ⟨41, _⟩ => ⟨S16x8x4096x4096, .f32⟩
  | .hbm, ⟨42, _⟩ => ⟨S16x8x4096x4096, .f32⟩
  | .hbm, ⟨43, _⟩ => ⟨S16x8x4096x4096, .f32⟩
  | .hbm, ⟨44, _⟩ => ⟨S_, .f32⟩
  | .hbm, ⟨45, _⟩ => ⟨S16x8x4096, .f32⟩
  | .hbm, ⟨46, _⟩ => ⟨S16x8x4096x1, .f32⟩
  | .hbm, ⟨47, _⟩ => ⟨S16x8x4096x64, .f32⟩
  | .hbm, ⟨48, _⟩ => ⟨S16x8x4096x64, .f32⟩
  | .hbm, ⟨49, _⟩ => ⟨S16x8x4096x64, .f32⟩
  | .hbm, ⟨50, _⟩ => ⟨S16x8x4096x1, .f32⟩
  | .hbm, ⟨51, _⟩ => ⟨S16x8x4096x1, .f32⟩
  | .hbm, ⟨52, _⟩ => ⟨S16x8x4096, .f32⟩
  | .hbm, ⟨53, _⟩ => ⟨S16x4096x8x64, .f32⟩
  | .hbm, ⟨54, _⟩ => ⟨S4096x8192, .f32⟩
  | .hbm, ⟨55, _⟩ => ⟨S4096x8192, .bf16⟩
  | .hbm, ⟨56, _⟩ => ⟨S16x4096x8, .f32⟩
  | .hbm, ⟨57, _⟩ => ⟨S_, .i32⟩
  | .hbm, ⟨58, _⟩ => ⟨S_, .f32⟩
  | .hbm, ⟨59, _⟩ => ⟨S16x4096x128, .f32⟩
  | .hbm, ⟨60, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S65536x1024 : Shape := ⟨2, ![65536, 1024]⟩
abbrev S1x1024 : Shape := ⟨2, ![1, 1024]⟩
abbrev S1024x6272 : Shape := ⟨2, ![1024, 6272]⟩
abbrev S1x512 : Shape := ⟨2, ![1, 512]⟩
abbrev S4x1024 : Shape := ⟨2, ![4, 1024]⟩
abbrev S1x128 : Shape := ⟨2, ![1, 128]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1536 : Shape := ⟨1, ![1536]⟩
abbrev S1x1536 : Shape := ⟨2, ![1, 1536]⟩
abbrev S128x1536 : Shape := ⟨2, ![128, 1536]⟩
abbrev S65536x512 : Shape := ⟨2, ![65536, 512]⟩
abbrev S65536x128 : Shape := ⟨2, ![65536, 128]⟩
abbrev S256x4x128x256 : Shape := ⟨4, ![256, 4, 128, 256]⟩
abbrev S16384x2048 : Shape := ⟨2, ![16384, 2048]⟩
abbrev S4096x8192 : Shape := ⟨2, ![4096, 8192]⟩
abbrev S512x1024 : Shape := ⟨2, ![512, 1024]⟩
abbrev S512x512 : Shape := ⟨2, ![512, 512]⟩
abbrev S512x128 : Shape := ⟨2, ![512, 128]⟩
abbrev S2x4x128x256 : Shape := ⟨4, ![2, 4, 128, 256]⟩
abbrev S128x2048 : Shape := ⟨2, ![128, 2048]⟩
abbrev S32x8192 : Shape := ⟨2, ![32, 8192]⟩
abbrev S3x4x512x128 : Shape := ⟨4, ![3, 4, 512, 128]⟩
abbrev S3x16x128x128 : Shape := ⟨4, ![3, 16, 128, 128]⟩
abbrev S520x1024 : Shape := ⟨2, ![520, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩
abbrev S256x128 : Shape := ⟨2, ![256, 128]⟩
abbrev S128x256 : Shape := ⟨2, ![128, 256]⟩
abbrev S1x1x128x256 : Shape := ⟨4, ![1, 1, 128, 256]⟩
abbrev S1024x128 : Shape := ⟨2, ![1024, 128]⟩
abbrev S1024x512 : Shape := ⟨2, ![1024, 512]⟩
abbrev S512x256 : Shape := ⟨2, ![512, 256]⟩
abbrev S1x4x512x128 : Shape := ⟨4, ![1, 4, 512, 128]⟩
abbrev S4x512x128 : Shape := ⟨3, ![4, 512, 128]⟩
abbrev S1x512x128 : Shape := ⟨3, ![1, 512, 128]⟩
abbrev S1x128x128 : Shape := ⟨3, ![1, 128, 128]⟩
abbrev S128x128 : Shape := ⟨2, ![128, 128]⟩
abbrev S1x16x128x128 : Shape := ⟨4, ![1, 16, 128, 128]⟩
abbrev S16x128x128 : Shape := ⟨3, ![16, 128, 128]⟩
abbrev S1x32x128 : Shape := ⟨3, ![1, 32, 128]⟩
abbrev S32x128 : Shape := ⟨2, ![32, 128]⟩

abbrev nBuf : Space → Nat
  | .hbm => 189
  | .vmem => 46
  | .smem => 0
  | _ => 0

abbrev hbmTy0_0 (i : Nat) : BufTy := match i % 128 with
  | 0 => ⟨S65536x1024, .f32⟩
  | 1 => ⟨S1x1024, .f32⟩
  | 2 => ⟨S1024x6272, .bf16⟩
  | 3 => ⟨S1x512, .f32⟩
  | 4 => ⟨S1x512, .f32⟩
  | 5 => ⟨S4x1024, .f32⟩
  | 6 => ⟨S1x1024, .f32⟩
  | 7 => ⟨S1x128, .f32⟩
  | 8 => ⟨S256, .i32⟩
  | 9 => ⟨S256x1, .i32⟩
  | 10 => ⟨S_, .i32⟩
  | 11 => ⟨S_, .i32⟩
  | 12 => ⟨S256x1, .i32⟩
  | 13 => ⟨S256x1, .i32⟩
  | 14 => ⟨S256x1, .i32⟩
  | 15 => ⟨S_, .i32⟩
  | 16 => ⟨S256x1, .i32⟩
  | 17 => ⟨S256x1, .i1⟩
  | 18 => ⟨S256x1, .i32⟩
  | 19 => ⟨S256x1, .i32⟩
  | 20 => ⟨S_, .i32⟩
  | 21 => ⟨S256x1, .i32⟩
  | 22 => ⟨S256x1, .i1⟩
  | 23 => ⟨S256x1, .i1⟩
  | 24 => ⟨S_, .i32⟩
  | 25 => ⟨S256x1, .i32⟩
  | 26 => ⟨S256x1, .i32⟩
  | 27 => ⟨S256x1, .i32⟩
  | 28 => ⟨S1x256, .i32⟩
  | 29 => ⟨S_, .i32⟩
  | 30 => ⟨S_, .i32⟩
  | 31 => ⟨S1x256, .i32⟩
  | 32 => ⟨S1x256, .i32⟩
  | 33 => ⟨S1x256, .i32⟩
  | 34 => ⟨S_, .i32⟩
  | 35 => ⟨S1x256, .i32⟩
  | 36 => ⟨S1x256, .i1⟩
  | 37 => ⟨S1x256, .i32⟩
  | 38 => ⟨S1x256, .i32⟩
  | 39 => ⟨S_, .i32⟩
  | 40 => ⟨S1x256, .i32⟩
  | 41 => ⟨S1x256, .i1⟩
  | 42 => ⟨S1x256, .i1⟩
  | 43 => ⟨S_, .i32⟩
  | 44 => ⟨S1x256, .i32⟩
  | 45 => ⟨S1x256, .i32⟩
  | 46 => ⟨S1x256, .i32⟩
  | 47 => ⟨S256x256, .i32⟩
  | 48 => ⟨S256x256, .i32⟩
  | 49 => ⟨S256x256, .i1⟩
  | 50 => ⟨S256x256, .bf16⟩
  | 51 => ⟨S256, .i32⟩
  | 52 => ⟨S1x256, .i32⟩
  | 53 => ⟨S256x1, .i32⟩
  | 54 => ⟨S256x256, .i32⟩
  | 55 => ⟨S256x256, .i32⟩
  | 56 => ⟨S256x256, .i1⟩
  | 57 => ⟨S256x256, .bf16⟩
  | 58 => ⟨S128, .i32⟩
  | 59 => ⟨S128x1, .i32⟩
  | 60 => ⟨S1536, .i32⟩
  | 61 => ⟨S1x1536, .i32⟩
  | 62 => ⟨S_, .i32⟩
  | 63 => ⟨S_, .i32⟩
  | 64 => ⟨S128x1, .i32⟩
  | 65 => ⟨S128x1, .i32⟩
  | 66 => ⟨S128x1, .i32⟩
  | 67 => ⟨S_, .i32⟩
  | 68 => ⟨S128x1, .i32⟩
  | 69 => ⟨S128x1, .i1⟩
  | 70 => ⟨S128x1, .i32⟩
  | 71 => ⟨S128x1, .i32⟩
  | 72 => ⟨S_, .i32⟩
  | 73 => ⟨S128x1, .i32⟩
  | 74 => ⟨S128x1, .i1⟩
  | 75 => ⟨S128x1, .i1⟩
  | 76 => ⟨S_, .i32⟩
  | 77 => ⟨S128x1, .i32⟩
  | 78 => ⟨S128x1, .i32⟩
  | 79 => ⟨S128x1, .i32⟩
  | 80 => ⟨S_, .i32⟩
  | 81 => ⟨S_, .i32⟩
  | 82 => ⟨S1x1536, .i32⟩
  | 83 => ⟨S1x1536, .i32⟩
  | 84 => ⟨S1x1536, .i32⟩
  | 85 => ⟨S_, .i32⟩
  | 86 => ⟨S1x1536, .i32⟩
  | 87 => ⟨S1x1536, .i1⟩
  | 88 => ⟨S1x1536, .i32⟩
  | 89 => ⟨S1x1536, .i32⟩
  | 90 => ⟨S_, .i32⟩
  | 91 => ⟨S1x1536, .i32⟩
  | 92 => ⟨S1x1536, .i1⟩
  | 93 => ⟨S1x1536, .i1⟩
  | 94 => ⟨S_, .i32⟩
  | 95 => ⟨S1x1536, .i32⟩
  | 96 => ⟨S1x1536, .i32⟩
  | 97 => ⟨S1x1536, .i32⟩
  | 98 => ⟨S128x1536, .i32⟩
  | 99 => ⟨S128x1536, .i32⟩
  | 100 => ⟨S128x1536, .i1⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S128x1, .i32⟩
  | 108 => ⟨S128x1, .i32⟩
  | 109 => ⟨S_, .i32⟩
  | 110 => ⟨S128x1, .i32⟩
  | 111 => ⟨S128x1, .i1⟩
  | 112 => ⟨S_, .i32⟩
  | 113 => ⟨S128x1, .i32⟩
  | 114 => ⟨S128x1, .i1⟩
  | 115 => ⟨S_, .i32⟩
  | 116 => ⟨S_, .i1⟩
  | 117 => ⟨S128x1, .i1⟩
  | 118 => ⟨S128x1, .i1⟩
  | 119 => ⟨S128x1, .i1⟩
  | 120 => ⟨S128x1, .i32⟩
  | 121 => ⟨S128x1, .i32⟩
  | 122 => ⟨S128x1, .i32⟩
  | 123 => ⟨S_, .i32⟩
  | 124 => ⟨S_, .i32⟩
  | 125 => ⟨S_, .i32⟩
  | 126 => ⟨S_, .i1⟩
  | 127 => ⟨S_, .i32⟩
  | _ => ⟨S65536x1024, .f32⟩

abbrev hbmTy0_1 (i : Nat) : BufTy := match i % 128 with
  | 0 => ⟨S_, .i32⟩
  | 1 => ⟨S1x1536, .i32⟩
  | 2 => ⟨S1x1536, .i32⟩
  | 3 => ⟨S_, .i32⟩
  | 4 => ⟨S1x1536, .i32⟩
  | 5 => ⟨S1x1536, .i1⟩
  | 6 => ⟨S_, .i32⟩
  | 7 => ⟨S1x1536, .i32⟩
  | 8 => ⟨S1x1536, .i1⟩
  | 9 => ⟨S_, .i32⟩
  | 10 => ⟨S_, .i1⟩
  | 11 => ⟨S1x1536, .i1⟩
  | 12 => ⟨S1x1536, .i1⟩
  | 13 => ⟨S1x1536, .i1⟩
  | 14 => ⟨S1x1536, .i32⟩
  | 15 => ⟨S1x1536, .i32⟩
  | 16 => ⟨S1x1536, .i32⟩
  | 17 => ⟨S_, .i32⟩
  | 18 => ⟨S_, .i32⟩
  | 19 => ⟨S1x1536, .i32⟩
  | 20 => ⟨S1x1536, .i32⟩
  | 21 => ⟨S1x1536, .i32⟩
  | 22 => ⟨S_, .i32⟩
  | 23 => ⟨S1x1536, .i32⟩
  | 24 => ⟨S1x1536, .i1⟩
  | 25 => ⟨S1x1536, .i32⟩
  | 26 => ⟨S1x1536, .i32⟩
  | 27 => ⟨S_, .i32⟩
  | 28 => ⟨S1x1536, .i32⟩
  | 29 => ⟨S1x1536, .i1⟩
  | 30 => ⟨S1x1536, .i1⟩
  | 31 => ⟨S_, .i32⟩
  | 32 => ⟨S1x1536, .i32⟩
  | 33 => ⟨S1x1536, .i32⟩
  | 34 => ⟨S1x1536, .i32⟩
  | 35 => ⟨S128x1536, .i32⟩
  | 36 => ⟨S128x1536, .i32⟩
  | 37 => ⟨S128x1536, .i1⟩
  | 38 => ⟨S128x1536, .i1⟩
  | 39 => ⟨S_, .i32⟩
  | 40 => ⟨S128x1, .i32⟩
  | 41 => ⟨S128x1, .i1⟩
  | 42 => ⟨S128x1536, .i1⟩
  | 43 => ⟨S128x1536, .i1⟩
  | 44 => ⟨S128x1536, .bf16⟩
  | 45 => ⟨S65536x512, .bf16⟩
  | 46 => ⟨S65536x1024, .bf16⟩
  | 47 => ⟨S65536x1024, .bf16⟩
  | 48 => ⟨S65536x1024, .bf16⟩
  | 49 => ⟨S65536x512, .bf16⟩
  | 50 => ⟨S65536x128, .f32⟩
  | 51 => ⟨S256x4x128x256, .bf16⟩
  | 52 => ⟨S65536x512, .bf16⟩
  | 53 => ⟨S65536x512, .bf16⟩
  | 54 => ⟨S65536x512, .bf16⟩
  | 55 => ⟨S16384x2048, .bf16⟩
  | 56 => ⟨S16384x2048, .bf16⟩
  | 57 => ⟨S16384x2048, .bf16⟩
  | 58 => ⟨S4096x8192, .bf16⟩
  | 59 => ⟨S4096x8192, .bf16⟩
  | 60 => ⟨S4096x8192, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6272, .bf16⟩
  | .local _ .vmem, ⟨4, _⟩ => ⟨S256x256, .bf16⟩
  | .local _ .vmem, ⟨5, _⟩ => ⟨S1x512, .f32⟩
  | .local _ .vmem, ⟨6, _⟩ => ⟨S1x512, .f32⟩
  | .local _ .vmem, ⟨7, _⟩ => ⟨S4x1024, .f32⟩
  | .local _ .vmem, ⟨8, _⟩ => ⟨S1x1024, .f32⟩
  | .local _ .vmem, ⟨9, _⟩ => ⟨S1x128, .f32⟩
  | .local _ .vmem, ⟨10, _⟩ => ⟨S256x256, .bf16⟩
  | .local _ .vmem, ⟨11, _⟩ => ⟨S512x512, .bf16⟩
  | .local _ .vmem, ⟨12, _⟩ => ⟨S512x512, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x512, .bf16⟩
  | .local _ .vmem, ⟨20, _⟩ => ⟨S512x512, .bf16⟩
  | .local _ .vmem, ⟨21, _⟩ => ⟨S512x128, .f32⟩
  | .local _ .vmem, ⟨22, _⟩ => ⟨S512x128, .f32⟩
  | .local _ .vmem, ⟨23, _⟩ => ⟨S2x4x128x256, .bf16⟩
  | .local _ .vmem, ⟨24, _⟩ => ⟨S2x4x128x256, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S128x2048, .bf16⟩
  | .local _ .vmem, ⟨32, _⟩ => ⟨S128x2048, .bf16⟩
  | .local _ .vmem, ⟨33, _⟩ => ⟨S128x2048, .bf16⟩
  | .local _ .vmem, ⟨34, _⟩ => ⟨S128x2048, .bf16⟩
  | .local _ .vmem, ⟨35, _⟩ => ⟨S128x2048, .bf16⟩
  | .local _ .vmem, ⟨36, _⟩ => ⟨S128x2048, .bf16⟩
  | .local _ .vmem, ⟨37, _⟩ => ⟨S32x8192, .bf16⟩
  | .local _ .vmem, ⟨38, _⟩ => ⟨S32x8192, .bf16⟩
  | .local _ .vmem, ⟨39, _⟩ => ⟨S32x8192, .bf16⟩
  | .local _ .vmem, ⟨40, _⟩ => ⟨S32x8192, .bf16⟩
  | .local _ .vmem, ⟨41, _⟩ => ⟨S32x8192, .bf16⟩
  | .local _ .vmem, ⟨42, _⟩ => ⟨S32x8192, .bf16⟩
  | .local _ .vmem, ⟨43, _⟩ => ⟨S3x4x512x128, .f32⟩
  | .local _ .vmem, ⟨44, _⟩ => ⟨S3x16x128x128, .f32⟩
  | .local _ .vmem, ⟨45, _⟩ => ⟨S520x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_1 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v20 : Ref sig .tc := ⟨.hbm, 79, rfl⟩
abbrev main_c_2 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_c_3 : Ref sig .tc := ⟨.hbm, 101, rfl⟩
abbrev main_call4_v0 : Ref sig .tc := ⟨.hbm, 102, rfl⟩
abbrev main_call4_c : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_c_1 : Ref sig .tc := ⟨.hbm, 109, rfl⟩
abbrev main_call4_v5 : Ref sig .tc := ⟨.hbm, 110, rfl⟩
abbrev main_call4_v6 : Ref sig .tc := ⟨.hbm, 111, rfl⟩
abbrev main_call4_c_2 : Ref sig .tc := ⟨.hbm, 112, rfl⟩
abbrev main_call4_v7 : Ref sig .tc := ⟨.hbm, 113, rfl⟩
abbrev main_call4_v8 : Ref sig .tc := ⟨.hbm, 114, rfl⟩
abbrev main_call4_c_3 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_v25 : Ref sig .tc := ⟨.hbm, 122, rfl⟩
abbrev main_c_4 : Ref sig .tc := ⟨.hbm, 123, rfl⟩
abbrev main_call5_v0 : Ref sig .tc := ⟨.hbm, 124, rfl⟩
abbrev main_call5_c : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_c_1 : Ref sig .tc := ⟨.hbm, 131, rfl⟩
abbrev main_call5_v5 : Ref sig .tc := ⟨.hbm, 132, rfl⟩
abbrev main_call5_v6 : Ref sig .tc := ⟨.hbm, 133, rfl⟩
abbrev main_call5_c_2 : Ref sig .tc := ⟨.hbm, 134, rfl⟩
abbrev main_call5_v7 : Ref sig .tc := ⟨.hbm, 135, rfl⟩
abbrev main_call5_v8 : Ref sig .tc := ⟨.hbm, 136, rfl⟩
abbrev main_call5_c_3 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_v26 : Ref sig .tc := ⟨.hbm, 144, rfl⟩
abbrev main_c_5 : Ref sig .tc := ⟨.hbm, 145, rfl⟩
abbrev main_call6_v0 : Ref sig .tc := ⟨.hbm, 146, rfl⟩
abbrev main_call6_v1 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_v6 : Ref sig .tc := ⟨.hbm, 152, rfl⟩
abbrev main_call6_v7 : Ref sig .tc := ⟨.hbm, 153, rfl⟩
abbrev main_call6_v8 : Ref sig .tc := ⟨.hbm, 154, rfl⟩
abbrev main_call6_c : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_c_0 : Ref sig .tc := ⟨.hbm, 159, rfl⟩
abbrev main_call6_v12 : Ref sig .tc := ⟨.hbm, 160, rfl⟩
abbrev main_call6_v13 : Ref sig .tc := ⟨.hbm, 161, rfl⟩
abbrev main_v27 : Ref sig .tc := ⟨.hbm, 162, rfl⟩
abbrev main_v28 : Ref sig .tc := ⟨.hbm, 163, rfl⟩
abbrev main_v29 : Ref sig .tc := ⟨.hbm, 164, rfl⟩
abbrev main_v30 : Ref sig .tc := ⟨.hbm, 165, rfl⟩
abbrev main_v31 : Ref sig .tc := ⟨.hbm, 166, rfl⟩
abbrev main_c_6 : Ref sig .tc := ⟨.hbm, 167, rfl⟩
abbrev main_v32 : Ref sig .tc := ⟨.hbm, 168, rfl⟩
abbrev main_v33 : Ref sig .tc := ⟨.hbm, 169, rfl⟩
abbrev main_v34 : Ref sig .tc := ⟨.hbm, 170, rfl⟩
abbrev main_v35 : Ref sig .tc := ⟨.hbm, 171, rfl⟩
abbrev main_v36 : Ref sig .tc := ⟨.hbm, 172, rfl⟩
abbrev main_v37_0 : Ref sig .tc := ⟨.hbm, 173, rfl⟩
abbrev main_v37_1 : Ref sig .tc := ⟨.hbm, 174, rfl⟩
abbrev main_v37_2 : Ref sig .tc := ⟨.hbm, 175, rfl⟩
abbrev main_v37_3 : Ref sig .tc := ⟨.hbm, 176, rfl⟩
abbrev main_v37_4 : Ref sig .tc := ⟨.hbm, 177, rfl⟩
abbrev main_v37_5 : Ref sig .tc := ⟨.hbm, 178, rfl⟩
abbrev main_v37_6 : Ref sig .tc := ⟨.hbm, 179, rfl⟩
abbrev main_v37_7 : Ref sig .tc := ⟨.hbm, 180, rfl⟩
abbrev main_v37_8 : Ref sig .tc := ⟨.hbm, 181, rfl⟩
abbrev main_v37_9 : Ref sig .tc := ⟨.hbm, 182, rfl⟩
abbrev main_v37_10 : Ref sig .tc := ⟨.hbm, 183, rfl⟩
abbrev main_v37_11 : Ref sig .tc := ⟨.hbm, 184, rfl⟩
abbrev main_v37_12 : Ref sig .tc := ⟨.hbm, 185, rfl⟩
abbrev main_v37_13 : Ref sig .tc := ⟨.hbm, 186, rfl⟩
abbrev main_v37_14 : Ref sig .tc := ⟨.hbm, 187, rfl⟩
abbrev main_v37_15 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x8192 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x8192 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x8192 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference4Ideal.lean ====
abbrev S65536x1024 : Shape := ⟨2, ![65536, 1024]⟩
abbrev S1x1024 : Shape := ⟨2, ![1, 1024]⟩
abbrev S1024x6272 : Shape := ⟨2, ![1024, 6272]⟩
abbrev S1x512 : Shape := ⟨2, ![1, 512]⟩
abbrev S4x1024 : Shape := ⟨2, ![4, 1024]⟩
abbrev S1x128 : Shape := ⟨2, ![1, 128]⟩
abbrev S_ : Shape := ⟨0, ![]⟩
abbrev S65536 : Shape := ⟨1, ![65536]⟩
abbrev S65536x1 : Shape := ⟨2, ![65536, 1]⟩
abbrev S65536x6272 : Shape := ⟨2, ![65536, 6272]⟩
abbrev S65536x512 : Shape := ⟨2, ![65536, 512]⟩
abbrev S65536x128 : Shape := ⟨2, ![65536, 128]⟩
abbrev S65536x8x64 : Shape := ⟨3, ![65536, 8, 64]⟩
abbrev S1x8x64 : Shape := ⟨3, ![1, 8, 64]⟩
abbrev S65536x8 : Shape := ⟨2, ![65536, 8]⟩
abbrev S65536x8x1 : Shape := ⟨3, ![65536, 8, 1]⟩
abbrev S16384x2048 : Shape := ⟨2, ![16384, 2048]⟩
abbrev S4096x8192 : Shape := ⟨2, ![4096, 8192]⟩

abbrev nBuf : Space → Nat
  | .hbm => 90
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1024x6272, .bf16⟩
  | .hbm, ⟨3, _⟩ => ⟨S1x512, .f32⟩
  | .hbm, ⟨4, _⟩ => ⟨S1x512, .f32⟩
  | .hbm, ⟨5, _⟩ => ⟨S4x1024, .f32⟩
  | .hbm, ⟨6, _⟩ => ⟨S1x1024, .f32⟩
  | .hbm, ⟨7, _⟩ => ⟨S1x128, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S1024x6272, .f32⟩
  | .hbm, ⟨24, _⟩ => ⟨S65536x6272, .f32⟩
  | .hbm, ⟨25, _⟩ => ⟨S65536x512, .f32⟩
  | .hbm, ⟨26, _⟩ => ⟨S65536x512, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x128, .f32⟩
  | .hbm, ⟨35, _⟩ => ⟨S65536x8x64, .f32⟩
  | .hbm, ⟨36, _⟩ => ⟨S1x8x64, .f32⟩
  | .hbm, ⟨37, _⟩ => ⟨S65536x8x64, .f32⟩
  | .hbm, ⟨38, _⟩ => ⟨S_, .f32⟩
  | .hbm, ⟨39, _⟩ => ⟨S65536x8, .f32⟩
  | .hbm, ⟨40, _⟩ => ⟨S65536x8x1, .f32⟩
  | .hbm, ⟨41, _⟩ => ⟨S_, .f32⟩
  | .hbm, ⟨42, _⟩ => ⟨S65536x8x1, .f32⟩
  | .hbm, ⟨43, _⟩ => ⟨S65536x8x1, .f32⟩
  | .hbm, ⟨44, _⟩ => ⟨S_, .f32⟩
  | .hbm, ⟨45, _⟩ => ⟨S65536x8x1, .f32⟩
  | .hbm, ⟨46, _⟩ => ⟨S65536x8x1, .f32⟩
  | .hbm, ⟨47, _⟩ => ⟨S65536x8x1, .f32⟩
  | .hbm, ⟨48, _⟩ => ⟨S65536x8x64, .f32⟩
  | .hbm, ⟨49, _⟩ => ⟨S65536x8x64, .f32⟩
  | .hbm, ⟨50, _⟩ => ⟨S65536x8x64, .f32⟩
  | .hbm, ⟨51, _⟩ => ⟨S65536x8x64, .f32⟩
  | .hbm, ⟨52, _⟩ => ⟨S65536x512, .f32⟩
  | .hbm, ⟨53, _⟩ => ⟨S65536x8x64, .f32⟩
  | .hbm, ⟨54, _⟩ => ⟨S1x8x64, .f32⟩
  | .hbm, ⟨55, _⟩ => ⟨S65536x8x64, .f32⟩
  | .hbm, ⟨56, _⟩ => ⟨S_, .f32⟩
  | .hbm, ⟨57, _⟩ => ⟨S65536x8, .f32⟩
  | .hbm, ⟨58, _⟩ => ⟨S65536x8x1, .f32⟩
  | .hbm, ⟨59, _⟩ => ⟨S_, .f32⟩
  | .hbm, ⟨60, _⟩ => ⟨S65536x8x1, .f32⟩
  | .hbm, ⟨61, _⟩ => ⟨S65536x8x1, .f32⟩
  | .hbm, ⟨62, _⟩ => ⟨S_, .f32⟩
  | .hbm, ⟨63, _⟩ => ⟨S65536x8x1, .f32⟩
  | .hbm, ⟨64, _⟩ => ⟨S65536x8x1, .f32⟩
  | .hbm, ⟨65, _⟩ => ⟨S65536x8x1, .f32⟩
  | .hbm, ⟨66, _⟩ => ⟨S65536x8x64, .f32⟩
  | .hbm, ⟨67, _⟩ => ⟨S65536x8x64, .f32⟩
  | .hbm, ⟨68, _⟩ => ⟨S65536x8x64, .f32⟩
  | .hbm, ⟨69, _⟩ => ⟨S65536x8x64, .f32⟩
  | .hbm, ⟨70, _⟩ => ⟨S65536x512, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S4096x8192, .f32⟩
  | .hbm, ⟨75, _⟩ => ⟨S4096x8192, .f32⟩
  | .hbm, ⟨76, _⟩ => ⟨S4096x8192, .f32⟩
  | .hbm, ⟨77, _⟩ => ⟨S65536x1024, .bf16⟩
  | .hbm, ⟨78, _⟩ => ⟨S65536x1024, .bf16⟩
  | .hbm, ⟨79, _⟩ => ⟨S65536x1024, .bf16⟩
  | .hbm, ⟨80, _⟩ => ⟨S65536x512, .bf16⟩
  | .hbm, ⟨81, _⟩ => ⟨S65536x512, .bf16⟩
  | .hbm, ⟨82, _⟩ => ⟨S65536x512, .bf16⟩
  | .hbm, ⟨83, _⟩ => ⟨S65536x512, .bf16⟩
  | .hbm, ⟨84, _⟩ => ⟨S16384x2048, .bf16⟩
  | .hbm, ⟨85, _⟩ => ⟨S16384x2048, .bf16⟩
  | .hbm, ⟨86, _⟩ => ⟨S16384x2048, .bf16⟩
  | .hbm, ⟨87, _⟩ => ⟨S4096x8192, .bf16⟩
  | .hbm, ⟨88, _⟩ => ⟨S4096x8192, .bf16⟩
  | .hbm, ⟨89, _⟩ => ⟨S4096x8192, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel5.lean ====
abbrev S65536x1024 : Shape := ⟨2, ![65536, 1024]⟩
abbrev S65536x512 : Shape := ⟨2, ![65536, 512]⟩
abbrev S16384x2048 : Shape := ⟨2, ![16384, 2048]⟩
abbrev S4096x8192 : Shape := ⟨2, ![4096, 8192]⟩
abbrev S65536x128 : Shape := ⟨2, ![65536, 128]⟩
abbrev S16384x512 : Shape := ⟨2, ![16384, 512]⟩
abbrev S4096x2048 : Shape := ⟨2, ![4096, 2048]⟩
abbrev S1536x1024 : Shape := ⟨2, ![1536, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S128 : Shape := ⟨1, ![128]⟩
abbrev S128x1 : Shape := ⟨2, ![128, 1]⟩
abbrev S1536 : Shape := ⟨1, ![1536]⟩
abbrev S1x1536 : Shape := ⟨2, ![1, 1536]⟩
abbrev S128x1536 : Shape := ⟨2, ![128, 1536]⟩
abbrev S1024x1024 : Shape := ⟨2, ![1024, 1024]⟩
abbrev S1024x512 : Shape := ⟨2, ![1024, 512]⟩
abbrev S256x2048 : Shape := ⟨2, ![256, 2048]⟩
abbrev S64x8192 : Shape := ⟨2, ![64, 8192]⟩
abbrev S1024x128 : Shape := ⟨2, ![1024, 128]⟩
abbrev S256x512 : Shape := ⟨2, ![256, 512]⟩
abbrev S64x2048 : Shape := ⟨2, ![64, 2048]⟩
abbrev S4x1024x128 : Shape := ⟨3, ![4, 1024, 128]⟩
abbrev S256x128 : Shape := ⟨2, ![256, 128]⟩
abbrev S1x256x128 : Shape := ⟨3, ![1, 256, 128]⟩
abbrev S64x128 : Shape := ⟨2, ![64, 128]⟩
abbrev S1x64x128 : Shape := ⟨3, ![1, 64, 128]⟩
abbrev S1024x1536 : Shape := ⟨2, ![1024, 1536]⟩
abbrev S1x1024x128 : Shape := ⟨3, ![1, 1024, 128]⟩
abbrev S512x1024 : Shape := ⟨2, ![512, 1024]⟩

abbrev nBuf : Space → Nat
  | .hbm => 176
  | .vmem => 27
  | .smem => 0
  | _ => 0

abbrev hbmTy0_0 (i : Nat) : BufTy := match i % 128 with
  | 0 => ⟨S65536x1024, .f32⟩
  | 1 => ⟨S65536x1024, .bf16⟩
  | 2 => ⟨S65536x512, .bf16⟩
  | 3 => ⟨S16384x2048, .bf16⟩
  | 4 => ⟨S4096x8192, .bf16⟩
  | 5 => ⟨S65536x128, .f32⟩
  | 6 => ⟨S16384x512, .f32⟩
  | 7 => ⟨S4096x2048, .f32⟩
  | 8 => ⟨S65536x512, .bf16⟩
  | 9 => ⟨S1536x1024, .bf16⟩
  | 10 => ⟨S256, .i32⟩
  | 11 => ⟨S256x1, .i32⟩
  | 12 => ⟨S_, .i32⟩
  | 13 => ⟨S_, .i32⟩
  | 14 => ⟨S256x1, .i32⟩
  | 15 => ⟨S256x1, .i32⟩
  | 16 => ⟨S256x1, .i32⟩
  | 17 => ⟨S_, .i32⟩
  | 18 => ⟨S256x1, .i32⟩
  | 19 => ⟨S256x1, .i1⟩
  | 20 => ⟨S256x1, .i32⟩
  | 21 => ⟨S256x1, .i32⟩
  | 22 => ⟨S_, .i32⟩
  | 23 => ⟨S256x1, .i32⟩
  | 24 => ⟨S256x1, .i1⟩
  | 25 => ⟨S256x1, .i1⟩
  | 26 => ⟨S_, .i32⟩
  | 27 => ⟨S256x1, .i32⟩
  | 28 => ⟨S256x1, .i32⟩
  | 29 => ⟨S256x1, .i32⟩
  | 30 => ⟨S1x256, .i32⟩
  | 31 => ⟨S_, .i32⟩
  | 32 => ⟨S_, .i32⟩
  | 33 => ⟨S1x256, .i32⟩
  | 34 => ⟨S1x256, .i32⟩
  | 35 => ⟨S1x256, .i32⟩
  | 36 => ⟨S_, .i32⟩
  | 37 => ⟨S1x256, .i32⟩
  | 38 => ⟨S1x256, .i1⟩
  | 39 => ⟨S1x256, .i32⟩
  | 40 => ⟨S1x256, .i32⟩
  | 41 => ⟨S_, .i32⟩
  | 42 => ⟨S1x256, .i32⟩
  | 43 => ⟨S1x256, .i1⟩
  | 44 => ⟨S1x256, .i1⟩
  | 45 => ⟨S_, .i32⟩
  | 46 => ⟨S1x256, .i32⟩
  | 47 => ⟨S1x256, .i32⟩
  | 48 => ⟨S1x256, .i32⟩
  | 49 => ⟨S256x256, .i32⟩
  | 50 => ⟨S256x256, .i32⟩
  | 51 => ⟨S256x256, .i1⟩
  | 52 => ⟨S256x256, .bf16⟩
  | 53 => ⟨S256, .i32⟩
  | 54 => ⟨S1x256, .i32⟩
  | 55 => ⟨S256x1, .i32⟩
  | 56 => ⟨S256x256, .i32⟩
  | 57 => ⟨S256x256, .i32⟩
  | 58 => ⟨S256x256, .i1⟩
  | 59 => ⟨S256x256, .bf16⟩
  | 60 => ⟨S128, .i32⟩
  | 61 => ⟨S128x1, .i32⟩
  | 62 => ⟨S1536, .i32⟩
  | 63 => ⟨S1x1536, .i32⟩
  | 64 => ⟨S_, .i32⟩
  | 65 => ⟨S_, .i32⟩
  | 66 => ⟨S128x1, .i32⟩
  | 67 => ⟨S128x1, .i32⟩
  | 68 => ⟨S128x1, .i32⟩
  | 69 => ⟨S_, .i32⟩
  | 70 => ⟨S128x1, .i32⟩
  | 71 => ⟨S128x1, .i1⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i1⟩
  | 78 => ⟨S_, .i32⟩
  | 79 => ⟨S128x1, .i32⟩
  | 80 => ⟨S128x1, .i32⟩
  | 81 => ⟨S128x1, .i32⟩
  | 82 => ⟨S_, .i32⟩
  | 83 => ⟨S_, .i32⟩
  | 84 => ⟨S1x1536, .i32⟩
  | 85 => ⟨S1x1536, .i32⟩
  | 86 => ⟨S1x1536, .i32⟩
  | 87 => ⟨S_, .i32⟩
  | 88 => ⟨S1x1536, .i32⟩
  | 89 => ⟨S1x1536, .i1⟩
  | 90 => ⟨S1x1536, .i32⟩
  | 91 => ⟨S1x1536, .i32⟩
  | 92 => ⟨S_, .i32⟩
  | 93 => ⟨S1x1536, .i32⟩
  | 94 => ⟨S1x1536, .i1⟩
  | 95 => ⟨S1x1536, .i1⟩
  | 96 => ⟨S_, .i32⟩
  | 97 => ⟨S1x1536, .i32⟩
  | 98 => ⟨S1x1536, .i32⟩
  | 99 => ⟨S1x1536, .i32⟩
  | 100 => ⟨S128x1536, .i32⟩
  | 101 => ⟨S128x1536, .i32⟩
  | 102 => ⟨S128x1536, .i1⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S128x1, .i32⟩
  | 110 => ⟨S128x1, .i32⟩
  | 111 => ⟨S_, .i32⟩
  | 112 => ⟨S128x1, .i32⟩
  | 113 => ⟨S128x1, .i1⟩
  | 114 => ⟨S_, .i32⟩
  | 115 => ⟨S128x1, .i32⟩
  | 116 => ⟨S128x1, .i1⟩
  | 117 => ⟨S_, .i32⟩
  | 118 => ⟨S_, .i1⟩
  | 119 => ⟨S128x1, .i1⟩
  | 120 => ⟨S128x1, .i1⟩
  | 121 => ⟨S128x1, .i1⟩
  | 122 => ⟨S128x1, .i32⟩
  | 123 => ⟨S128x1, .i32⟩
  | 124 => ⟨S128x1, .i32⟩
  | 125 => ⟨S_, .i32⟩
  | 126 => ⟨S_, .i32⟩
  | 127 => ⟨S_, .i32⟩
  | _ => ⟨S65536x1024, .f32⟩

abbrev hbmTy0_1 (i : Nat) : BufTy := match i % 128 with
  | 0 => ⟨S_, .i1⟩
  | 1 => ⟨S_, .i32⟩
  | 2 => ⟨S_, .i32⟩
  | 3 => ⟨S1x1536, .i32⟩
  | 4 => ⟨S1x1536, .i32⟩
  | 5 => ⟨S_, .i32⟩
  | 6 => ⟨S1x1536, .i32⟩
  | 7 => ⟨S1x1536, .i1⟩
  | 8 => ⟨S_, .i32⟩
  | 9 => ⟨S1x1536, .i32⟩
  | 10 => ⟨S1x1536, .i1⟩
  | 11 => ⟨S_, .i32⟩
  | 12 => ⟨S_, .i1⟩
  | 13 => ⟨S1x1536, .i1⟩
  | 14 => ⟨S1x1536, .i1⟩
  | 15 => ⟨S1x1536, .i1⟩
  | 16 => ⟨S1x1536, .i32⟩
  | 17 => ⟨S1x1536, .i32⟩
  | 18 => ⟨S1x1536, .i32⟩
  | 19 => ⟨S_, .i32⟩
  | 20 => ⟨S_, .i32⟩
  | 21 => ⟨S1x1536, .i32⟩
  | 22 => ⟨S1x1536, .i32⟩
  | 23 => ⟨S1x1536, .i32⟩
  | 24 => ⟨S_, .i32⟩
  | 25 => ⟨S1x1536, .i32⟩
  | 26 => ⟨S1x1536, .i1⟩
  | 27 => ⟨S1x1536, .i32⟩
  | 28 => ⟨S1x1536, .i32⟩
  | 29 => ⟨S_, .i32⟩
  | 30 => ⟨S1x1536, .i32⟩
  | 31 => ⟨S1x1536, .i1⟩
  | 32 => ⟨S1x1536, .i1⟩
  | 33 => ⟨S_, .i32⟩
  | 34 => ⟨S1x1536, .i32⟩
  | 35 => ⟨S1x1536, .i32⟩
  | 36 => ⟨S1x1536, .i32⟩
  | 37 => ⟨S128x1536, .i32⟩
  | 38 => ⟨S128x1536, .i32⟩
  | 39 => ⟨S128x1536, .i1⟩
  | 40 => ⟨S128x1536, .i1⟩
  | 41 => ⟨S_, .i32⟩
  | 42 => ⟨S128x1, .i32⟩
  | 43 => ⟨S128x1, .i1⟩
  | 44 => ⟨S128x1536, .i1⟩
  | 45 => ⟨S128x1536, .i1⟩
  | 46 => ⟨S128x1536, .bf16⟩
  | 47 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S256x2048, .bf16⟩
  | .local _ .vmem, ⟨7, _⟩ => ⟨S256x2048, .bf16⟩
  | .local _ .vmem, ⟨8, _⟩ => ⟨S64x8192, .bf16⟩
  | .local _ .vmem, ⟨9, _⟩ => ⟨S64x8192, .bf16⟩
  | .local _ .vmem, ⟨10, _⟩ => ⟨S1024x128, .f32⟩
  | .local _ .vmem, ⟨11, _⟩ => ⟨S1024x128, .f32⟩
  | .local _ .vmem, ⟨12, _⟩ => ⟨S256x512, .f32⟩
  | .local _ .vmem, ⟨13, _⟩ => ⟨S256x512, .f32⟩
  | .local _ .vmem, ⟨14, _⟩ => ⟨S64x2048, .f32⟩
  | .local _ .vmem, ⟨15, _⟩ => ⟨S64x2048, .f32⟩
  | .local _ .vmem, ⟨16, _⟩ => ⟨S1024x512, .bf16⟩
  | .local _ .vmem, ⟨17, _⟩ => ⟨S1024x512, .bf16⟩
  | .local _ .vmem, ⟨18, _⟩ => ⟨S1536x1024, .bf16⟩
  | .local _ .vmem, ⟨19, _⟩ => ⟨S128x1536, .bf16⟩
  | .local _ .vmem, ⟨20, _⟩ => ⟨S1024x1024, .f32⟩
  | .local _ .vmem, ⟨21, _⟩ => ⟨S1024x1024, .f32⟩
  | .local _ .vmem, ⟨22, _⟩ => ⟨S4x1024x128, .f32⟩
  | .local _ .vmem, ⟨23, _⟩ => ⟨S4x1024x128, .f32⟩
  | .local _ .vmem, ⟨24, _⟩ => ⟨S1024x128, .f32⟩
  | .local _ .vmem, ⟨25, _⟩ => ⟨S1024x128, .f32⟩
  | .local _ .vmem, ⟨26, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_c_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v20 : Ref sig .tc := ⟨.hbm, 81, rfl⟩
abbrev main_c_2 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_c : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_0 : Ref sig .tc := ⟨.hbm, 96, rfl⟩
abbrev main_call3_v12 : Ref sig .tc := ⟨.hbm, 97, rfl⟩
abbrev main_call3_v13 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_c_3 : Ref sig .tc := ⟨.hbm, 103, rfl⟩
abbrev main_call4_v0 : Ref sig .tc := ⟨.hbm, 104, rfl⟩
abbrev main_call4_c : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_c_1 : Ref sig .tc := ⟨.hbm, 111, rfl⟩
abbrev main_call4_v5 : Ref sig .tc := ⟨.hbm, 112, rfl⟩
abbrev main_call4_v6 : Ref sig .tc := ⟨.hbm, 113, rfl⟩
abbrev main_call4_c_2 : Ref sig .tc := ⟨.hbm, 114, rfl⟩
abbrev main_call4_v7 : Ref sig .tc := ⟨.hbm, 115, rfl⟩
abbrev main_call4_v8 : Ref sig .tc := ⟨.hbm, 116, rfl⟩
abbrev main_call4_c_3 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_v25 : Ref sig .tc := ⟨.hbm, 124, rfl⟩
abbrev main_c_4 : Ref sig .tc := ⟨.hbm, 125, rfl⟩
abbrev main_call5_v0 : Ref sig .tc := ⟨.hbm, 126, rfl⟩
abbrev main_call5_c : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_c_1 : Ref sig .tc := ⟨.hbm, 133, rfl⟩
abbrev main_call5_v5 : Ref sig .tc := ⟨.hbm, 134, rfl⟩
abbrev main_call5_v6 : Ref sig .tc := ⟨.hbm, 135, rfl⟩
abbrev main_call5_c_2 : Ref sig .tc := ⟨.hbm, 136, rfl⟩
abbrev main_call5_v7 : Ref sig .tc := ⟨.hbm, 137, rfl⟩
abbrev main_call5_v8 : Ref sig .tc := ⟨.hbm, 138, rfl⟩
abbrev main_call5_c_3 : Ref sig .tc := ⟨.hbm, 139, rfl⟩
abbrev main_call5_v9 : Ref sig .tc := ⟨.hbm, 140, rfl⟩
abbrev main_call5_v10 : Ref sig .tc := ⟨.hbm, 141, rfl⟩
abbrev main_call5_v11 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_v26 : Ref sig .tc := ⟨.hbm, 146, rfl⟩
abbrev main_c_5 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_v8 : Ref sig .tc := ⟨.hbm, 156, rfl⟩
abbrev main_call6_c : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_0 : Ref sig .tc := ⟨.hbm, 161, rfl⟩
abbrev main_call6_v12 : Ref sig .tc := ⟨.hbm, 162, rfl⟩
abbrev main_call6_v13 : Ref sig .tc := ⟨.hbm, 163, rfl⟩
abbrev main_v27 : Ref sig .tc := ⟨.hbm, 164, rfl⟩
abbrev main_v28 : Ref sig .tc := ⟨.hbm, 165, rfl⟩
abbrev main_v29 : Ref sig .tc := ⟨.hbm, 166, rfl⟩
abbrev main_v30 : Ref sig .tc := ⟨.hbm, 167, rfl⟩
abbrev main_v31 : Ref sig .tc := ⟨.hbm, 168, rfl⟩
abbrev main_c_6 : Ref sig .tc := ⟨.hbm, 169, rfl⟩
abbrev main_v32 : Ref sig .tc := ⟨.hbm, 170, rfl⟩
abbrev main_v33 : Ref sig .tc := ⟨.hbm, 171, rfl⟩
abbrev main_v34 : Ref sig .tc := ⟨.hbm, 172, rfl⟩
abbrev main_v35 : Ref sig .tc := ⟨.hbm, 173, rfl⟩
abbrev main_v36 : Ref sig .tc := ⟨.hbm, 174, rfl⟩
abbrev main_v37 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel5Ideal.lean ====
variable {F : FTy → Type} [FloatOps F] [Named F]
def κ : String → Option EReal := fun
  | "minus_log2e" => some ((-((Real.log 2)⁻¹) : ℝ) : EReal)
  | _ => none
-- ==== Reference5Ideal.lean ====
abbrev S65536x1024 : Shape := ⟨2, ![65536, 1024]⟩
abbrev S65536x512 : Shape := ⟨2, ![65536, 512]⟩
abbrev S16384x2048 : Shape := ⟨2, ![16384, 2048]⟩
abbrev S4096x8192 : Shape := ⟨2, ![4096, 8192]⟩
abbrev S65536x128 : Shape := ⟨2, ![65536, 128]⟩
abbrev S16384x512 : Shape := ⟨2, ![16384, 512]⟩
abbrev S4096x2048 : Shape := ⟨2, ![4096, 2048]⟩
abbrev S1536x1024 : Shape := ⟨2, ![1536, 1024]⟩
abbrev S65536x8x64 : Shape := ⟨3, ![65536, 8, 64]⟩
abbrev S1x65536x8x64 : Shape := ⟨4, ![1, 65536, 8, 64]⟩
abbrev S3x65536x8x64 : Shape := ⟨4, ![3, 65536, 8, 64]⟩
abbrev S65536x8 : Shape := ⟨2, ![65536, 8]⟩
abbrev S1x65536x8 : Shape := ⟨3, ![1, 65536, 8]⟩
abbrev S3x65536x8 : Shape := ⟨3, ![3, 65536, 8]⟩
abbrev S_ : Shape := ⟨0, ![]⟩
abbrev S3x65536x8x1 : Shape := ⟨4, ![3, 65536, 8, 1]⟩
abbrev S65536x1536 : Shape := ⟨2, ![65536, 1536]⟩

abbrev nBuf : Space → Nat
  | .hbm => 65
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x512, .bf16⟩
  | .hbm, ⟨3, _⟩ => ⟨S16384x2048, .bf16⟩
  | .hbm, ⟨4, _⟩ => ⟨S4096x8192, .bf16⟩
  | .hbm, ⟨5, _⟩ => ⟨S65536x128, .f32⟩
  | .hbm, ⟨6, _⟩ => ⟨S16384x512, .f32⟩
  | .hbm, ⟨7, _⟩ => ⟨S4096x2048, .f32⟩
  | .hbm, ⟨8, _⟩ => ⟨S65536x512, .bf16⟩
  | .hbm, ⟨9, _⟩ => ⟨S1536x1024, .bf16⟩
  | .hbm, ⟨10, _⟩ => ⟨S65536x512, .f32⟩
  | .hbm, ⟨11, _⟩ => ⟨S65536x8x64, .f32⟩
  | .hbm, ⟨12, _⟩ => ⟨S16384x2048, .f32⟩
  | .hbm, ⟨13, _⟩ => ⟨S65536x8x64, .f32⟩
  | .hbm, ⟨14, _⟩ => ⟨S4096x8192, .f32⟩
  | .hbm, ⟨15, _⟩ => ⟨S65536x8x64, .f32⟩
  | .hbm, ⟨16, _⟩ => ⟨S1x65536x8x64, .f32⟩
  | .hbm, ⟨17, _⟩ => ⟨S1x65536x8x64, .f32⟩
  | .hbm, ⟨18, _⟩ => ⟨S1x65536x8x64, .f32⟩
  | .hbm, ⟨19, _⟩ => ⟨S3x65536x8x64, .f32⟩
  | .hbm, ⟨20, _⟩ => ⟨S65536x8, .f32⟩
  | .hbm, ⟨21, _⟩ => ⟨S65536x128, .f32⟩
  | .hbm, ⟨22, _⟩ => ⟨S65536x8, .f32⟩
  | .hbm, ⟨23, _⟩ => ⟨S65536x128, .f32⟩
  | .hbm, ⟨24, _⟩ => ⟨S65536x8, .f32⟩
  | .hbm, ⟨25, _⟩ => ⟨S1x65536x8, .f32⟩
  | .hbm, ⟨26, _⟩ => ⟨S1x65536x8, .f32⟩
  | .hbm, ⟨27, _⟩ => ⟨S1x65536x8, .f32⟩
  | .hbm, ⟨28, _⟩ => ⟨S3x65536x8, .f32⟩
  | .hbm, ⟨29, _⟩ => ⟨S_, .f32⟩
  | .hbm, ⟨30, _⟩ => ⟨S65536x8, .f32⟩
  | .hbm, ⟨31, _⟩ => ⟨S_, .f32⟩
  | .hbm, ⟨32, _⟩ => ⟨S65536x8, .f32⟩
  | .hbm, ⟨33, _⟩ => ⟨S65536x8, .f32⟩
  | .hbm, ⟨34, _⟩ => ⟨S1x65536x8, .f32⟩
  | .hbm, ⟨35, _⟩ => ⟨S3x65536x8, .f32⟩
  | .hbm, ⟨36, _⟩ => ⟨S3x65536x8, .f32⟩
  | .hbm, ⟨37, _⟩ => ⟨S3x65536x8, .f32⟩
  | .hbm, ⟨38, _⟩ => ⟨S_, .f32⟩
  | .hbm, ⟨39, _⟩ => ⟨S65536x8, .f32⟩
  | .hbm, ⟨40, _⟩ => ⟨S1x65536x8, .f32⟩
  | .hbm, ⟨41, _⟩ => ⟨S3x65536x8, .f32⟩
  | .hbm, ⟨42, _⟩ => ⟨S3x65536x8, .f32⟩
  | .hbm, ⟨43, _⟩ => ⟨S3x65536x8x1, .f32⟩
  | .hbm, ⟨44, _⟩ => ⟨S3x65536x8x64, .f32⟩
  | .hbm, ⟨45, _⟩ => ⟨S3x65536x8x64, .f32⟩
  | .hbm, ⟨46, _⟩ => ⟨S_, .f32⟩
  | .hbm, ⟨47, _⟩ => ⟨S65536x8x64, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S_, .f32⟩
  | .hbm, ⟨53, _⟩ => ⟨S65536x512, .f32⟩
  | .hbm, ⟨54, _⟩ => ⟨S65536x512, .f32⟩
  | .hbm, ⟨55, _⟩ => ⟨S_, .f32⟩
  | .hbm, ⟨56, _⟩ => ⟨S65536x512, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S65536x1024, .f32⟩
  | .hbm, ⟨61, _⟩ => ⟨S65536x1536, .f32⟩
  | .hbm, ⟨62, _⟩ => ⟨S1536x1024, .f32⟩
  | .hbm, ⟨63, _⟩ => ⟨S65536x1024, .f32⟩
  | .hbm, ⟨64, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.Softmax.lean ====
module

public import Idealize.ShloMosaic.PureOps.Ideal.Laws
public import Idealize.ShloMosaic.Lib.Pointwise

@[expose] public section

set_option maxRecDepth 16384

noncomputable section

open Idealize.ShloMosaic

/-! # Masked softmax sums over the extended reals

One masked softmax is taken to base two over a small set of slots, another to base e over all positions.  A slot that
counts stands for one position; every other slot and position has the score minus infinity and the weight zero. -/

namespace Cert.Attn

variable {ι κ : Type} [Fintype ι] [Fintype κ]

/-- The natural logarithm of two, as an extended real. -/
abbrev ln2 : EReal := ((Real.log 2 : ℝ) : EReal)

theorem ln2_pos : 0 < Real.log 2 := Real.log_pos (by norm_num)

theorem add_mul_ln2 (x y : EReal) : (x + y) * ln2 = x * ln2 + y * ln2 :=
  EReal.right_distrib_of_nonneg_of_ne_top (EReal.coe_nonneg.2 ln2_pos.le) (EReal.coe_ne_top _) x y

theorem sub_mul_ln2 (x y : EReal) : (x - y) * ln2 = x * ln2 - y * ln2 := by
  rw [sub_eq_add_neg, add_mul_ln2, EReal.neg_mul, ← sub_eq_add_neg]

/-- A sum times `ln 2` is the sum of the terms times `ln 2`. -/
theorem sum_mul_ln2 (s : Finset ι) (f : ι → EReal) : (∑ i ∈ s, f i) * ln2 = ∑ i ∈ s, f i * ln2 := by
  classical
  induction s using Finset.induction_on with
  | empty => simp
  | insert a s ha ih => rw [Finset.sum_insert ha, Finset.sum_insert ha, add_mul_ln2, ih]

theorem bot_mul_ln2 : (⊥ : EReal) * ln2 = ⊥ := EReal.bot_mul_coe_of_pos ln2_pos

theorem top_mul_ln2 : (⊤ : EReal) * ln2 = ⊤ := EReal.top_mul_coe_of_pos ln2_pos

/-- Two to the power `x` is e to the power `x ln 2`. -/
theorem exp2_eq (x : EReal) : Ideal.exp2 x = Ideal.exp (x * ln2) := by
  induction x with
  | bot => rw [bot_mul_ln2]; rfl
  | top => rw [top_mul_ln2]; rfl
  | coe r =>
    rw [← EReal.coe_mul]
    show ((Real.rpow 2 r : ℝ) : EReal) = ((Real.exp (r * Real.log 2) : ℝ) : EReal)
    rw [mul_comm, ← Real.rpow_def_of_pos (by norm_num : (0 : ℝ) < 2)]; rfl

/-- A greatest element times `ln 2`. -/
theorem sup_mul_ln2 (s : Finset ι) (f : ι → EReal) : (s.sup f) * ln2 = s.sup fun i => f i * ln2 :=
  Finset.comp_sup_eq_sup_comp_of_is_total (fun x : EReal => x * ln2)
    (fun _ _ h => mul_le_mul_of_nonneg_right h (EReal.coe_nonneg.2 ln2_pos.le)) bot_mul_ln2

theorem exp_bot_sub (x : EReal) : Ideal.exp (⊥ - x) = 0 := by
  rw [EReal.bot_sub]; rfl

theorem exp2_bot_sub (x : EReal) : Ideal.exp2 (⊥ - x) = 0 := by
  rw [EReal.bot_sub]; rfl

/-- The two masked score families: slots `ι` to base two and positions `κ` to base e. -/
structure Scores (s : ι → EReal) (s' : κ → EReal) (A : Finset ι) (e : ι → κ) : Prop where
  inj : Set.InjOn e A
  off : ∀ i, i ∉ A → s i = ⊥
  off' : ∀ j, (∀ i ∈ A, e i ≠ j) → s' j = ⊥
  eq : ∀ i ∈ A, s' (e i) = s i * ln2

variable {s : ι → EReal} {s' : κ → EReal} {A : Finset ι} {e : ι → κ}

/-- The greatest position score is the greatest slot score times `ln 2`. -/
theorem Scores.sup_eq (h : Scores s s' A e) : Finset.univ.sup s' = Finset.univ.sup s * ln2 := by
  rw [sup_mul_ln2]
  apply le_antisymm
  · refine Finset.sup_le fun j _ => ?_
    by_cases hj : ∀ i ∈ A, e i ≠ j
    · rw [h.off' j hj]; exact bot_le
    · push Not at hj
      obtain ⟨i, hi, rfl⟩ := hj
      rw [h.eq i hi]
      exact Finset.le_sup (f := fun i => s i * ln2) (Finset.mem_univ i)
  · refine Finset.sup_le fun i _ => ?_
    by_cases hi : i ∈ A
    · rw [← h.eq i hi]; exact Finset.le_sup (Finset.mem_univ (e i))
    · rw [h.off i hi, bot_mul_ln2]; exact bot_le

/-- A weighted sum over the positions is the weighted sum over the slots. -/
theorem Scores.sum_eq (h : Scores s s' A e) (w : ι → EReal) (w' : κ → EReal) (hw : ∀ i ∈ A, w' (e i) = w i) :
    ∑ j, Ideal.exp (s' j - Finset.univ.sup s') * w' j = ∑ i, Ideal.exp2 (s i - Finset.univ.sup s) * w i := by
  rw [← Finset.sum_subset (Finset.subset_univ A) fun i _ hi => by rw [h.off i hi, exp2_bot_sub, zero_mul]]
  symm
  refine Finset.sum_of_injOn e h.inj (fun _ _ => Finset.mem_univ _) (fun j _ hj => ?_) fun i hi => ?_
  · rw [h.off' j fun i hi hij => hj ⟨i, hi, hij⟩, exp_bot_sub, zero_mul]
  · rw [h.eq i hi, hw i hi, h.sup_eq, ← sub_mul_ln2, ← exp2_eq]

/-- The sum of the weights themselves. -/
theorem Scores.den_eq (h : Scores s s' A e) :
    ∑ j, Ideal.exp (s' j - Finset.univ.sup s') = ∑ i, Ideal.exp2 (s i - Finset.univ.sup s) := by
  simpa using h.sum_eq (fun _ => 1) (fun _ => 1) fun _ _ => rfl

theorem fold_max_eq_sup (f : ι → EReal) : (Finset.univ.fold max ⊥ f : EReal) = Finset.univ.sup f := rfl

end Cert.Attn

end

end
-- ==== Proof.Core.lean ====
module

public import proofs.«01_k».proof.Proof.Softmax
public import Idealize.ShloMosaic.PureOps.Ideal.Laws
public import Idealize.ShloMosaic.Lib.Pointwise

@[expose] public section

set_option maxRecDepth 16384
set_option backward.proofsInPublic true

noncomputable section

open Idealize.ShloMosaic Idealize.ShloMosaic.TcCoe

/-! # What the reference attention computes

The reference's operations between its first reshape and its last, over vectors named by variables. -/

namespace Cert.Attn

abbrev S_ : Shape := ⟨0, ![]⟩
abbrev S4096x4096 : Shape := ⟨2, ![4096, 4096]⟩
abbrev S16x8x4096 : Shape := ⟨3, ![16, 8, 4096]⟩
abbrev S16x4096x8 : Shape := ⟨3, ![16, 4096, 8]⟩
abbrev S16x4096x128 : Shape := ⟨3, ![16, 4096, 128]⟩
abbrev S16x8x4096x1 : Shape := ⟨4, ![16, 8, 4096, 1]⟩
abbrev S16x4096x8x64 : Shape := ⟨4, ![16, 4096, 8, 64]⟩
abbrev S16x8x4096x64 : Shape := ⟨4, ![16, 8, 4096, 64]⟩
abbrev S16x8x4096x4096 : Shape := ⟨4, ![16, 8, 4096, 4096]⟩

/-- Queries times keys, by batch and head. -/
def dotQK : DotDims S16x8x4096x64 S16x8x4096x64 S16x8x4096x4096 where
  lhsContracting := [3]
  rhsContracting := [3]
  lhsNonContracting := [2]
  rhsNonContracting := [2]
  lhsBatch := [0, 1]
  rhsBatch := [0, 1]
  wf := by decide

/-- Weights times values, by batch and head. -/
def dotPV : DotDims S16x8x4096x4096 S16x8x4096x64 S16x8x4096x64 where
  lhsContracting := [3]
  rhsContracting := [2]
  lhsNonContracting := [2]
  rhsNonContracting := [3]
  lhsBatch := [0, 1]
  rhsBatch := [0, 1]
  wf := by decide

/-- A word at every entry of a square. -/
def wordSquare (n : BitVec 32) : IVec S4096x4096 32 := broadcastInDim S4096x4096 ![] (by decide) (constantI S_ 32 n)

/-- Row number less column number. -/
def lag : IVec S4096x4096 32 := subi (iotaInDim S4096x4096 32 0) (iotaInDim S4096x4096 32 1)

/-- Position `t` attends to position `u`: not later, at most `w` behind, a multiple of `d` behind. -/
def maskSquare (w d : BitVec 32) : IVec S4096x4096 1 :=
  andi (andi (cmpi .sle (iotaInDim S4096x4096 32 1) (iotaInDim S4096x4096 32 0)) (cmpi .sle lag (wordSquare w)))
    (cmpi .eq (Host.remsi lag (wordSquare d)) (wordSquare 0#32))

/-- The heads, each with its positions in order. -/
def toHeads (X : FVec Ideal S16x4096x8x64 .f32) : FVec Ideal S16x8x4096x64 .f32 :=
  transpose S16x8x4096x64 [0, 2, 1, 3] X (by decide)

variable (w d : BitVec 32) (Q K V : FVec Ideal S16x4096x8x64 .f32)

/-- The masked scores. -/
def refScores : FVec Ideal S16x8x4096x4096 .f32 :=
  select (broadcastInDim S16x8x4096x4096 ![2, 3] (by decide) (maskSquare w d))
    (Host.dotGeneral dotQK none (mulf (toHeads Q)
      (broadcastInDim S16x8x4096x64 ![] (by decide) (Host.log (constant S_ .f32 0x40000000#32)))) (toHeads K))
    (broadcastInDim S16x8x4096x4096 ![] (by decide) (constant (F := Ideal) S_ .f32 0xFF800000#32))

/-- The greatest score of each position. -/
def refMax : FVec Ideal S16x8x4096x1 .f32 :=
  broadcastInDim S16x8x4096x1 ![0, 1, 2] (by decide)
    (Host.reduce (s := S16x8x4096x4096) (t := S16x8x4096) (axes := [3]) FloatOps.maximumf (refScores w d Q K)
      (constant S_ .f32 0xFF800000#32) (by decide) (by decide))

/-- The weights. -/
def refWeights : FVec Ideal S16x8x4096x4096 .f32 :=
  Host.exp (subf (refScores w d Q K) (broadcastInDim S16x8x4096x4096 ![0, 1, 2, 3] (by decide) (refMax w d Q K)))

/-- The sums of the weights. -/
def refDen : FVec Ideal S16x8x4096x1 .f32 :=
  broadcastInDim S16x8x4096x1 ![0, 1, 2] (by decide)
    (Host.reduceAdd (s := S16x8x4096x4096) (t := S16x8x4096) (axes := [3]) (refWeights w d Q K)
      (constant S_ .f32 0x00000000#32) (by decide) (by decide))

/-- The attention's outputs. -/
def refOut : FVec Ideal S16x4096x8x64 .f32 :=
  transpose S16x4096x8x64 [0, 2, 1, 3] (Host.divf (Host.dotGeneral dotPV none (refWeights w d Q K) (toHeads V))
    (broadcastInDim S16x8x4096x64 ![0, 1, 2, 3] (by decide) (refDen w d Q K))) (by decide)

/-- The log-sums in eight lanes of 128, zero in the others. -/
def refLse : FVec Ideal S16x4096x128 .f32 :=
  pad S16x4096x128 ![0, 0, 0] ![0, 0, 120] ![0, 0, 0]
    (transpose S16x4096x8 [0, 2, 1] (shapeCast S16x8x4096 (addf (refMax w d Q K) (Host.log (refDen w d Q K))) (by decide))
      (by decide))
    (sitofp .f32 (constantI S_ 32 0#32)) (by decide) (by decide)

/-- What the mask says of the positions `t` and `u`. -/
def Sees (d t u : ℕ) : Prop := u ≤ t ∧ t - u ≤ 128 * d ∧ (t - u) % d = 0

instance (d t u : ℕ) : Decidable (Sees d t u) := inferInstanceAs (Decidable (_ ∧ _ ∧ _))

/-- The masked score of position `t` against position `u`. -/
def refScore (d : ℕ) (bt : Fin 16) (h : Fin 8) (t u : Fin 4096) : EReal :=
  if Sees d t u then ∑ x : Fin 64, Q (ix4 bt t h x) * ln2 * K (ix4 bt u h x) else ⊥

theorem rem_one : ∀ n : Fin 129, IntOp.remsi ArithUnit.host (BitVec.ofNat 32 n) 1#32 = BitVec.ofNat 32 (n % 1) := by
  decide +kernel

theorem rem_four : ∀ n : Fin 513, IntOp.remsi ArithUnit.host (BitVec.ofNat 32 n) 4#32 = BitVec.ofNat 32 (n % 4) := by
  decide +kernel

theorem rem_sixteen : ∀ n : Fin 2049,
    IntOp.remsi ArithUnit.host (BitVec.ofNat 32 n) 16#32 = BitVec.ofNat 32 (n % 16) := by
  decide +kernel

/-- The strides of the three patterns. -/
def IsStride (d : ℕ) : Prop := d = 1 ∨ d = 4 ∨ d = 16

theorem word_le (a b : ℕ) (ha : a < 4096) (hb : b < 4096) :
    IntOp.cmpi .sle (BitVec.ofNat 32 a) (BitVec.ofNat 32 b) = if a ≤ b then 1#1 else 0#1 := by
  have e1 : (BitVec.ofNat 32 a).toInt = a := by
    rw [BitVec.toInt_eq_toNat_of_lt (by simp; omega)]; simp; omega
  have e2 : (BitVec.ofNat 32 b).toInt = b := by
    rw [BitVec.toInt_eq_toNat_of_lt (by simp; omega)]; simp; omega
  simp only [IntOp.cmpi, BitVec.sle, e1, e2]
  by_cases h : a ≤ b <;> simp [h]

theorem word_sub (a b : ℕ) (ha : a < 4096) (hb : b ≤ a) :
    IntOp.subi (BitVec.ofNat 32 a) (BitVec.ofNat 32 b) = BitVec.ofNat 32 (a - b) := by
  simp only [IntOp.subi]
  apply BitVec.eq_of_toNat_eq
  simp
  omega

theorem word_zero (k : ℕ) (hk : k < 4096) :
    IntOp.cmpi .eq (BitVec.ofNat 32 k) 0#32 = if k = 0 then 1#1 else 0#1 := by
  have : (BitVec.ofNat 32 k = 0#32) ↔ k = 0 := by
    constructor
    · intro h; have := congrArg BitVec.toNat h; simp at this; omega
    · rintro rfl; rfl
  by_cases hk : k = 0
  · subst hk; rfl
  · rw [if_neg hk]; simp only [IntOp.cmpi, beq_eq_false_iff_ne.2 (mt this.1 hk)]; rfl

/-- A lag inside the window: its remainder. -/
theorem rem_at (n : ℕ) (hn : IsStride n) (k : ℕ) (hk : k ≤ 128 * n) :
    IntOp.remsi ArithUnit.host (BitVec.ofNat 32 k) (BitVec.ofNat 32 n) = BitVec.ofNat 32 (k % n) := by
  rcases hn with rfl | rfl | rfl
  · exact rem_one ⟨k, by omega⟩
  · exact rem_four ⟨k, by omega⟩
  · exact rem_sixteen ⟨k, by omega⟩

/-- The mask's bit. -/
theorem mask_at (n : ℕ) (hn : IsStride n) (t u : Fin 4096) :
    maskSquare (BitVec.ofNat 32 (128 * n)) (BitVec.ofNat 32 n) (ix2 t u) = if Sees n t u then 1#1 else 0#1 := by
  have ht := t.isLt
  have hu := u.isLt
  have hw : 128 * n < 4096 := by rcases hn with rfl | rfl | rfl <;> omega
  pointwise [maskSquare, lag, wordSquare]
  rw [word_le u t hu ht]
  by_cases h1 : (u : ℕ) ≤ t
  · rw [word_sub t u ht h1, word_le _ _ (by omega) hw]
    by_cases h2 : (t : ℕ) - u ≤ 128 * n
    · rw [rem_at n hn _ h2, word_zero _ (lt_of_le_of_lt (Nat.mod_le _ _) (by omega))]
      by_cases h3 : ((t : ℕ) - u) % n = 0 <;> simp [Sees, h1, h2, h3, IntOp.andi]
    · rw [if_neg h2]; simp [Sees, h2, IntOp.andi]
  · rw [if_neg h1]; simp [Sees, h1, IntOp.andi]

theorem ofBits_two : Ideal.ofBits .f32 0x40000000#32 = ((2 : ℝ) : EReal) := by
  simp [Ideal.ofBits, Ideal.ieee]
  norm_cast
  norm_num

theorem ofBits_bot' : Ideal.ofBits .f32 0xFF800000#32 = ⊥ := by
  simp [Ideal.ofBits, Ideal.ieee]

theorem log_two : Ideal.log ((2 : ℝ) : EReal) = ln2 := by
  show (if (2 : ℝ) ≤ 0 then (⊥ : EReal) else ((Real.log 2 : ℝ) : EReal)) = ln2
  rw [if_neg (by norm_num)]

theorem refScores_at (n : ℕ) (hn : IsStride n) (bt : Fin 16) (h : Fin 8) (t u : Fin 4096) :
    refScores (BitVec.ofNat 32 (128 * n)) (BitVec.ofNat 32 n) Q K (ix4 bt h t u) = refScore Q K n bt h t u := by
  pointwise [refScores, toHeads]
  rw [mask_at n hn, ofBits_two, log_two, ofBits_bot', refScore]
  by_cases h : Sees n t u <;> simp [h, Scalar.select]

theorem refMax_at (n : ℕ) (hn : IsStride n) (bt : Fin 16) (h : Fin 8) (t : Fin 4096) :
    refMax (BitVec.ofNat 32 (128 * n)) (BitVec.ofNat 32 n) Q K (ix4 bt h t 0) = Finset.univ.sup (refScore Q K n bt h t) := by
  pointwise [refMax, refScores_at Q K n hn, ofBits_bot']
  rfl

theorem refWeights_at (n : ℕ) (hn : IsStride n) (bt : Fin 16) (h : Fin 8) (t u : Fin 4096) :
    refWeights (BitVec.ofNat 32 (128 * n)) (BitVec.ofNat 32 n) Q K (ix4 bt h t u)
      = Ideal.exp (refScore Q K n bt h t u - Finset.univ.sup (refScore Q K n bt h t)) := by
  pointwise [refWeights, refScores_at Q K n hn, refMax_at Q K n hn]

theorem refDen_at (n : ℕ) (hn : IsStride n) (bt : Fin 16) (h : Fin 8) (t : Fin 4096) :
    refDen (BitVec.ofNat 32 (128 * n)) (BitVec.ofNat 32 n) Q K (ix4 bt h t 0)
      = ∑ u, Ideal.exp (refScore Q K n bt h t u - Finset.univ.sup (refScore Q K n bt h t)) := by
  pointwise [refDen, refWeights_at Q K n hn]

theorem refOut_at (n : ℕ) (hn : IsStride n) (bt : Fin 16) (h : Fin 8) (t : Fin 4096) (x : Fin 64) :
    refOut (BitVec.ofNat 32 (128 * n)) (BitVec.ofNat 32 n) Q K V (ix4 bt t h x)
      = Ideal.div (∑ u, Ideal.exp (refScore Q K n bt h t u - Finset.univ.sup (refScore Q K n bt h t)) * V (ix4 bt u h x))
          (∑ u, Ideal.exp (refScore Q K n bt h t u - Finset.univ.sup (refScore Q K n bt h t))) := by
  pointwise [refOut, toHeads, refWeights_at Q K n hn, refDen_at Q K n hn]

theorem lane_at (X Y : FVec Ideal S16x8x4096x1 .f32) (z : FVec Ideal S_ .f32) (bt : Fin 16) (l : Fin 128) (t : Fin 4096) :
    pad S16x4096x128 ![0, 0, 0] ![0, 0, 120] ![0, 0, 0]
      (transpose S16x4096x8 [0, 2, 1] (shapeCast S16x8x4096 (addf X Y) (by decide)) (by decide)) z (by decide) (by decide)
      (ix3 bt t l)
      = if h : (l : ℕ) < 8 then X (ix4 bt ⟨l, h⟩ t 0) + Y (ix4 bt ⟨l, h⟩ t 0) else z ix0 := by
  pointwise
  by_cases h : (l : ℕ) < 8
  · rw [dif_pos h, dif_pos h]
  · rw [dif_neg h, dif_neg h]; exact congrArg z (funext fun a => a.elim0)

theorem refLse_at (n : ℕ) (hn : IsStride n) (bt : Fin 16) (h : Fin 8) (t : Fin 4096) (l : Fin 128) (hl : (l : ℕ) = h) :
    refLse (BitVec.ofNat 32 (128 * n)) (BitVec.ofNat 32 n) Q K (ix3 bt t l) = Finset.univ.sup (refScore Q K n bt h t)
      + Ideal.log (∑ u, Ideal.exp (refScore Q K n bt h t u - Finset.univ.sup (refScore Q K n bt h t))) := by
  have hh := h.isLt
  have e : (⟨l, by omega⟩ : Fin 8) = h := Fin.ext hl
  rw [← refDen_at Q K n hn, ← refMax_at Q K n hn, refLse, lane_at, dif_pos (by omega), e]
  rfl

theorem refLse_pad (n : ℕ) (bt : Fin 16) (t : Fin 4096) (l : Fin 128) (hl : 8 ≤ (l : ℕ)) :
    refLse (BitVec.ofNat 32 (128 * n)) (BitVec.ofNat 32 n) Q K (ix3 bt t l) = 0 := by
  rw [refLse, lane_at, dif_neg (by omega)]
  show ((((0#32 : BitVec 32).toInt : ℤ) : ℝ) : EReal) = 0
  simp

end Cert.Attn

end

end
-- ==== Proof.Tile.lean ====
module

public import proofs.«01_k».proof.Proof.Softmax
public import Idealize.ShloMosaic.PureOps.Ideal.Laws
public import Idealize.ShloMosaic.Lib.Pointwise

@[expose] public section

set_option maxRecDepth 16384
set_option backward.proofsInPublic true

noncomputable section

open Idealize.ShloMosaic Idealize.ShloMosaic.TcCoe

/-! # What one step of the attention kernel computes

A step takes 128 query rows and one pair of heads (128 lanes), 256 key rows and 256 value rows, and a bias of 0 or
minus infinity.  Its operations are those of the kernel body, over vectors named by variables. -/

namespace Cert.Attn

abbrev S256 : Shape := ⟨1, ![256]⟩
abbrev S128x1 : Shape := ⟨2, ![128, 1]⟩
abbrev S256x1 : Shape := ⟨2, ![256, 1]⟩
abbrev S128x128 : Shape := ⟨2, ![128, 128]⟩
abbrev S256x128 : Shape := ⟨2, ![256, 128]⟩
abbrev S256x256 : Shape := ⟨2, ![256, 256]⟩

/-- Rows times rows. -/
def dotRows : DotDims S256x128 S256x128 S256x256 where
  lhsContracting := [1]
  rhsContracting := [1]
  lhsNonContracting := [0]
  rhsNonContracting := [0]
  lhsBatch := []
  rhsBatch := []
  wf := by decide

/-- Rows times columns. -/
def dotCols : DotDims S256x256 S256x256 S256x256 where
  lhsContracting := [1]
  rhsContracting := [0]
  lhsNonContracting := [0]
  rhsNonContracting := [1]
  lhsBatch := []
  rhsBatch := []
  wf := by decide

theorem concatRows : Shape.Concatenates [S128x128, S128x128] S256x128 0 := by decide

theorem concatLanes : Shape.Concatenates [S256x128, S256x128] S256x256 1 := by decide

/-- The lane number. -/
def lanes : IVec S128x128 32 := iota .tc S128x128 32 [1] (by decide)

/-- The lanes of the first head of a pair. -/
def lowHalf : IVec S128x128 1 := cmpi .slt lanes (broadcast S128x128 64#32)

def zeros : FVec Ideal S128x128 .bf16 := broadcast S128x128 (Scalar.ofBits .bf16 0x0000#16)

def ones : FVec Ideal S256x128 .bf16 := broadcast S256x128 (Scalar.ofBits .bf16 0x3F80#16)

variable (q : FVec Ideal S128x128 .bf16) (k v : FVec Ideal S256x128 .bf16) (b : FVec Ideal S256x256 .f32)

/-- Scores plus bias: the upper 128 rows are those of the first head, the lower 128 those of the second. -/
def scores : FVec Ideal S256x256 .f32 :=
  addf (matmul dotRows none (concatenate S256x128 0
    [⟨S128x128, select lowHalf q zeros⟩, ⟨S128x128, select lowHalf zeros q⟩] concatRows) k
    (constant S256x256 .f32 0x00000000#32)) b

/-- The greatest score of each row. -/
def rowMax : FVec Ideal S256x1 .f32 :=
  shapeCast S256x1 (multiReduction .maximumf [1] S256 (scores q k b) 0xFF800000#32 (by decide) (.inl rfl) rfl) (by decide)

/-- Weights times values, and in the right half weights times ones. -/
def products : FVec Ideal S256x256 .f32 :=
  matmul dotCols none
    (truncf .bf16 (exp2 (subf (scores q k b) (broadcastTo S256x256 (rowMax q k b) (by decide)))) (by decide))
    (concatenate S256x256 1 [⟨S256x128, v⟩, ⟨S256x128, ones⟩] concatLanes) (constant S256x256 .f32 0x00000000#32)

/-- The sums of the weights. -/
def rowDen : FVec Ideal S256x128 .f32 := extractStridedSlice S256x128 ![0, 128] (products q k v b) (by decide)

/-- The quotients. -/
def quotients : FVec Ideal S256x128 .f32 :=
  divf (extractStridedSlice S256x128 ![0, 0] (products q k v b) (by decide)) (rowDen q k v b)

/-- The stored block: the first head's quotients in its lanes, the second head's in the others. -/
def outTile : FVec Ideal S128x128 .bf16 :=
  truncf .bf16 (select lowHalf (extractStridedSlice S128x128 ![0, 0] (quotients q k v b) (by decide))
    (extractStridedSlice S128x128 ![128, 0] (quotients q k v b) (by decide))) (by decide)

/-- A pair's maxima put into lanes `a` and `a'`. -/
def putMax (a a' : BitVec 32) (mx : FVec Ideal S256x1 .f32) (acc : FVec Ideal S128x128 .f32) : FVec Ideal S128x128 .f32 :=
  select (cmpi .eq lanes (broadcast S128x128 a))
    (broadcastTo S128x128 (shapeCast S128x1 (extractStridedSlice S128x1 ![0, 0] mx (by decide)) (by decide)) (by decide))
    (select (cmpi .eq lanes (broadcast S128x128 a'))
      (broadcastTo S128x128 (shapeCast S128x1 (extractStridedSlice S128x1 ![128, 0] mx (by decide)) (by decide)) (by decide))
      acc)

/-- A pair's sums put into lanes `a` and `a'`. -/
def putDen (a a' : BitVec 32) (den : FVec Ideal S256x128 .f32) (acc : FVec Ideal S128x128 .f32) : FVec Ideal S128x128 .f32 :=
  select (cmpi .eq lanes (broadcast S128x128 a)) (extractStridedSlice S128x128 ![0, 0] den (by decide))
    (select (cmpi .eq lanes (broadcast S128x128 a')) (extractStridedSlice S128x128 ![128, 0] den (by decide)) acc)

/-- The block of log-sums: maxima times `ln 2` plus the logarithms of the sums, of the four pairs of heads. -/
def lseTile (c : EReal) (q : Fin 4 → FVec Ideal S128x128 .bf16) (k v : Fin 4 → FVec Ideal S256x128 .bf16)
    (b : FVec Ideal S256x256 .f32) : FVec Ideal S128x128 .f32 :=
  addf (mulf (putMax 6#32 7#32 (rowMax (q 3) (k 3) b) (putMax 4#32 5#32 (rowMax (q 2) (k 2) b)
      (putMax 2#32 3#32 (rowMax (q 1) (k 1) b) (putMax 0#32 1#32 (rowMax (q 0) (k 0) b)
        (broadcast S128x128 (Scalar.ofBits .f32 0x00000000#32)))))) (broadcast S128x128 c))
    (log (putDen 6#32 7#32 (rowDen (q 3) (k 3) (v 3) b) (putDen 4#32 5#32 (rowDen (q 2) (k 2) (v 2) b)
      (putDen 2#32 3#32 (rowDen (q 1) (k 1) (v 1) b) (putDen 0#32 1#32 (rowDen (q 0) (k 0) (v 0) b)
        (broadcast S128x128 (Scalar.ofBits .f32 0x3F800000#32)))))))

/-! ## The step's values, element by element -/

/-- The score of query row `r` against key row `c` in head `h` of the pair, with the bias. -/
def score (β : Fin 128 → Fin 256 → EReal) (h : Fin 2) (r : Fin 128) (c : Fin 256) : EReal :=
  (∑ x : Fin 64, q (ix2 r ⟨64 * h + x, by omega⟩) * k (ix2 c ⟨64 * h + x, by omega⟩)) + β r c

theorem slt_64 (x : Fin 128) :
    IntOp.cmpi .slt (BitVec.ofNat 32 x) 64#32 = if (x : ℕ) < 64 then 1#1 else 0#1 := by
  revert x; decide +kernel

theorem slt_lo (x : Fin 64) : IntOp.cmpi .slt (BitVec.ofNat 32 x) 64#32 = 1#1 := by
  revert x; decide +kernel

theorem slt_hi (x : Fin 64) : IntOp.cmpi .slt (BitVec.ofNat 32 (64 + x)) 64#32 = 0#1 := by
  revert x; decide +kernel

theorem ofBits_bot : Ideal.ofBits .f32 0xFF800000#32 = ⊥ := by
  simp [Ideal.ofBits, Ideal.ieee]

theorem scores_at (β : Fin 128 → Fin 256 → EReal)
    (hb : ∀ (h : Fin 2) (r : Fin 128) (c : Fin 256), b (ix2 ⟨128 * h + r, by omega⟩ c) = β r c)
    (h : Fin 2) (r : Fin 128) (c : Fin 256) :
    scores q k b (ix2 ⟨128 * h + r, by omega⟩ c) = score q k β h r c := by
  have hr := r.isLt
  pointwise [scores, lowHalf, lanes, zeros, score]
  rw [hb h r c]
  refine congrArg (· + β r c) ?_
  rw [Fin.sum_univ_two_halves 64 64 rfl]
  fin_cases h
  · have h0 : (0 * 128 + (r : ℕ)) < 128 := by omega
    simp [slt_lo, slt_hi, Scalar.select]
  · have h0 : ¬ (128 + (r : ℕ)) < 128 := by omega
    simp [slt_lo, slt_hi, Scalar.select]

theorem products_at (β : Fin 128 → Fin 256 → EReal)
    (hb : ∀ (h : Fin 2) (r : Fin 128) (c : Fin 256), b (ix2 ⟨128 * h + r, by omega⟩ c) = β r c)
    (h : Fin 2) (r : Fin 128) (y : Fin 128) :
    products q k v b (ix2 ⟨128 * h + r, by omega⟩ ⟨y, by omega⟩)
      = ∑ c, Ideal.exp2 (score q k β h r c - Finset.univ.sup (score q k β h r)) * v (ix2 c y) := by
  pointwise [products, rowMax, ones, scores_at q k b β hb, ofBits_bot]
  rfl

theorem rowDen_at (β : Fin 128 → Fin 256 → EReal)
    (hb : ∀ (h : Fin 2) (r : Fin 128) (c : Fin 256), b (ix2 ⟨128 * h + r, by omega⟩ c) = β r c)
    (h : Fin 2) (r : Fin 128) (y : Fin 128) :
    rowDen q k v b (ix2 ⟨128 * h + r, by omega⟩ y)
      = ∑ c, Ideal.exp2 (score q k β h r c - Finset.univ.sup (score q k β h r)) := by
  pointwise [rowDen, products, rowMax, ones, scores_at q k b β hb, ofBits_bot]
  rfl

theorem rowMax_at (β : Fin 128 → Fin 256 → EReal)
    (hb : ∀ (h : Fin 2) (r : Fin 128) (c : Fin 256), b (ix2 ⟨128 * h + r, by omega⟩ c) = β r c)
    (h : Fin 2) (r : Fin 128) :
    rowMax q k b (ix2 ⟨128 * h + r, by omega⟩ 0) = Finset.univ.sup (score q k β h r) := by
  pointwise [rowMax, scores_at q k b β hb, ofBits_bot]
  rfl

theorem outTile_at (β : Fin 128 → Fin 256 → EReal)
    (hb : ∀ (h : Fin 2) (r : Fin 128) (c : Fin 256), b (ix2 ⟨128 * h + r, by omega⟩ c) = β r c)
    (h : Fin 2) (r : Fin 128) (l : Fin 128) (hl : (l : ℕ) / 64 = h) :
    outTile q k v b (ix2 r l)
      = Ideal.div (∑ c, Ideal.exp2 (score q k β h r c - Finset.univ.sup (score q k β h r)) * v (ix2 c l))
          (∑ c, Ideal.exp2 (score q k β h r c - Finset.univ.sup (score q k β h r))) := by
  rw [← products_at q k v b β hb, ← rowDen_at q k v b β hb h r l]
  pointwise [outTile, quotients, lowHalf, lanes]
  rw [slt_64]
  fin_cases h
  · have h0 : (l : ℕ) < 64 := by simp at hl; omega
    simp [h0, Scalar.select]
  · have h0 : ¬ (l : ℕ) < 64 := by simp at hl; omega
    simp [h0, Scalar.select]

theorem putMax_at (a a' : BitVec 32) (mx : FVec Ideal S256x1 .f32) (acc : FVec Ideal S128x128 .f32) (r l : Fin 128) :
    putMax a a' mx acc (ix2 r l) = Scalar.select (IntOp.cmpi .eq (BitVec.ofNat 32 l) a) (mx (ix2 ⟨r, by omega⟩ 0))
      (Scalar.select (IntOp.cmpi .eq (BitVec.ofNat 32 l) a') (mx (ix2 ⟨128 + r, by omega⟩ 0)) (acc (ix2 r l))) := by
  pointwise [putMax, lanes]

theorem putDen_at (a a' : BitVec 32) (den : FVec Ideal S256x128 .f32) (acc : FVec Ideal S128x128 .f32) (r l : Fin 128) :
    putDen a a' den acc (ix2 r l) = Scalar.select (IntOp.cmpi .eq (BitVec.ofNat 32 l) a) (den (ix2 ⟨r, by omega⟩ l))
      (Scalar.select (IntOp.cmpi .eq (BitVec.ofNat 32 l) a') (den (ix2 ⟨128 + r, by omega⟩ l)) (acc (ix2 r l))) := by
  pointwise [putDen, lanes]

theorem log_one : Ideal.log 1 = 0 := by
  show (if (1 : ℝ) ≤ 0 then (⊥ : EReal) else ((Real.log 1 : ℝ) : EReal)) = 0
  rw [if_neg (by norm_num), Real.log_one]; rfl

theorem eq_word (l : Fin 128) (n : Fin 8) :
    IntOp.cmpi .eq (BitVec.ofNat 32 l) (BitVec.ofNat 32 n) = if (l : ℕ) = n then 1#1 else 0#1 := by
  revert l n; decide +kernel

/-- In the lane of head `2 p + h`: the greatest score of that head times the constant, plus the logarithm of its sum. -/
theorem lseTile_at (c : EReal) (q : Fin 4 → FVec Ideal S128x128 .bf16) (k v : Fin 4 → FVec Ideal S256x128 .bf16)
    (β : Fin 128 → Fin 256 → EReal)
    (hb : ∀ (h : Fin 2) (r : Fin 128) (c : Fin 256), b (ix2 ⟨128 * h + r, by omega⟩ c) = β r c)
    (p : Fin 4) (h : Fin 2) (r : Fin 128) (l : Fin 128) (hl : (l : ℕ) = 2 * p + h) :
    lseTile c q k v b (ix2 r l) = Finset.univ.sup (score (q p) (k p) β h r) * c
      + Ideal.log (∑ y, Ideal.exp2 (score (q p) (k p) β h r y - Finset.univ.sup (score (q p) (k p) β h r))) := by
  rw [← rowDen_at (q p) (k p) (v p) b β hb h r l, ← rowMax_at (q p) (k p) b β hb]
  pointwise [lseTile, putMax_at, putDen_at]
  fin_cases p <;> fin_cases h <;> simp at hl <;> simp [hl, Scalar.select, IntOp.cmpi]

/-- In the lanes beyond the heads: zero. -/
theorem lseTile_pad (c : EReal) (q : Fin 4 → FVec Ideal S128x128 .bf16) (k v : Fin 4 → FVec Ideal S256x128 .bf16)
    (r : Fin 128) (l : Fin 128) (hl : 8 ≤ (l : ℕ)) : lseTile c q k v b (ix2 r l) = 0 := by
  have e (n : ℕ) (hn : n < 8) : IntOp.cmpi .eq (BitVec.ofNat 32 l) (BitVec.ofNat 32 n) = 0#1 := by
    rw [eq_word l ⟨n, hn⟩, if_neg (by show ¬ (l : ℕ) = n; omega)]
  pointwise [lseTile, putMax_at, putDen_at]
  rw [e 0 (by omega), e 1 (by omega), e 2 (by omega), e 3 (by omega), e 4 (by omega), e 5 (by omega), e 6 (by omega),
    e 7 (by omega)]
  simp [Scalar.select, log_one]

end Cert.Attn

end

end
-- ==== Proof.Bias.lean ====
module

public import proofs.«01_k».proof.Proof.Core
public import proofs.«01_k».proof.Proof.Tile

@[expose] public section

set_option maxRecDepth 16384
set_option backward.proofsInPublic true

noncomputable section

open Idealize.ShloMosaic Idealize.ShloMosaic.TcCoe

/-! # The attention kernel's biases

A bias is 0 where a slot counts for a row and the mask's value elsewhere.  The row of a head is the row's number
modulo 128, the remainder taken on words and made non-negative. -/

namespace Cert.Attn

def rowNo : IVec S256x256 32 := iota .tc S256x256 32 [0] (by decide)

def slotNo : IVec S256x256 32 := iota .tc S256x256 32 [1] (by decide)

/-- The divisor 128, guarded against 0. -/
def divisor : BitVec 32 := Scalar.select (Scalar.cmpi .eq 128#32 0#32) 1#32 128#32

/-- The row within its head. -/
def headRow : IVec S256x256 32 :=
  select (andi (xori (cmpi .slt (remsi rowNo (broadcast S256x256 divisor)) (broadcast S256x256 0#32))
      (broadcastTo S256x256 (broadcast S256x256 (Scalar.cmpi .slt divisor 0#32)) (by decide)))
      (cmpi .ne (remsi rowNo (broadcast S256x256 divisor)) (broadcast S256x256 0#32)))
    (addi (remsi rowNo (broadcast S256x256 divisor)) (broadcast S256x256 divisor))
    (remsi rowNo (broadcast S256x256 divisor))

/-- The slots between a row and 128 beyond. -/
def bandBits : IVec S256x256 1 :=
  andi (cmpi .sge slotNo headRow) (cmpi .sle slotNo (addi headRow (broadcast S256x256 128#32)))

/-- The bias of a later step. -/
def laterBias (mask : EReal) : FVec Ideal S256x256 .f32 :=
  shapeCast S256x256 (select bandBits (broadcast S256x256 (Scalar.ofBits (F := Ideal) .f32 0x00000000#32))
    (broadcast S256x256 mask)) (by decide)

/-- The bias of a first step: in a sequence's first block the 128 slots before the sequence do not count. -/
def firstBias (mask : EReal) (block : BitVec 32) : FVec Ideal S256x256 .f32 :=
  shapeCast S256x256 (select
    (andi bandBits (cmpi .sge slotNo (broadcast S256x256 (Scalar.select (Scalar.cmpi .sgt block 0#32) 0#32 128#32))))
    (broadcast S256x256 (Scalar.ofBits (F := Ideal) .f32 0x00000000#32)) (broadcast S256x256 mask)) (by decide)

theorem headRow_word : ∀ n : Fin 256,
    Scalar.select (IntOp.andi (IntOp.xori (IntOp.cmpi .slt (IntOp.remsi ArithUnit.vector (BitVec.ofNat 32 n) divisor) 0#32)
      (Scalar.cmpi .slt divisor 0#32)) (IntOp.cmpi .ne (IntOp.remsi ArithUnit.vector (BitVec.ofNat 32 n) divisor) 0#32))
      (IntOp.addi (IntOp.remsi ArithUnit.vector (BitVec.ofNat 32 n) divisor) divisor)
      (IntOp.remsi ArithUnit.vector (BitVec.ofNat 32 n) divisor) = BitVec.ofNat 32 (n % 128) := by
  decide +kernel

theorem headRow_at (h : Fin 2) (r : Fin 128) (c : Fin 256) : headRow (ix2 ⟨128 * h + r, by omega⟩ c) = BitVec.ofNat 32 r := by
  have e : (128 * (h : ℕ) + r) % 128 = r := by omega
  pointwise [headRow, rowNo]
  exact (headRow_word ⟨128 * h + r, by omega⟩).trans (by rw [e])

theorem bandBits_at (h : Fin 2) (r : Fin 128) (c : Fin 256) : bandBits (ix2 ⟨128 * h + r, by omega⟩ c)
    = if (r : ℕ) ≤ c ∧ c ≤ (r : ℕ) + 128 then 1#1 else 0#1 := by
  have e : IntOp.addi (BitVec.ofNat 32 (r : ℕ)) 128#32 = BitVec.ofNat 32 (r + 128) := by
    show BitVec.ofNat 32 r + BitVec.ofNat 32 128 = _
    rw [BitVec.ofNat_add]
  pointwise [bandBits, slotNo, headRow_at]
  rw [e, word_le _ _ (by omega) (by omega),
    show IntOp.cmpi .sge (BitVec.ofNat 32 (c : ℕ)) (BitVec.ofNat 32 (r : ℕ)) = _ from word_le r c (by omega) (by omega)]
  by_cases h1 : (r : ℕ) ≤ c <;> by_cases h2 : (c : ℕ) ≤ r + 128 <;> simp [h1, h2, IntOp.andi]

theorem laterBias_at (h : Fin 2) (r : Fin 128) (c : Fin 256) : laterBias ⊥ (ix2 ⟨128 * h + r, by omega⟩ c)
    = if (r : ℕ) ≤ c ∧ c ≤ (r : ℕ) + 128 then 0 else ⊥ := by
  pointwise [laterBias, bandBits_at]
  by_cases h : (r : ℕ) ≤ c ∧ (c : ℕ) ≤ r + 128 <;> simp [h, Scalar.select]

theorem firstBias_at (n : ℕ) (hn : n < 4096) (h : Fin 2) (r : Fin 128) (c : Fin 256) :
    firstBias ⊥ (BitVec.ofNat 32 n) (ix2 ⟨128 * h + r, by omega⟩ c)
      = if (r : ℕ) ≤ c ∧ c ≤ (r : ℕ) + 128 ∧ (n = 0 → 128 ≤ (c : ℕ)) then 0 else ⊥ := by
  have e : Scalar.select (Scalar.cmpi .sgt (BitVec.ofNat 32 n) 0#32) 0#32 128#32
      = BitVec.ofNat 32 (if n = 0 then 128 else 0) := by
    have e' : Scalar.cmpi .sgt (BitVec.ofNat 32 n) 0#32 = if n = 0 then 0#1 else 1#1 := by
      have h1 : (BitVec.ofNat 32 n).slt 0#32 = false := by
        simp [BitVec.slt, BitVec.toInt_eq_toNat_cond]; omega
      have h2 : (0#32).slt (BitVec.ofNat 32 n) = decide (0 < n) := by
        simp [BitVec.slt, BitVec.toInt_eq_toNat_cond]; omega
      show BitVec.ofBool ((0#32).slt (BitVec.ofNat 32 n)) = _
      rw [h2]
      by_cases h0 : n = 0
      · subst h0; rfl
      · rw [if_neg h0, decide_eq_true (Nat.pos_of_ne_zero h0)]; rfl
    rw [e']
    by_cases h0 : n = 0 <;> simp [h0, Scalar.select]
  pointwise [firstBias, bandBits_at, slotNo]
  rw [e, show IntOp.cmpi .sge (BitVec.ofNat 32 (c : ℕ)) (BitVec.ofNat 32 (if n = 0 then 128 else 0)) = _ from
    word_le _ c (by split <;> omega) (by omega)]
  by_cases h0 : n = 0 <;> by_cases h1 : (r : ℕ) ≤ c ∧ (c : ℕ) ≤ r + 128 <;> by_cases h2 : 128 ≤ (c : ℕ) <;>
    simp [h0, h1, h2, Scalar.select, IntOp.andi] <;> tauto

end Cert.Attn

end

end
-- ==== Proof.Match.lean ====
module

public import proofs.«01_k».proof.Proof.Tile
public import proofs.«01_k».proof.Proof.Core

@[expose] public section

set_option maxRecDepth 16384
set_option backward.proofsInPublic true

noncomputable section

open Idealize.ShloMosaic Idealize.ShloMosaic.TcCoe

/-! # A step of the kernel and the reference

A step of stride `d` works on the positions of one residue `ρ` modulo `d`: its query row `r` is position
`(a + r) d + ρ`, and its key slot `c` is position `(a + c - 128) d + ρ` when that is not negative. -/

namespace Cert.Attn

/-- Position `i` of residue `ρ` modulo `d`. -/
theorem pos_lt {d i ρ : ℕ} (hd : IsStride d) (hi : i < 4096 / d) (hρ : ρ < d) : i * d + ρ < 4096 := by
  rcases hd with rfl | rfl | rfl <;> omega

theorem slot_lt {d a c : ℕ} (ha : a + 128 ≤ 4096 / d) (hc : c < 256) : a + c - 128 < 4096 / d := by omega

/-- A step's vectors are the parts of the queries, keys and values that belong to it, its bias the band of 128 slots
    before each row, without the slots before the first position. -/
structure Step (d a ρ : ℕ) (bt : Fin 16) (p : Fin 4) (Q K V : FVec Ideal S16x4096x8x64 .f32)
    (q : FVec Ideal S128x128 .bf16) (k v : FVec Ideal S256x128 .bf16) (b : FVec Ideal S256x256 .f32) : Prop where
  hd : IsStride d
  ha : a + 128 ≤ 4096 / d
  hρ : ρ < d
  hq : ∀ r l : Fin 128, q (ix2 r l) = Q (ix4 bt ⟨(a + r) * d + ρ, pos_lt hd (by omega) hρ⟩ ⟨2 * p + l / 64, by omega⟩
    ⟨l % 64, by omega⟩)
  hk : ∀ (c : Fin 256) (l : Fin 128), 128 ≤ a + c → k (ix2 c l) = K (ix4 bt
    ⟨(a + c - 128) * d + ρ, pos_lt hd (slot_lt ha c.isLt) hρ⟩ ⟨2 * p + l / 64, by omega⟩ ⟨l % 64, by omega⟩)
  hv : ∀ (c : Fin 256) (l : Fin 128), 128 ≤ a + c → v (ix2 c l) = V (ix4 bt
    ⟨(a + c - 128) * d + ρ, pos_lt hd (slot_lt ha c.isLt) hρ⟩ ⟨2 * p + l / 64, by omega⟩ ⟨l % 64, by omega⟩)
  hb : ∀ (h : Fin 2) (r : Fin 128) (c : Fin 256), b (ix2 ⟨128 * h + r, by omega⟩ c)
    = if (r : ℕ) ≤ c ∧ c ≤ (r : ℕ) + 128 ∧ 128 ≤ a + c then 0 else ⊥

variable {d a ρ : ℕ} {bt : Fin 16} {p : Fin 4} {Q K V : FVec Ideal S16x4096x8x64 .f32}
  {q : FVec Ideal S128x128 .bf16} {k v : FVec Ideal S256x128 .bf16} {b : FVec Ideal S256x256 .f32}

/-- The bias by row within a head and slot. -/
def band (a : ℕ) (r : Fin 128) (c : Fin 256) : EReal := if (r : ℕ) ≤ c ∧ c ≤ (r : ℕ) + 128 ∧ 128 ≤ a + c then 0 else ⊥

/-- The slots that count for row `r`. -/
def live (a : ℕ) (r : Fin 128) : Finset (Fin 256) :=
  Finset.univ.filter fun c => (r : ℕ) ≤ c ∧ c ≤ (r : ℕ) + 128 ∧ 128 ≤ a + c

theorem mem_live {a : ℕ} {r : Fin 128} {c : Fin 256} :
    c ∈ live a r ↔ (r : ℕ) ≤ c ∧ c ≤ (r : ℕ) + 128 ∧ 128 ≤ a + c := by
  simp [live]

namespace Step

variable (S : Step d a ρ bt p Q K V q k v b)
include S

/-- The position of query row `r`. -/
abbrev row (r : Fin 128) : Fin 4096 := ⟨(a + r) * d + ρ, pos_lt S.hd (by have := S.ha; omega) S.hρ⟩

/-- The position of key slot `c`. -/
abbrev slot (c : Fin 256) : Fin 4096 := ⟨(a + c - 128) * d + ρ, pos_lt S.hd (slot_lt S.ha c.isLt) S.hρ⟩

/-- The head a lane of the step belongs to. -/
theorem score_eq (h : Fin 2) (r : Fin 128) (c : Fin 256) (hc : c ∈ live a r) :
    refScore Q K d bt ⟨2 * p + h, by omega⟩ (S.row r) (S.slot c) = score q k (band a) h r c * ln2 := by
  obtain ⟨h1, h2, h3⟩ := mem_live.1 hc
  have hs : Sees d (S.row r) (S.slot c) := by
    have hr := r.isLt
    show (a + c - 128) * d + ρ ≤ (a + r) * d + ρ ∧ (a + r) * d + ρ - ((a + c - 128) * d + ρ) ≤ 128 * d
      ∧ ((a + r) * d + ρ - ((a + c - 128) * d + ρ)) % d = 0
    rcases S.hd with rfl | rfl | rfl <;> omega
  rw [refScore, if_pos hs, score, band, if_pos ⟨h1, h2, h3⟩, add_zero, sum_mul_ln2]
  refine Finset.sum_congr rfl fun x _ => ?_
  have hx := x.isLt
  have e1 : (⟨2 * p + (64 * h + x) / 64, by omega⟩ : Fin 8) = ⟨2 * p + h, by omega⟩ := Fin.ext (by simp; omega)
  have e2 : (⟨(64 * h + x) % 64, by omega⟩ : Fin 64) = x := Fin.ext (by show (64 * (h : ℕ) + x) % 64 = x; omega)
  have hq := S.hq r ⟨64 * h + x, by omega⟩
  have hk := S.hk c ⟨64 * h + x, by omega⟩ h3
  simp only [e1, e2] at hq hk
  rw [hq, hk, mul_right_comm]

/-- The step's masked scores are the reference's. -/
theorem toScores (h : Fin 2) (r : Fin 128) :
    Scores (score q k (band a) h r) (refScore Q K d bt ⟨2 * p + h, by omega⟩ (S.row r)) (live a r) S.slot where
  inj := fun c hc c' hc' hcc => by
    have h1 := (mem_live.1 hc).2.2
    have h2 := (mem_live.1 hc').2.2
    have h3 : (a + c - 128) * d + ρ = (a + c' - 128) * d + ρ := congrArg Fin.val hcc
    apply Fin.ext
    rcases S.hd with rfl | rfl | rfl <;> omega
  off := fun c hc => by
    rw [score, band, if_neg (fun hh => hc (mem_live.2 hh)), EReal.add_bot]
  off' := fun u hu => by
    rw [refScore, if_neg]
    rintro ⟨h1, h2, h3⟩
    have hr := r.isLt
    have hρ := S.hρ
    have ha := S.ha
    have hu' := u.isLt
    have h1' : (u : ℕ) ≤ (a + r) * d + ρ := h1
    have h2' : (a + r) * d + ρ - u ≤ 128 * d := h2
    have h3' : ((a + r) * d + ρ - u) % d = 0 := h3
    refine hu ⟨u / d + 128 - a, ?_⟩ (mem_live.2 ⟨?_, ?_, ?_⟩) (Fin.ext ?_)
    · rcases S.hd with rfl | rfl | rfl <;> omega
    · show (r : ℕ) ≤ u / d + 128 - a
      rcases S.hd with rfl | rfl | rfl <;> omega
    · show u / d + 128 - a ≤ (r : ℕ) + 128
      rcases S.hd with rfl | rfl | rfl <;> omega
    · show 128 ≤ a + (u / d + 128 - a)
      rcases S.hd with rfl | rfl | rfl <;> omega
    · show (a + (u / d + 128 - a) - 128) * d + ρ = u
      rcases S.hd with rfl | rfl | rfl <;> omega
  eq := fun c hc => S.score_eq h r c hc

/-- The stored block is the reference's output. -/
theorem out_eq (r l : Fin 128) :
    outTile q k v b (ix2 r l) = refOut (BitVec.ofNat 32 (128 * d)) (BitVec.ofNat 32 d) Q K V
      (ix4 bt (S.row r) ⟨2 * p + l / 64, by omega⟩ ⟨l % 64, by omega⟩) := by
  have hl : (l : ℕ) / 64 < 2 := by omega
  have T := S.toScores ⟨l / 64, hl⟩ r
  rw [refOut_at Q K V d S.hd, outTile_at q k v b (band a) S.hb ⟨l / 64, hl⟩ r l rfl]
  rw [← T.den_eq, ← T.sum_eq (fun c => v (ix2 c l))
    (fun u => V (ix4 bt u ⟨2 * p + l / 64, by omega⟩ ⟨l % 64, by omega⟩))
    fun c hc => (S.hv c l (mem_live.1 hc).2.2).symm]

end Step

/-- The stored log-sums are the reference's. -/
theorem lse_eq {q : Fin 4 → FVec Ideal S128x128 .bf16} {k v : Fin 4 → FVec Ideal S256x128 .bf16}
    (S : ∀ p, Step d a ρ bt p Q K V (q p) (k p) (v p) b) (r l : Fin 128) :
    lseTile ln2 q k v b (ix2 r l)
      = refLse (BitVec.ofNat 32 (128 * d)) (BitVec.ofNat 32 d) Q K (ix3 bt ((S 0).row r) l) := by
  by_cases hl : (l : ℕ) < 8
  · have T := (S ⟨l / 2, by omega⟩).toScores ⟨l % 2, by omega⟩ r
    have e : (⟨2 * (l / 2) + l % 2, by omega⟩ : Fin 8) = ⟨l, hl⟩ := Fin.ext (by simp; omega)
    simp only [e] at T
    rw [lseTile_at b ln2 q k v (band a) (S 0).hb ⟨l / 2, by omega⟩ ⟨l % 2, by omega⟩ r l (by simp; omega),
      refLse_at Q K d (S 0).hd bt ⟨l, hl⟩ _ l rfl, T.den_eq, T.sup_eq]
  · rw [lseTile_pad b ln2 q k v r l (by omega), refLse_pad Q K d bt _ l (by omega)]

end Cert.Attn

end

end
-- ==== Proof.Pieces.lean ====
module

public import proofs.«01_k».proof.Proof.Match
public import Idealize.ShloMosaic.Lib.Pipeline.ValueKit

@[expose] public section

set_option maxRecDepth 16384
set_option backward.proofsInPublic true

noncomputable section

open Idealize.ShloMosaic Idealize.ShloMosaic.TcCoe

/-! # What one block of the attention kernel stores

A block holds `128 (J + 1)` query rows of `N` residues, 512 lanes each.  It is worked in steps, one for each residue and
each 128 rows; a step stores one piece of the output for each of four pairs of heads, and one piece of log-sums. -/

namespace Cert.Attn

abbrev Mat (m n : ℕ) : Shape := ⟨2, ![m, n]⟩

theorem inb2 {m n o o' k l : ℕ} (h : o + k ≤ m) (h' : o' + l ≤ n) (a : Fin 2) :
    (![o, o'] : Fin 2 → ℕ) a + (Mat k l).size a ≤ (Mat m n).size a := by
  match a with
  | ⟨0, _⟩ => exact h
  | ⟨1, _⟩ => exact h'

/-- The rectangle of `k` rows from `o` on and `l` lanes from `o'` on. -/
abbrev box {m n : ℕ} (k l o o' : ℕ) (h : o + k ≤ m) (h' : o' + l ≤ n) : Rect (Mat m n) :=
  Rect.unit (s := Mat m n) ![o, o'] (Mat k l).size (inb2 h h')

/-- What a load of a whole scratch buffer brings after one store of the whole. -/
def after {sig : RefSig} (arg : Memref sig .tc .vmem S256x256 .f32) (b : FVec Ideal S256x256 .f32) : FVec Ideal S256x256 .f32 :=
  arg.view.readCov (Val := Elt Ideal) [⟨Rect.unit (s := S256x256) ![0, 0] S256x256.size (inb2 le_rfl le_rfl), b⟩]
    (Rect.unit (s := S256x256) ![0, 0] S256x256.size (inb2 le_rfl le_rfl)).toLoadRect

theorem after_eq {sig : RefSig} (arg : Memref sig .tc .vmem S256x256 .f32) (b : FVec Ideal S256x256 .f32) :
    after arg b = b := by
  have h : ∀ a, (![0, 0] : Fin 2 → ℕ) a = 0 := by decide
  exact View.readCov_unit_lit (Val := Elt Ideal) (S := S256x256) (e := .f32) arg.view (off := ![0, 0])
    (inb2 (m := 256) (n := 256) (k := 256) (l := 256) le_rfl le_rfl) b h

section Part

variable {sig : RefSig} {m n : ℕ} {arg : Memref sig .tc .vmem (Mat m n) .bf16} (h : arg.IsWhole)
  (x : Vec Ideal (Mat m n) .bf16)

/-- The part of a block that a load brings. -/
def part (k l o o' : ℕ) (ho : o + k ≤ m) (ho' : o' + l ≤ n) : Vec Ideal (Mat k l) .bf16 :=
  View.readAt (Elt Ideal) arg.view (box k l o o' ho ho').toLoadRect (h.unread x)

theorem part_at (k l o o' : ℕ) (ho : o + k ≤ m) (ho' : o' + l ≤ n) (r : Fin k) (c : Fin l) :
    part h x k l o o' ho ho' (ix2 r c) = x (ix2 ⟨o + r, by omega⟩ ⟨o' + c, by omega⟩) := by
  rw [part, View.readAt_eq_ld, h.read_unread]
  refine congrArg x (funext fun a => Fin.ext ?_)
  match a with
  | ⟨0, _⟩ => show o + 1 * (r : ℕ) = o + r; omega
  | ⟨1, _⟩ => show o' + 1 * (c : ℕ) = o' + c; omega

end Part

variable {sig : RefSig} {J N : ℕ}
  {argq : Memref sig .tc .vmem (Mat (128 * (J + 1)) (512 * N)) .bf16} (hargq : argq.IsWhole)
  {argk' : Memref sig .tc .vmem (Mat 128 (512 * N)) .bf16} (hargk' : argk'.IsWhole)
  {argk : Memref sig .tc .vmem (Mat (128 * (J + 1)) (512 * N)) .bf16} (hargk : argk.IsWhole)
  {argv' : Memref sig .tc .vmem (Mat 128 (512 * N)) .bf16} (hargv' : argv'.IsWhole)
  {argv : Memref sig .tc .vmem (Mat (128 * (J + 1)) (512 * N)) .bf16} (hargv : argv.IsWhole)
  (q : Vec Ideal (Mat (128 * (J + 1)) (512 * N)) .bf16) (k' : Vec Ideal (Mat 128 (512 * N)) .bf16)
  (k : Vec Ideal (Mat (128 * (J + 1)) (512 * N)) .bf16) (v' : Vec Ideal (Mat 128 (512 * N)) .bf16)
  (v : Vec Ideal (Mat (128 * (J + 1)) (512 * N)) .bf16)
  (b0 b : FVec Ideal S256x256 .f32) (ln : EReal)

/-- A step's queries. -/
def queries (s : Fin N) (j : Fin (J + 1)) (p : Fin 4) : FVec Ideal S128x128 .bf16 :=
  part hargq q 128 128 (128 * j) (512 * s + 128 * p) (by omega) (by omega)

/-- A later step's keys or values: the rows of the step before and its own. -/
def twoRows (s : Fin N) (j : Fin J) (p : Fin 4) : FVec Ideal S256x128 .bf16 :=
  part hargk k 256 128 (128 * j) (512 * s + 128 * p) (by omega) (by omega)

/-- The first step's keys or values: the 128 rows before the block and its first 128. -/
def headRows (s : Fin N) (p : Fin 4) : FVec Ideal S256x128 .bf16 :=
  concatenate S256x128 0 [⟨S128x128, part hargk' k' 128 128 0 (512 * s + 128 * p) (by omega) (by omega)⟩,
    ⟨S128x128, part hargk k 128 128 0 (512 * s + 128 * p) (by omega) (by omega)⟩] concatRows

/-- The first step's piece of the output. -/
def firstOut (s : Fin N) (p : Fin 4) : View.Piece (Elt Ideal) (Mat (128 * (J + 1)) (512 * N)) .bf16 :=
  ⟨box 128 128 0 (512 * s + 128 * p) (by omega) (by omega),
    outTile (queries hargq q s 0 p) (headRows hargk' hargk k' k s p) (headRows hargv' hargv v' v s p) b0⟩

/-- A later step's piece of the output. -/
def laterOut (s : Fin N) (j : Fin J) (p : Fin 4) : View.Piece (Elt Ideal) (Mat (128 * (J + 1)) (512 * N)) .bf16 :=
  ⟨box 128 128 (128 * (j + 1)) (512 * s + 128 * p) (by omega) (by omega),
    outTile (queries hargq q s j.succ p) (twoRows hargk k s j p) (twoRows hargv v s j p) b⟩

/-- The first step's piece of the log-sums. -/
def firstLse (s : Fin N) : View.Piece (Elt Ideal) (Mat (128 * (J + 1)) (128 * N)) .f32 :=
  ⟨box 128 128 0 (128 * s) (by omega) (by omega),
    lseTile ln (queries hargq q s 0) (headRows hargk' hargk k' k s) (headRows hargv' hargv v' v s) b0⟩

/-- A later step's piece of the log-sums. -/
def laterLse (s : Fin N) (j : Fin J) : View.Piece (Elt Ideal) (Mat (128 * (J + 1)) (128 * N)) .f32 :=
  ⟨box 128 128 (128 * (j + 1)) (128 * s) (by omega) (by omega),
    lseTile ln (queries hargq q s j.succ) (twoRows hargk k s j) (twoRows hargv v s j) b⟩

/-- All pieces of the output, the last stored first: by residue, then by step, then by pair. -/
def outPieces (Ns : List (Fin N)) (Js : List (Fin J)) : List (View.Piece (Elt Ideal) (Mat (128 * (J + 1)) (512 * N)) .bf16) :=
  Ns.flatMap fun s => (Js.flatMap fun j => [3, 2, 1, 0].map (laterOut hargq hargk hargv q k v b s j))
    ++ [3, 2, 1, 0].map (firstOut hargq hargk' hargk hargv' hargv q k' k v' v b0 s)

/-- All pieces of the log-sums, the last stored first. -/
def lsePieces (Ns : List (Fin N)) (Js : List (Fin J)) : List (View.Piece (Elt Ideal) (Mat (128 * (J + 1)) (128 * N)) .f32) :=
  Ns.flatMap fun s => (Js.map fun j => laterLse hargq hargk hargv q k v b ln s j)
    ++ [firstLse hargq hargk' hargk hargv' hargv q k' k v' v b0 ln s]

/-! ## The pieces and the reference -/

/-- Position `i` of residue `ρ` modulo `d`, as an index. -/
def pos (d i ρ : ℕ) : Fin 4096 := ⟨(i * d + ρ) % 4096, Nat.mod_lt _ (by norm_num)⟩

/-- A block of an array of heads: row `r` is position `a + r` of its residue, the lanes are residues, heads and
    coordinates. -/
def spread {m n : ℕ} (d a ρ : ℕ) (bt : Fin 16) (X : FVec Ideal S16x4096x8x64 .f32) (r : Fin m) (l : Fin n) : EReal :=
  X (ix4 bt (pos d (a + r) (ρ + l / 512)) ⟨l % 512 / 64, by omega⟩ ⟨l % 64, by omega⟩)

/-- The same of an array of log-sums. -/
def spreadLse {m n : ℕ} (d a ρ : ℕ) (bt : Fin 16) (X : FVec Ideal S16x4096x128 .f32) (r : Fin m) (l : Fin n) : EReal :=
  X (ix3 bt (pos d (a + r) (ρ + l / 128)) ⟨l % 128, by omega⟩)

/-- What a block's inputs hold. -/
structure Block (d a ρ : ℕ) (bt : Fin 16) (Q K V : FVec Ideal S16x4096x8x64 .f32)
    (q : Vec Ideal (Mat (128 * (J + 1)) (512 * N)) .bf16) (k' : Vec Ideal (Mat 128 (512 * N)) .bf16)
    (k : Vec Ideal (Mat (128 * (J + 1)) (512 * N)) .bf16) (v' : Vec Ideal (Mat 128 (512 * N)) .bf16)
    (v : Vec Ideal (Mat (128 * (J + 1)) (512 * N)) .bf16) (b0 b : FVec Ideal S256x256 .f32) : Prop where
  hd : IsStride d
  ha : a + 128 * (J + 1) ≤ 4096 / d
  ha' : a = 0 ∨ 128 ≤ a
  hρ : ρ + N ≤ d
  hq : ∀ r l, q (ix2 r l) = spread d a ρ bt Q r l
  hk : ∀ r l, k (ix2 r l) = spread d a ρ bt K r l
  hv : ∀ r l, v (ix2 r l) = spread d a ρ bt V r l
  hk' : 128 ≤ a → ∀ r l, k' (ix2 r l) = spread d (a - 128) ρ bt K r l
  hv' : 128 ≤ a → ∀ r l, v' (ix2 r l) = spread d (a - 128) ρ bt V r l
  hb0 : ∀ (h : Fin 2) (r : Fin 128) (c : Fin 256), b0 (ix2 ⟨128 * h + r, by omega⟩ c)
    = if (r : ℕ) ≤ c ∧ c ≤ (r : ℕ) + 128 ∧ 128 ≤ a + c then 0 else ⊥
  hb : ∀ (h : Fin 2) (r : Fin 128) (c : Fin 256), b (ix2 ⟨128 * h + r, by omega⟩ c)
    = if (r : ℕ) ≤ c ∧ c ≤ (r : ℕ) + 128 then 0 else ⊥

theorem pos_eq {d i ρ : ℕ} (h : i * d + ρ < 4096) : pos d i ρ = ⟨i * d + ρ, h⟩ := Fin.ext (Nat.mod_eq_of_lt h)

theorem spread_eq {m n : ℕ} {d a ρ : ℕ} {bt : Fin 16} {X : FVec Ideal S16x4096x8x64 .f32} {r : Fin m} {l : Fin n}
    {s : ℕ} {p : Fin 4} {x : Fin 128} {i : ℕ} (hl : (l : ℕ) = 512 * s + 128 * p + x) (hi : a + r = i)
    (h : i * d + (ρ + s) < 4096) :
    spread d a ρ bt X r l = X (ix4 bt ⟨i * d + (ρ + s), h⟩ ⟨2 * p + x / 64, by omega⟩ ⟨x % 64, by omega⟩) := by
  have e1 : (l : ℕ) / 512 = s := by omega
  have e2 : (⟨(l : ℕ) % 512 / 64, by omega⟩ : Fin 8) = ⟨2 * p + x / 64, by omega⟩ := Fin.ext (by simp; omega)
  have e3 : (⟨(l : ℕ) % 64, by omega⟩ : Fin 64) = ⟨x % 64, by omega⟩ := Fin.ext (by simp; omega)
  rw [spread, e2, e3, hi, e1, pos_eq h]

variable {q k' k v' v b0 b} {d a ρ : ℕ} {bt : Fin 16} {Q K V : FVec Ideal S16x4096x8x64 .f32}

theorem headRows_at_lo (s : Fin N) (p : Fin 4) (c : Fin 256) (x : Fin 128) (hc : (c : ℕ) < 128) :
    headRows hargk' hargk k' k s p (ix2 c x) = k' (ix2 ⟨c, hc⟩ ⟨512 * s + 128 * p + x, by omega⟩) := by
  pointwise [headRows, part_at]
  rw [dif_pos hc]

theorem headRows_at_hi (s : Fin N) (p : Fin 4) (c : Fin 256) (x : Fin 128) (hc : 128 ≤ (c : ℕ)) :
    headRows hargk' hargk k' k s p (ix2 c x)
      = k (ix2 ⟨c - 128, by omega⟩ ⟨512 * s + 128 * p + x, by omega⟩) := by
  pointwise [headRows, part_at]
  rw [dif_neg (by omega)]

namespace Block

variable (B : Block (J := J) (N := N) d a ρ bt Q K V q k' k v' v b0 b)
include B

theorem first (s : Fin N) (p : Fin 4) : Step d a (ρ + s) bt p Q K V (queries hargq q s 0 p)
    (headRows hargk' hargk k' k s p) (headRows hargv' hargv v' v s p) b0 where
  hd := B.hd
  ha := by have := B.ha; omega
  hρ := by have := B.hρ; omega
  hq := fun r l => by
    rw [queries, part_at, B.hq]
    exact spread_eq rfl (by simp) _
  hk := fun c l hc => by
    have ha := B.ha'
    by_cases h : (c : ℕ) < 128
    · rw [headRows_at_lo _ _ _ _ _ _ h, B.hk' (by omega)]
      exact spread_eq rfl (by show a - 128 + (c : ℕ) = _; omega) _
    · rw [headRows_at_hi _ _ _ _ _ _ (by omega), B.hk]
      exact spread_eq rfl (by show a + ((c : ℕ) - 128) = _; omega) _
  hv := fun c l hc => by
    have ha := B.ha'
    by_cases h : (c : ℕ) < 128
    · rw [headRows_at_lo _ _ _ _ _ _ h, B.hv' (by omega)]
      exact spread_eq rfl (by show a - 128 + (c : ℕ) = _; omega) _
    · rw [headRows_at_hi _ _ _ _ _ _ (by omega), B.hv]
      exact spread_eq rfl (by show a + ((c : ℕ) - 128) = _; omega) _
  hb := B.hb0

theorem later (s : Fin N) (j : Fin J) (p : Fin 4) : Step d (a + 128 * (j + 1)) (ρ + s) bt p Q K V
    (queries hargq q s j.succ p) (twoRows hargk k s j p) (twoRows hargv v s j p) b where
  hd := B.hd
  ha := by have := B.ha; omega
  hρ := by have := B.hρ; omega
  hq := fun r l => by
    rw [queries, part_at, B.hq]
    exact spread_eq rfl (by simp; omega) _
  hk := fun c l hc => by
    rw [twoRows, part_at, B.hk]
    exact spread_eq rfl (by simp; omega) _
  hv := fun c l hc => by
    rw [twoRows, part_at, B.hv]
    exact spread_eq rfl (by simp; omega) _
  hb := fun h r c => by
    rw [B.hb]
    have : 128 ≤ a + 128 * ((j : ℕ) + 1) + c := by omega
    simp [this]

/-- Every piece of the output holds the reference's values. -/
theorem out_piece (Ns : List (Fin N)) (Js : List (Fin J)) : ∀ pc ∈ outPieces hargq hargk' hargk hargv' hargv q k' k v' v b0 b Ns Js,
    ∀ x, pc.2 x = (fun y => spread d a ρ bt (refOut (BitVec.ofNat 32 (128 * d)) (BitVec.ofNat 32 d) Q K V) (y 0) (y 1))
      (pc.1.emb x) := by
  intro pc hpc x
  simp only [outPieces, List.mem_flatMap, List.mem_append, List.mem_map] at hpc
  obtain ⟨s, -, ⟨j, -, p, -, rfl⟩ | ⟨p, -, rfl⟩⟩ := hpc
  · obtain ⟨r, l, rfl⟩ : ∃ r l : Fin 128, x = ix2 r l := ⟨x 0, x 1, by funext i; fin_cases i <;> rfl⟩
    refine ((B.later hargq hargk hargv s j p).out_eq r l).trans (spread_eq ?_ ?_ _).symm
    · show 512 * (s : ℕ) + 128 * p + 1 * l = _; omega
    · show a + (128 * ((j : ℕ) + 1) + 1 * r) = _; omega
  · obtain ⟨r, l, rfl⟩ : ∃ r l : Fin 128, x = ix2 r l := ⟨x 0, x 1, by funext i; fin_cases i <;> rfl⟩
    refine ((B.first hargq hargk' hargk hargv' hargv s p).out_eq r l).trans (spread_eq ?_ ?_ _).symm
    · show 512 * (s : ℕ) + 128 * p + 1 * l = _; omega
    · show a + (0 + 1 * (r : ℕ)) = _; omega

omit B in
theorem spreadLse_eq {m n : ℕ} {X : FVec Ideal S16x4096x128 .f32} {r : Fin m} {l : Fin n}
    {s : ℕ} {x : Fin 128} {i : ℕ} (hl : (l : ℕ) = 128 * s + x) (hi : a + r = i) (h : i * d + (ρ + s) < 4096) :
    spreadLse d a ρ bt X r l = X (ix3 bt ⟨i * d + (ρ + s), h⟩ x) := by
  have e1 : (l : ℕ) / 128 = s := by omega
  have e2 : (⟨(l : ℕ) % 128, by omega⟩ : Fin 128) = x := Fin.ext (by simp; omega)
  rw [spreadLse, e2, hi, e1, pos_eq h]

/-- Every piece of the log-sums holds the reference's values. -/
theorem lse_piece (hln : ln = ln2) (Ns : List (Fin N)) (Js : List (Fin J)) : ∀ pc ∈ lsePieces hargq hargk' hargk hargv' hargv q k' k v' v b0 b ln Ns Js,
    ∀ x, pc.2 x = (fun y => spreadLse d a ρ bt (refLse (BitVec.ofNat 32 (128 * d)) (BitVec.ofNat 32 d) Q K) (y 0) (y 1))
      (pc.1.emb x) := by
  subst hln
  intro pc hpc x
  simp only [lsePieces, List.mem_flatMap, List.mem_append, List.mem_map, List.mem_singleton] at hpc
  obtain ⟨s, -, ⟨j, -, rfl⟩ | rfl⟩ := hpc
  · obtain ⟨r, l, rfl⟩ : ∃ r l : Fin 128, x = ix2 r l := ⟨x 0, x 1, by funext i; fin_cases i <;> rfl⟩
    refine (lse_eq (fun p => B.later hargq hargk hargv s j p) r l).trans (spreadLse_eq ?_ ?_ _).symm
    · show 128 * (s : ℕ) + 1 * l = _; omega
    · show a + (128 * ((j : ℕ) + 1) + 1 * r) = _; omega
  · obtain ⟨r, l, rfl⟩ : ∃ r l : Fin 128, x = ix2 r l := ⟨x 0, x 1, by funext i; fin_cases i <;> rfl⟩
    refine (lse_eq (fun p => B.first hargq hargk' hargk hargv' hargv s p) r l).trans (spreadLse_eq ?_ ?_ _).symm
    · show 128 * (s : ℕ) + 1 * l = _; omega
    · show a + (0 + 1 * (r : ℕ)) = _; omega

end Block

end Cert.Attn

end

end
-- ==== Proof.Layout.lean ====
module

public import proofs.«01_k».proof.Proof.Pieces

@[expose] public section

set_option maxRecDepth 16384
set_option backward.proofsInPublic true

noncomputable section

open Idealize.ShloMosaic Idealize.ShloMosaic.TcCoe

/-! # The layout of the attention's arrays

For stride `d` the arrays have a row for each position of a residue and, side by side, the `512` (or `128`) lanes of the
`d` residues.  Row-major this is the layout by sequence, position, head and coordinate. -/

namespace Cert.Attn

variable {d a ρ m n : ℕ} (hd : IsStride d) (bt : Fin 16) (hm : m = 65536 / d)
  {r l : ℕ} {R : Fin m} {C : Fin n} (hR : (R : ℕ) = bt * (4096 / d) + (a + r)) (hr : a + r < 4096 / d)
include hd hm hR hr

section Heads

variable {m' n' : ℕ} {r' : Fin m'} {l' : Fin n'} (hn : n = 512 * d)
  (hC : (C : ℕ) = 512 * ρ + l') (hl : ρ + l' / 512 < d) (hr' : (r' : ℕ) = r)
include hn hC hl hr'

theorem flat_heads :
    ((Mat m n).rowMajor (ix2 R C)).val = (S16x4096x8x64.rowMajor (ix4 bt (pos d (a + r) (ρ + l' / 512))
      ⟨l' % 512 / 64, by omega⟩ ⟨l' % 64, by omega⟩)).val := by
  rw [Shape.rowMajor_val_two, Shape.rowMajor_val_four]
  show (R : ℕ) * n + C = ((((bt : ℕ) * 4096 + ((a + r) * d + (ρ + l' / 512)) % 4096) * 8 + l' % 512 / 64) * 64 + l' % 64)
  rw [hR, hC]
  subst hn
  rcases hd with rfl | rfl | rfl <;> omega

/-- An array read as heads. -/
theorem toHeads_spread (X : (Mat m n).Idx → EReal) (h : (Mat m n).ShapeCasts S16x4096x8x64) :
    X (ix2 R C) = spread d a ρ bt (shapeCast S16x4096x8x64 X h) r' l' := by
  subst hr'
  exact (shapeCast_apply X h _ _ (flat_heads hd bt hm hR hr hn hC hl rfl)).symm

/-- Heads read as an array. -/
theorem ofHeads_spread (X : S16x4096x8x64.Idx → EReal) (h : S16x4096x8x64.ShapeCasts (Mat m n)) :
    shapeCast (Mat m n) X h (ix2 R C) = spread d a ρ bt X r' l' := by
  subst hr'
  exact shapeCast_apply X h _ _ (flat_heads hd bt hm hR hr hn hC hl rfl).symm

end Heads

/-- Log-sums read as an array. -/
theorem ofLse_spread {m' n' : ℕ} {r' : Fin m'} {l' : Fin n'} (hn : n = 128 * d)
    (hC : (C : ℕ) = 128 * ρ + l') (hl : ρ + l' / 128 < d) (hr' : (r' : ℕ) = r)
    (X : S16x4096x128.Idx → EReal) (h : S16x4096x128.ShapeCasts (Mat m n)) :
    shapeCast (Mat m n) X h (ix2 R C) = spreadLse d a ρ bt X r' l' := by
  subst hr'
  refine shapeCast_apply X h _ _ ?_
  rw [Shape.rowMajor_val_two, Shape.rowMajor_val_three]
  show ((bt : ℕ) * 4096 + ((a + r') * d + (ρ + l' / 128)) % 4096) * 128 + l' % 128 = (R : ℕ) * n + C
  rw [hR, hC]
  subst hn
  rcases hd with rfl | rfl | rfl <;> omega

end Cert.Attn

end

end
-- ==== Proof.Attn1.lean ====
module

public import proofs.«01_k».proof.Proof.Gen.KernelIdeal.Value
public import proofs.«01_k».proof.Proof.Gen.ReferenceIdeal.Read
public import proofs.«01_k».proof.Proof.Bias
public import proofs.«01_k».proof.Proof.Layout

@[expose] public section

set_option maxRecDepth 16384
set_option backward.proofsInPublic true

noncomputable section

open Idealize.ShloMosaic Idealize.ShloMosaic.TcCoe
open Cert.Attn (after after_eq outPieces lsePieces inb2 spread spreadLse ln2 Block)

/-! # The attention call of stride 1: its two arrays and the reference's -/

namespace Cert.KernelIdeal.Gen

variable (m : (ℓ : Loc nD τ sig) → Buf (Elt Ideal) ℓ) (c : Dev nD)

/-- The mask's value. -/
abbrev mask : EReal := Named.named (F := Ideal) (φ := .f32) κ "mask" 0xF149F2CA#32

theorem mask_eq : mask = ⊥ := IdealRules.named_const.ideal_named_scalar _ _ _ _ rfl

theorem laterBias_eq : (k0_pay3 : FVec Ideal S256x256 .f32) = Cert.Attn.laterBias mask := rfl

theorem firstBias_eq (i : grid0.Coords) :
    (k0_pay5 (k0_pay4 i) : FVec Ideal S256x256 .f32) = Cert.Attn.firstBias mask (BitVec.ofNat 32 (i 2)) := rfl

/-- The constant `ln 2`. -/
abbrev lnTwo : EReal := Named.named (F := Ideal) (φ := .f32) κ "ln2" 0x3F317218#32

theorem lnTwo_eq : lnTwo = ln2 := IdealRules.named_const.ideal_named_scalar _ _ _ _ rfl

section Run

variable (i : grid0.Coords)
  {arg3 : Memref sig .tc .vmem S2048x512 .bf16} (harg3 : arg3.IsWhole)
  {arg4 : Memref sig .tc .vmem S128x512 .bf16} (harg4 : arg4.IsWhole)
  {arg5 : Memref sig .tc .vmem S2048x512 .bf16} (harg5 : arg5.IsWhole)
  {arg6 : Memref sig .tc .vmem S128x512 .bf16} (harg6 : arg6.IsWhole)
  {arg7 : Memref sig .tc .vmem S2048x512 .bf16} (harg7 : arg7.IsWhole)
  {arg8 : Memref sig .tc .vmem S2048x512 .bf16} (harg8 : arg8.IsWhole)
  {arg9 : Memref sig .tc .vmem S2048x128 .f32} (harg9 : arg9.IsWhole)
  {arg10 : Memref sig .tc .vmem S256x256 .f32} (harg10 : arg10.IsWhole)
  {arg11 : Memref sig .tc .vmem S256x256 .f32} (harg11 : arg11.IsWhole)
  (x0 : Vec Ideal S2048x512 .bf16) (x1 : Vec Ideal S128x512 .bf16) (x2 : Vec Ideal S2048x512 .bf16)
  (x3 : Vec Ideal S128x512 .bf16) (x4 : Vec Ideal S2048x512 .bf16)

/-- The body's stores to the output. -/
theorem run_out : (kernelRun0_A c i arg3 harg3 arg4 harg4 arg5 harg5 arg6 harg6 arg7 harg7 arg8 harg8 arg9 harg9
      arg10 harg10 arg11 harg11 x0 x1 x2 x3 x4).1
    = outPieces (J := 15) (N := 1) harg3 harg4 harg5 harg6 harg7 x0 x1 x2 x3 x4
      (after arg11 (k0_pay5 (k0_pay4 i))) (after arg10 k0_pay3) [0] [14, 13, 12, 11, 10, 9, 8, 7, 6, 5, 4, 3, 2, 1, 0] := rfl

/-- The body's stores to the log-sums. -/
theorem run_lse : (kernelRun0_A c i arg3 harg3 arg4 harg4 arg5 harg5 arg6 harg6 arg7 harg7 arg8 harg8 arg9 harg9
      arg10 harg10 arg11 harg11 x0 x1 x2 x3 x4).2.1
    = lsePieces (J := 15) (N := 1) harg3 harg4 harg5 harg6 harg7 x0 x1 x2 x3 x4
      (after arg11 (k0_pay5 (k0_pay4 i))) (after arg10 k0_pay3) lnTwo [0] [14, 13, 12, 11, 10, 9, 8, 7, 6, 5, 4, 3, 2, 1, 0] := rfl

end Run

/-! ## The blocks -/

theorem idx : ∀ t : Fin cfg0.N,
    win0_0.index t = ![2 * (grid0.coords t 0).val + (grid0.coords t 2).val, (grid0.coords t 1).val]
    ∧ win0_1.index t = ![32 * (grid0.coords t 0).val + (16 * (grid0.coords t 2).val - 1), (grid0.coords t 1).val]
    ∧ win0_2.index t = ![2 * (grid0.coords t 0).val + (grid0.coords t 2).val, (grid0.coords t 1).val]
    ∧ win0_3.index t = ![32 * (grid0.coords t 0).val + (16 * (grid0.coords t 2).val - 1), (grid0.coords t 1).val]
    ∧ win0_4.index t = ![2 * (grid0.coords t 0).val + (grid0.coords t 2).val, (grid0.coords t 1).val]
    ∧ win0_5.index t = ![2 * (grid0.coords t 0).val + (grid0.coords t 2).val, (grid0.coords t 1).val]
    ∧ win0_6.index t = ![2 * (grid0.coords t 0).val + (grid0.coords t 2).val, (grid0.coords t 1).val] :=
  (by decide +kernel : ∀ t : Fin grid0.N, _)

/-- The queries, the keys and the values by sequence, position, head and coordinate. -/
abbrev Q : FVec Ideal Cert.Attn.S16x4096x8x64 .f32 := Cert.ReferenceIdeal.Read.val_main_v1 (m ((c : Thread nD τ).loc main_arg0))
abbrev K : FVec Ideal Cert.Attn.S16x4096x8x64 .f32 := Cert.ReferenceIdeal.Read.val_main_v7 (m ((c : Thread nD τ).loc main_arg1))
abbrev V' : FVec Ideal Cert.Attn.S16x4096x8x64 .f32 := Cert.ReferenceIdeal.Read.val_main_v10 (m ((c : Thread nD τ).loc main_arg2))

/-- The block at a grid point holds what the statement of a block asks. -/
theorem block (t : Fin cfg0.N) : Block (J := 15) (N := 1) 1 (2048 * (grid0.coords t 2).val) (1 * (grid0.coords t 1).val)
    (grid0.coords t 0) (Q m c) (K m c) (V' m c)
    (iblk m c 0 t) (iblk m c 1 t) (iblk m c 2 t) (iblk m c 3 t) (iblk m c 4 t)
    (after scM0_1 (k0_pay5 (k0_pay4 (grid0.coords t)))) (after scM0_0 k0_pay3) := by
  have hi : (grid0.coords t 2).val < 2 := (grid0.coords t 2).isLt
  have hr : (grid0.coords t 1).val < 1 := (grid0.coords t 1).isLt
  have hb : (grid0.coords t 0).val < 16 := (grid0.coords t 0).isLt
  have ei := idx t
  refine
    { hd := (.inl rfl), ha := ?_, ha' := ?_, hρ := ?_, hq := fun r l => ?_, hk := fun r l => ?_, hv := fun r l => ?_,
      hk' := fun h r l => ?_, hv' := fun h r l => ?_, hb0 := fun h r x => ?_, hb := fun h r x => ?_ }
  · show 2048 * (grid0.coords t 2).val + 128 * (15 + 1) ≤ 4096 / 1; omega
  · omega
  · omega
  · refine Eq.trans ?_ (Cert.Attn.toHeads_spread (m := 65536) (n := 512) (r := r)
      (R := ⟨(32 * 128) * (grid0.coords t 0).val + 2048 * (grid0.coords t 2).val + r, by omega⟩)
      (C := ⟨512 * (1 * (grid0.coords t 1).val) + l, by omega⟩) (.inl rfl) _ rfl (by simp; omega) (by omega) rfl rfl (by omega) rfl _ _)
    blk_ext [iblk, V, idx t]
  · refine Eq.trans ?_ (Cert.Attn.toHeads_spread (m := 65536) (n := 512) (r := r)
      (R := ⟨(32 * 128) * (grid0.coords t 0).val + 2048 * (grid0.coords t 2).val + r, by omega⟩)
      (C := ⟨512 * (1 * (grid0.coords t 1).val) + l, by omega⟩) (.inl rfl) _ rfl (by simp; omega) (by omega) rfl rfl (by omega) rfl _ _)
    blk_ext [iblk, V, idx t]
  · refine Eq.trans ?_ (Cert.Attn.toHeads_spread (m := 65536) (n := 512) (r := r)
      (R := ⟨(32 * 128) * (grid0.coords t 0).val + 2048 * (grid0.coords t 2).val + r, by omega⟩)
      (C := ⟨512 * (1 * (grid0.coords t 1).val) + l, by omega⟩) (.inl rfl) _ rfl (by simp; omega) (by omega) rfl rfl (by omega) rfl _ _)
    blk_ext [iblk, V, idx t]
  · refine Eq.trans ?_ (Cert.Attn.toHeads_spread (m := 65536) (n := 512) (r := r)
      (R := ⟨(32 * 128) * (grid0.coords t 0).val + (2048 * (grid0.coords t 2).val - 128) + r, by omega⟩)
      (C := ⟨512 * (1 * (grid0.coords t 1).val) + l, by omega⟩) (.inl rfl) _ rfl (by simp; omega) (by omega) rfl rfl (by omega) rfl _ _)
    blk_ext [iblk, V, idx t]
  · refine Eq.trans ?_ (Cert.Attn.toHeads_spread (m := 65536) (n := 512) (r := r)
      (R := ⟨(32 * 128) * (grid0.coords t 0).val + (2048 * (grid0.coords t 2).val - 128) + r, by omega⟩)
      (C := ⟨512 * (1 * (grid0.coords t 1).val) + l, by omega⟩) (.inl rfl) _ rfl (by simp; omega) (by omega) rfl rfl (by omega) rfl _ _)
    blk_ext [iblk, V, idx t]
  · rw [after_eq, firstBias_eq, mask_eq, Cert.Attn.firstBias_at _ (by omega)]
    refine if_congr ?_ rfl rfl
    have : (grid0.coords t 2).val = 0 → 2048 * (grid0.coords t 2).val = 0 := by omega
    constructor
    · rintro ⟨h1, h2, h3⟩; exact ⟨h1, h2, by omega⟩
    · rintro ⟨h1, h2, h3⟩; exact ⟨h1, h2, by omega⟩
  · rw [after_eq, laterBias_eq, mask_eq, Cert.Attn.laterBias_at]

/-! ## The arrays -/

/-- The body leaves the reference's output in the output's buffer. -/
theorem out_at (t : Fin cfg0.N) (y : S2048x512.Idx) : (outsAt0 m c t).1 y
    = spread 1 (2048 * (grid0.coords t 2).val) (1 * (grid0.coords t 1).val) (grid0.coords t 0)
      (Cert.Attn.refOut (BitVec.ofNat 32 (128 * 1)) (BitVec.ofNat 32 1) (Q m c) (K m c) (V' m c)) (y 0) (y 1) := by
  rw [outsAt0]
  dsimp only
  rw [out0_A_5, View.read_writes_junk_eq_canon]
  refine View.canon_apply_of_pieces (Val := Elt Ideal) (fun y => spread 1 (2048 * (grid0.coords t 2).val) (1 * (grid0.coords t 1).val)
    (grid0.coords t 0) (Cert.Attn.refOut (BitVec.ofNat 32 (128 * 1)) (BitVec.ofNat 32 1) (Q m c) (K m c) (V' m c))
    (y 0) (y 1)) _ ?_ y (cover0_A_5 ..)
  rw [run_out]
  exact (block m c t).out_piece _ _ _ _ _ _ _

/-- The body leaves the reference's log-sums in their buffer. -/
theorem lse_at (t : Fin cfg0.N) (y : S2048x128.Idx) : (outsAt0 m c t).2 y
    = spreadLse 1 (2048 * (grid0.coords t 2).val) (1 * (grid0.coords t 1).val) (grid0.coords t 0)
      (Cert.Attn.refLse (BitVec.ofNat 32 (128 * 1)) (BitVec.ofNat 32 1) (Q m c) (K m c)) (y 0) (y 1) := by
  rw [outsAt0]
  dsimp only
  rw [out0_A_6, View.read_writes_junk_eq_canon]
  refine View.canon_apply_of_pieces (Val := Elt Ideal) (fun y => spreadLse 1 (2048 * (grid0.coords t 2).val) (1 * (grid0.coords t 1).val)
    (grid0.coords t 0) (Cert.Attn.refLse (BitVec.ofNat 32 (128 * 1)) (BitVec.ofNat 32 1) (Q m c) (K m c))
    (y 0) (y 1)) _ ?_ y (cover0_A_6 ..)
  rw [run_lse]
  exact (block m c t).lse_piece _ _ _ _ _ _ lnTwo_eq _ _

theorem ref_out (x y z : FVec Ideal (Cert.Attn.Mat 65536 512) .bf16) : Cert.ReferenceIdeal.Read.val_main_v42 (F := Ideal) x y z
    = shapeCast (Cert.Attn.Mat 65536 512) (Cert.Attn.refOut (BitVec.ofNat 32 (128 * 1)) (BitVec.ofNat 32 1)
      (Cert.ReferenceIdeal.Read.val_main_v1 (F := Ideal) x) (Cert.ReferenceIdeal.Read.val_main_v7 (F := Ideal) y) (Cert.ReferenceIdeal.Read.val_main_v10 (F := Ideal) z)) (by decide) := rfl

theorem ref_lse (x y : FVec Ideal (Cert.Attn.Mat 65536 512) .bf16) : Cert.ReferenceIdeal.Read.val_main_v45 (F := Ideal) x y
    = shapeCast (Cert.Attn.Mat 65536 128) (Cert.Attn.refLse (BitVec.ofNat 32 (128 * 1)) (BitVec.ofNat 32 1)
      (Cert.ReferenceIdeal.Read.val_main_v1 (F := Ideal) x) (Cert.ReferenceIdeal.Read.val_main_v7 (F := Ideal) y)) (by decide) := rfl

/-- The attention's output array is the reference's. -/
theorem final_out : (dats m 0 c).arrAt 5 cfg0.N = Cert.ReferenceIdeal.Read.val_main_v42 (m ((c : Thread nD τ).loc main_arg0))
    (m ((c : Thread nD τ).loc main_arg1)) (m ((c : Thread nD τ).loc main_arg2)) := by
  refine (dats m 0 c).arrAt_eq_of_covers 5 _ (by decide +kernel) fun t _ y => ?_
  have hi : (grid0.coords t 2).val < 2 := (grid0.coords t 2).isLt
  have hr : (grid0.coords t 1).val < 1 := (grid0.coords t 1).isLt
  have hb : (grid0.coords t 0).val < 16 := (grid0.coords t 0).isLt
  have h0 : (y 0).val < 2048 := (y 0).isLt
  have h1 : (y 1).val < 512 * 1 := (y 1).isLt
  blk_simp
  rw [after0_5]
  refine (out_at m c t y).trans ?_
  rw [ref_out]
  refine Eq.trans (Cert.Attn.ofHeads_spread (m := 65536) (n := 512) (r := (y 0).val) (r' := y 0) (l' := y 1)
      (R := ⟨(32 * 128) * (grid0.coords t 0).val + 2048 * (grid0.coords t 2).val + (y 0).val, by omega⟩)
      (C := ⟨512 * (1 * (grid0.coords t 1).val) + (y 1).val, by omega⟩) (.inl rfl) _ rfl (by simp; omega) (by omega) rfl rfl
      (by omega) rfl _ (by decide)).symm ?_
  blk_ext [idx t]

/-- The array of log-sums is the reference's. -/
theorem final_lse : (dats m 0 c).arrAt 6 cfg0.N = Cert.ReferenceIdeal.Read.val_main_v45 (m ((c : Thread nD τ).loc main_arg0))
    (m ((c : Thread nD τ).loc main_arg1)) := by
  refine (dats m 0 c).arrAt_eq_of_covers 6 _ (by decide +kernel) fun t _ y => ?_
  have hi : (grid0.coords t 2).val < 2 := (grid0.coords t 2).isLt
  have hr : (grid0.coords t 1).val < 1 := (grid0.coords t 1).isLt
  have hb : (grid0.coords t 0).val < 16 := (grid0.coords t 0).isLt
  have h0 : (y 0).val < 2048 := (y 0).isLt
  have h1 : (y 1).val < 128 * 1 := (y 1).isLt
  blk_simp
  rw [after0_6]
  refine (lse_at m c t y).trans ?_
  rw [ref_lse]
  refine Eq.trans (Cert.Attn.ofLse_spread (m := 65536) (n := 128) (r := (y 0).val) (r' := y 0) (l' := y 1)
      (R := ⟨(32 * 128) * (grid0.coords t 0).val + 2048 * (grid0.coords t 2).val + (y 0).val, by omega⟩)
      (C := ⟨128 * (1 * (grid0.coords t 1).val) + (y 1).val, by omega⟩) (.inl rfl) _ rfl (by simp; omega) (by omega) rfl rfl
      (by omega) rfl _ (by decide)).symm ?_
  blk_ext [idx t]

end Cert.KernelIdeal.Gen

end

end
-- ==== Proof.Attn4.lean ====
module

public import proofs.«01_k».proof.Proof.Gen.Kernel2Ideal.Value
public import proofs.«01_k».proof.Proof.Gen.Reference2Ideal.Read
public import proofs.«01_k».proof.Proof.Bias
public import proofs.«01_k».proof.Proof.Layout

@[expose] public section

set_option maxRecDepth 16384
set_option backward.proofsInPublic true

noncomputable section

open Idealize.ShloMosaic Idealize.ShloMosaic.TcCoe
open Cert.Attn (after after_eq outPieces lsePieces inb2 spread spreadLse ln2 Block)

/-! # The attention call of stride 4: its two arrays and the reference's -/

namespace Cert.Kernel2Ideal.Gen

variable (m : (ℓ : Loc nD τ sig) → Buf (Elt Ideal) ℓ) (c : Dev nD)

/-- The mask's value. -/
abbrev mask : EReal := Named.named (F := Ideal) (φ := .f32) κ "mask" 0xF149F2CA#32

theorem mask_eq : mask = ⊥ := IdealRules.named_const.ideal_named_scalar _ _ _ _ rfl

theorem laterBias_eq : (k0_pay3 : FVec Ideal S256x256 .f32) = Cert.Attn.laterBias mask := rfl

theorem firstBias_eq (i : grid0.Coords) :
    (k0_pay5 (k0_pay4 i) : FVec Ideal S256x256 .f32) = Cert.Attn.firstBias mask (BitVec.ofNat 32 (i 2)) := rfl

/-- The constant `ln 2`. -/
abbrev lnTwo : EReal := Named.named (F := Ideal) (φ := .f32) κ "ln2" 0x3F317218#32

theorem lnTwo_eq : lnTwo = ln2 := IdealRules.named_const.ideal_named_scalar _ _ _ _ rfl

section Run

variable (i : grid0.Coords)
  {arg3 : Memref sig .tc .vmem S1024x1024 .bf16} (harg3 : arg3.IsWhole)
  {arg4 : Memref sig .tc .vmem S128x1024 .bf16} (harg4 : arg4.IsWhole)
  {arg5 : Memref sig .tc .vmem S1024x1024 .bf16} (harg5 : arg5.IsWhole)
  {arg6 : Memref sig .tc .vmem S128x1024 .bf16} (harg6 : arg6.IsWhole)
  {arg7 : Memref sig .tc .vmem S1024x1024 .bf16} (harg7 : arg7.IsWhole)
  {arg8 : Memref sig .tc .vmem S1024x1024 .bf16} (harg8 : arg8.IsWhole)
  {arg9 : Memref sig .tc .vmem S1024x256 .f32} (harg9 : arg9.IsWhole)
  {arg10 : Memref sig .tc .vmem S256x256 .f32} (harg10 : arg10.IsWhole)
  {arg11 : Memref sig .tc .vmem S256x256 .f32} (harg11 : arg11.IsWhole)
  (x0 : Vec Ideal S1024x1024 .bf16) (x1 : Vec Ideal S128x1024 .bf16) (x2 : Vec Ideal S1024x1024 .bf16)
  (x3 : Vec Ideal S128x1024 .bf16) (x4 : Vec Ideal S1024x1024 .bf16)

/-- The body's stores to the output. -/
theorem run_out : (kernelRun0_A c i arg3 harg3 arg4 harg4 arg5 harg5 arg6 harg6 arg7 harg7 arg8 harg8 arg9 harg9
      arg10 harg10 arg11 harg11 x0 x1 x2 x3 x4).1
    = outPieces (J := 7) (N := 2) harg3 harg4 harg5 harg6 harg7 x0 x1 x2 x3 x4
      (after arg11 (k0_pay5 (k0_pay4 i))) (after arg10 k0_pay3) [1, 0] [6, 5, 4, 3, 2, 1, 0] := rfl

/-- The body's stores to the log-sums. -/
theorem run_lse : (kernelRun0_A c i arg3 harg3 arg4 harg4 arg5 harg5 arg6 harg6 arg7 harg7 arg8 harg8 arg9 harg9
      arg10 harg10 arg11 harg11 x0 x1 x2 x3 x4).2.1
    = lsePieces (J := 7) (N := 2) harg3 harg4 harg5 harg6 harg7 x0 x1 x2 x3 x4
      (after arg11 (k0_pay5 (k0_pay4 i))) (after arg10 k0_pay3) lnTwo [1, 0] [6, 5, 4, 3, 2, 1, 0] := rfl

end Run

/-! ## The blocks -/

theorem idx : ∀ t : Fin cfg0.N,
    win0_0.index t = ![1 * (grid0.coords t 0).val + (grid0.coords t 2).val, (grid0.coords t 1).val]
    ∧ win0_1.index t = ![8 * (grid0.coords t 0).val + (8 * (grid0.coords t 2).val - 1), (grid0.coords t 1).val]
    ∧ win0_2.index t = ![1 * (grid0.coords t 0).val + (grid0.coords t 2).val, (grid0.coords t 1).val]
    ∧ win0_3.index t = ![8 * (grid0.coords t 0).val + (8 * (grid0.coords t 2).val - 1), (grid0.coords t 1).val]
    ∧ win0_4.index t = ![1 * (grid0.coords t 0).val + (grid0.coords t 2).val, (grid0.coords t 1).val]
    ∧ win0_5.index t = ![1 * (grid0.coords t 0).val + (grid0.coords t 2).val, (grid0.coords t 1).val]
    ∧ win0_6.index t = ![1 * (grid0.coords t 0).val + (grid0.coords t 2).val, (grid0.coords t 1).val] :=
  (by decide +kernel : ∀ t : Fin grid0.N, _)

/-- The queries, the keys and the values by sequence, position, head and coordinate. -/
abbrev Q : FVec Ideal Cert.Attn.S16x4096x8x64 .f32 := Cert.Reference2Ideal.Read.val_main_v1 (m ((c : Thread nD τ).loc main_arg0))
abbrev K : FVec Ideal Cert.Attn.S16x4096x8x64 .f32 := Cert.Reference2Ideal.Read.val_main_v7 (m ((c : Thread nD τ).loc main_arg1))
abbrev V' : FVec Ideal Cert.Attn.S16x4096x8x64 .f32 := Cert.Reference2Ideal.Read.val_main_v10 (m ((c : Thread nD τ).loc main_arg2))

/-- The block at a grid point holds what the statement of a block asks. -/
theorem block (t : Fin cfg0.N) : Block (J := 7) (N := 2) 4 (1024 * (grid0.coords t 2).val) (2 * (grid0.coords t 1).val)
    (grid0.coords t 0) (Q m c) (K m c) (V' m c)
    (iblk m c 0 t) (iblk m c 1 t) (iblk m c 2 t) (iblk m c 3 t) (iblk m c 4 t)
    (after scM0_1 (k0_pay5 (k0_pay4 (grid0.coords t)))) (after scM0_0 k0_pay3) := by
  have hi : (grid0.coords t 2).val < 1 := (grid0.coords t 2).isLt
  have hr : (grid0.coords t 1).val < 2 := (grid0.coords t 1).isLt
  have hb : (grid0.coords t 0).val < 16 := (grid0.coords t 0).isLt
  have ei := idx t
  refine
    { hd := (.inr (.inl rfl)), ha := ?_, ha' := ?_, hρ := ?_, hq := fun r l => ?_, hk := fun r l => ?_, hv := fun r l => ?_,
      hk' := fun h r l => ?_, hv' := fun h r l => ?_, hb0 := fun h r x => ?_, hb := fun h r x => ?_ }
  · show 1024 * (grid0.coords t 2).val + 128 * (7 + 1) ≤ 4096 / 4; omega
  · omega
  · omega
  · refine Eq.trans ?_ (Cert.Attn.toHeads_spread (m := 16384) (n := 2048) (r := r)
      (R := ⟨(8 * 128) * (grid0.coords t 0).val + 1024 * (grid0.coords t 2).val + r, by omega⟩)
      (C := ⟨512 * (2 * (grid0.coords t 1).val) + l, by omega⟩) (.inr (.inl rfl)) _ rfl (by simp; omega) (by omega) rfl rfl (by omega) rfl _ _)
    blk_ext [iblk, V, idx t]
  · refine Eq.trans ?_ (Cert.Attn.toHeads_spread (m := 16384) (n := 2048) (r := r)
      (R := ⟨(8 * 128) * (grid0.coords t 0).val + 1024 * (grid0.coords t 2).val + r, by omega⟩)
      (C := ⟨512 * (2 * (grid0.coords t 1).val) + l, by omega⟩) (.inr (.inl rfl)) _ rfl (by simp; omega) (by omega) rfl rfl (by omega) rfl _ _)
    blk_ext [iblk, V, idx t]
  · refine Eq.trans ?_ (Cert.Attn.toHeads_spread (m := 16384) (n := 2048) (r := r)
      (R := ⟨(8 * 128) * (grid0.coords t 0).val + 1024 * (grid0.coords t 2).val + r, by omega⟩)
      (C := ⟨512 * (2 * (grid0.coords t 1).val) + l, by omega⟩) (.inr (.inl rfl)) _ rfl (by simp; omega) (by omega) rfl rfl (by omega) rfl _ _)
    blk_ext [iblk, V, idx t]
  · refine Eq.trans ?_ (Cert.Attn.toHeads_spread (m := 16384) (n := 2048) (r := r)
      (R := ⟨(8 * 128) * (grid0.coords t 0).val + (1024 * (grid0.coords t 2).val - 128) + r, by omega⟩)
      (C := ⟨512 * (2 * (grid0.coords t 1).val) + l, by omega⟩) (.inr (.inl rfl)) _ rfl (by simp; omega) (by omega) rfl rfl (by omega) rfl _ _)
    blk_ext [iblk, V, idx t]
  · refine Eq.trans ?_ (Cert.Attn.toHeads_spread (m := 16384) (n := 2048) (r := r)
      (R := ⟨(8 * 128) * (grid0.coords t 0).val + (1024 * (grid0.coords t 2).val - 128) + r, by omega⟩)
      (C := ⟨512 * (2 * (grid0.coords t 1).val) + l, by omega⟩) (.inr (.inl rfl)) _ rfl (by simp; omega) (by omega) rfl rfl (by omega) rfl _ _)
    blk_ext [iblk, V, idx t]
  · rw [after_eq, firstBias_eq, mask_eq, Cert.Attn.firstBias_at _ (by omega)]
    refine if_congr ?_ rfl rfl
    have : (grid0.coords t 2).val = 0 → 1024 * (grid0.coords t 2).val = 0 := by omega
    constructor
    · rintro ⟨h1, h2, h3⟩; exact ⟨h1, h2, by omega⟩
    · rintro ⟨h1, h2, h3⟩; exact ⟨h1, h2, by omega⟩
  · rw [after_eq, laterBias_eq, mask_eq, Cert.Attn.laterBias_at]

/-! ## The arrays -/

/-- The body leaves the reference's output in the output's buffer. -/
theorem out_at (t : Fin cfg0.N) (y : S1024x1024.Idx) : (outsAt0 m c t).1 y
    = spread 4 (1024 * (grid0.coords t 2).val) (2 * (grid0.coords t 1).val) (grid0.coords t 0)
      (Cert.Attn.refOut (BitVec.ofNat 32 (128 * 4)) (BitVec.ofNat 32 4) (Q m c) (K m c) (V' m c)) (y 0) (y 1) := by
  rw [outsAt0]
  dsimp only
  rw [out0_A_5, View.read_writes_junk_eq_canon]
  refine View.canon_apply_of_pieces (Val := Elt Ideal) (fun y => spread 4 (1024 * (grid0.coords t 2).val) (2 * (grid0.coords t 1).val)
    (grid0.coords t 0) (Cert.Attn.refOut (BitVec.ofNat 32 (128 * 4)) (BitVec.ofNat 32 4) (Q m c) (K m c) (V' m c))
    (y 0) (y 1)) _ ?_ y (cover0_A_5 ..)
  rw [run_out]
  exact (block m c t).out_piece _ _ _ _ _ _ _

/-- The body leaves the reference's log-sums in their buffer. -/
theorem lse_at (t : Fin cfg0.N) (y : S1024x256.Idx) : (outsAt0 m c t).2 y
    = spreadLse 4 (1024 * (grid0.coords t 2).val) (2 * (grid0.coords t 1).val) (grid0.coords t 0)
      (Cert.Attn.refLse (BitVec.ofNat 32 (128 * 4)) (BitVec.ofNat 32 4) (Q m c) (K m c)) (y 0) (y 1) := by
  rw [outsAt0]
  dsimp only
  rw [out0_A_6, View.read_writes_junk_eq_canon]
  refine View.canon_apply_of_pieces (Val := Elt Ideal) (fun y => spreadLse 4 (1024 * (grid0.coords t 2).val) (2 * (grid0.coords t 1).val)
    (grid0.coords t 0) (Cert.Attn.refLse (BitVec.ofNat 32 (128 * 4)) (BitVec.ofNat 32 4) (Q m c) (K m c))
    (y 0) (y 1)) _ ?_ y (cover0_A_6 ..)
  rw [run_lse]
  exact (block m c t).lse_piece _ _ _ _ _ _ lnTwo_eq _ _

theorem ref_out (x y z : FVec Ideal (Cert.Attn.Mat 16384 2048) .bf16) : Cert.Reference2Ideal.Read.val_main_v42 (F := Ideal) x y z
    = shapeCast (Cert.Attn.Mat 16384 2048) (Cert.Attn.refOut (BitVec.ofNat 32 (128 * 4)) (BitVec.ofNat 32 4)
      (Cert.Reference2Ideal.Read.val_main_v1 (F := Ideal) x) (Cert.Reference2Ideal.Read.val_main_v7 (F := Ideal) y) (Cert.Reference2Ideal.Read.val_main_v10 (F := Ideal) z)) (by decide) := rfl

theorem ref_lse (x y : FVec Ideal (Cert.Attn.Mat 16384 2048) .bf16) : Cert.Reference2Ideal.Read.val_main_v45 (F := Ideal) x y
    = shapeCast (Cert.Attn.Mat 16384 512) (Cert.Attn.refLse (BitVec.ofNat 32 (128 * 4)) (BitVec.ofNat 32 4)
      (Cert.Reference2Ideal.Read.val_main_v1 (F := Ideal) x) (Cert.Reference2Ideal.Read.val_main_v7 (F := Ideal) y)) (by decide) := rfl

/-- The attention's output array is the reference's. -/
theorem final_out : (dats m 0 c).arrAt 5 cfg0.N = Cert.Reference2Ideal.Read.val_main_v42 (m ((c : Thread nD τ).loc main_arg0))
    (m ((c : Thread nD τ).loc main_arg1)) (m ((c : Thread nD τ).loc main_arg2)) := by
  refine (dats m 0 c).arrAt_eq_of_covers 5 _ (by decide +kernel) fun t _ y => ?_
  have hi : (grid0.coords t 2).val < 1 := (grid0.coords t 2).isLt
  have hr : (grid0.coords t 1).val < 2 := (grid0.coords t 1).isLt
  have hb : (grid0.coords t 0).val < 16 := (grid0.coords t 0).isLt
  have h0 : (y 0).val < 1024 := (y 0).isLt
  have h1 : (y 1).val < 512 * 2 := (y 1).isLt
  blk_simp
  rw [after0_5]
  refine (out_at m c t y).trans ?_
  rw [ref_out]
  refine Eq.trans (Cert.Attn.ofHeads_spread (m := 16384) (n := 2048) (r := (y 0).val) (r' := y 0) (l' := y 1)
      (R := ⟨(8 * 128) * (grid0.coords t 0).val + 1024 * (grid0.coords t 2).val + (y 0).val, by omega⟩)
      (C := ⟨512 * (2 * (grid0.coords t 1).val) + (y 1).val, by omega⟩) (.inr (.inl rfl)) _ rfl (by simp; omega) (by omega) rfl rfl
      (by omega) rfl _ (by decide)).symm ?_
  blk_ext [idx t]

/-- The array of log-sums is the reference's. -/
theorem final_lse : (dats m 0 c).arrAt 6 cfg0.N = Cert.Reference2Ideal.Read.val_main_v45 (m ((c : Thread nD τ).loc main_arg0))
    (m ((c : Thread nD τ).loc main_arg1)) := by
  refine (dats m 0 c).arrAt_eq_of_covers 6 _ (by decide +kernel) fun t _ y => ?_
  have hi : (grid0.coords t 2).val < 1 := (grid0.coords t 2).isLt
  have hr : (grid0.coords t 1).val < 2 := (grid0.coords t 1).isLt
  have hb : (grid0.coords t 0).val < 16 := (grid0.coords t 0).isLt
  have h0 : (y 0).val < 1024 := (y 0).isLt
  have h1 : (y 1).val < 128 * 2 := (y 1).isLt
  blk_simp
  rw [after0_6]
  refine (lse_at m c t y).trans ?_
  rw [ref_lse]
  refine Eq.trans (Cert.Attn.ofLse_spread (m := 16384) (n := 512) (r := (y 0).val) (r' := y 0) (l' := y 1)
      (R := ⟨(8 * 128) * (grid0.coords t 0).val + 1024 * (grid0.coords t 2).val + (y 0).val, by omega⟩)
      (C := ⟨128 * (2 * (grid0.coords t 1).val) + (y 1).val, by omega⟩) (.inr (.inl rfl)) _ rfl (by simp; omega) (by omega) rfl rfl
      (by omega) rfl _ (by decide)).symm ?_
  blk_ext [idx t]

end Cert.Kernel2Ideal.Gen

end

end
-- ==== Proof.Attn16.lean ====
module

public import proofs.«01_k».proof.Proof.Gen.Kernel3Ideal.Value
public import proofs.«01_k».proof.Proof.Gen.Reference3Ideal.Read
public import proofs.«01_k».proof.Proof.Bias
public import proofs.«01_k».proof.Proof.Layout

@[expose] public section

set_option maxRecDepth 16384
set_option backward.proofsInPublic true

noncomputable section

open Idealize.ShloMosaic Idealize.ShloMosaic.TcCoe
open Cert.Attn (after after_eq outPieces lsePieces inb2 spread spreadLse ln2 Block)

/-! # The attention call of stride 16: its two arrays and the reference's -/

namespace Cert.Kernel3Ideal.Gen

variable (m : (ℓ : Loc nD τ sig) → Buf (Elt Ideal) ℓ) (c : Dev nD)

/-- The mask's value. -/
abbrev mask : EReal := Named.named (F := Ideal) (φ := .f32) κ "mask" 0xF149F2CA#32

theorem mask_eq : mask = ⊥ := IdealRules.named_const.ideal_named_scalar _ _ _ _ rfl

theorem laterBias_eq : (k0_pay3 : FVec Ideal S256x256 .f32) = Cert.Attn.laterBias mask := rfl

theorem firstBias_eq (i : grid0.Coords) :
    (k0_pay5 (k0_pay4 i) : FVec Ideal S256x256 .f32) = Cert.Attn.firstBias mask (BitVec.ofNat 32 (i 2)) := rfl

/-- The constant `ln 2`. -/
abbrev lnTwo : EReal := Named.named (F := Ideal) (φ := .f32) κ "ln2" 0x3F317218#32

theorem lnTwo_eq : lnTwo = ln2 := IdealRules.named_const.ideal_named_scalar _ _ _ _ rfl

section Run

variable (i : grid0.Coords)
  {arg3 : Memref sig .tc .vmem S256x4096 .bf16} (harg3 : arg3.IsWhole)
  {arg4 : Memref sig .tc .vmem S128x4096 .bf16} (harg4 : arg4.IsWhole)
  {arg5 : Memref sig .tc .vmem S256x4096 .bf16} (harg5 : arg5.IsWhole)
  {arg6 : Memref sig .tc .vmem S128x4096 .bf16} (harg6 : arg6.IsWhole)
  {arg7 : Memref sig .tc .vmem S256x4096 .bf16} (harg7 : arg7.IsWhole)
  {arg8 : Memref sig .tc .vmem S256x4096 .bf16} (harg8 : arg8.IsWhole)
  {arg9 : Memref sig .tc .vmem S256x1024 .f32} (harg9 : arg9.IsWhole)
  {arg10 : Memref sig .tc .vmem S256x256 .f32} (harg10 : arg10.IsWhole)
  {arg11 : Memref sig .tc .vmem S256x256 .f32} (harg11 : arg11.IsWhole)
  (x0 : Vec Ideal S256x4096 .bf16) (x1 : Vec Ideal S128x4096 .bf16) (x2 : Vec Ideal S256x4096 .bf16)
  (x3 : Vec Ideal S128x4096 .bf16) (x4 : Vec Ideal S256x4096 .bf16)

/-- The body's stores to the output. -/
theorem run_out : (kernelRun0_A c i arg3 harg3 arg4 harg4 arg5 harg5 arg6 harg6 arg7 harg7 arg8 harg8 arg9 harg9
      arg10 harg10 arg11 harg11 x0 x1 x2 x3 x4).1
    = outPieces (J := 1) (N := 8) harg3 harg4 harg5 harg6 harg7 x0 x1 x2 x3 x4
      (after arg11 (k0_pay5 (k0_pay4 i))) (after arg10 k0_pay3) [7, 6, 5, 4, 3, 2, 1, 0] [0] := rfl

/-- The body's stores to the log-sums. -/
theorem run_lse : (kernelRun0_A c i arg3 harg3 arg4 harg4 arg5 harg5 arg6 harg6 arg7 harg7 arg8 harg8 arg9 harg9
      arg10 harg10 arg11 harg11 x0 x1 x2 x3 x4).2.1
    = lsePieces (J := 1) (N := 8) harg3 harg4 harg5 harg6 harg7 x0 x1 x2 x3 x4
      (after arg11 (k0_pay5 (k0_pay4 i))) (after arg10 k0_pay3) lnTwo [7, 6, 5, 4, 3, 2, 1, 0] [0] := rfl

end Run

/-! ## The blocks -/

theorem idx : ∀ t : Fin cfg0.N,
    win0_0.index t = ![1 * (grid0.coords t 0).val + (grid0.coords t 2).val, (grid0.coords t 1).val]
    ∧ win0_1.index t = ![2 * (grid0.coords t 0).val + (2 * (grid0.coords t 2).val - 1), (grid0.coords t 1).val]
    ∧ win0_2.index t = ![1 * (grid0.coords t 0).val + (grid0.coords t 2).val, (grid0.coords t 1).val]
    ∧ win0_3.index t = ![2 * (grid0.coords t 0).val + (2 * (grid0.coords t 2).val - 1), (grid0.coords t 1).val]
    ∧ win0_4.index t = ![1 * (grid0.coords t 0).val + (grid0.coords t 2).val, (grid0.coords t 1).val]
    ∧ win0_5.index t = ![1 * (grid0.coords t 0).val + (grid0.coords t 2).val, (grid0.coords t 1).val]
    ∧ win0_6.index t = ![1 * (grid0.coords t 0).val + (grid0.coords t 2).val, (grid0.coords t 1).val] :=
  (by decide +kernel : ∀ t : Fin grid0.N, _)

/-- The queries, the keys and the values by sequence, position, head and coordinate. -/
abbrev Q : FVec Ideal Cert.Attn.S16x4096x8x64 .f32 := Cert.Reference3Ideal.Read.val_main_v1 (m ((c : Thread nD τ).loc main_arg0))
abbrev K : FVec Ideal Cert.Attn.S16x4096x8x64 .f32 := Cert.Reference3Ideal.Read.val_main_v7 (m ((c : Thread nD τ).loc main_arg1))
abbrev V' : FVec Ideal Cert.Attn.S16x4096x8x64 .f32 := Cert.Reference3Ideal.Read.val_main_v10 (m ((c : Thread nD τ).loc main_arg2))

/-- The block at a grid point holds what the statement of a block asks. -/
theorem block (t : Fin cfg0.N) : Block (J := 1) (N := 8) 16 (256 * (grid0.coords t 2).val) (8 * (grid0.coords t 1).val)
    (grid0.coords t 0) (Q m c) (K m c) (V' m c)
    (iblk m c 0 t) (iblk m c 1 t) (iblk m c 2 t) (iblk m c 3 t) (iblk m c 4 t)
    (after scM0_1 (k0_pay5 (k0_pay4 (grid0.coords t)))) (after scM0_0 k0_pay3) := by
  have hi : (grid0.coords t 2).val < 1 := (grid0.coords t 2).isLt
  have hr : (grid0.coords t 1).val < 2 := (grid0.coords t 1).isLt
  have hb : (grid0.coords t 0).val < 16 := (grid0.coords t 0).isLt
  have ei := idx t
  refine
    { hd := (.inr (.inr rfl)), ha := ?_, ha' := ?_, hρ := ?_, hq := fun r l => ?_, hk := fun r l => ?_, hv := fun r l => ?_,
      hk' := fun h r l => ?_, hv' := fun h r l => ?_, hb0 := fun h r x => ?_, hb := fun h r x => ?_ }
  · show 256 * (grid0.coords t 2).val + 128 * (1 + 1) ≤ 4096 / 16; omega
  · omega
  · omega
  · refine Eq.trans ?_ (Cert.Attn.toHeads_spread (m := 4096) (n := 8192) (r := r)
      (R := ⟨(2 * 128) * (grid0.coords t 0).val + 256 * (grid0.coords t 2).val + r, by omega⟩)
      (C := ⟨512 * (8 * (grid0.coords t 1).val) + l, by omega⟩) (.inr (.inr rfl)) _ rfl (by simp; omega) (by omega) rfl rfl (by omega) rfl _ _)
    blk_ext [iblk, V, idx t]
  · refine Eq.trans ?_ (Cert.Attn.toHeads_spread (m := 4096) (n := 8192) (r := r)
      (R := ⟨(2 * 128) * (grid0.coords t 0).val + 256 * (grid0.coords t 2).val + r, by omega⟩)
      (C := ⟨512 * (8 * (grid0.coords t 1).val) + l, by omega⟩) (.inr (.inr rfl)) _ rfl (by simp; omega) (by omega) rfl rfl (by omega) rfl _ _)
    blk_ext [iblk, V, idx t]
  · refine Eq.trans ?_ (Cert.Attn.toHeads_spread (m := 4096) (n := 8192) (r := r)
      (R := ⟨(2 * 128) * (grid0.coords t 0).val + 256 * (grid0.coords t 2).val + r, by omega⟩)
      (C := ⟨512 * (8 * (grid0.coords t 1).val) + l, by omega⟩) (.inr (.inr rfl)) _ rfl (by simp; omega) (by omega) rfl rfl (by omega) rfl _ _)
    blk_ext [iblk, V, idx t]
  · refine Eq.trans ?_ (Cert.Attn.toHeads_spread (m := 4096) (n := 8192) (r := r)
      (R := ⟨(2 * 128) * (grid0.coords t 0).val + (256 * (grid0.coords t 2).val - 128) + r, by omega⟩)
      (C := ⟨512 * (8 * (grid0.coords t 1).val) + l, by omega⟩) (.inr (.inr rfl)) _ rfl (by simp; omega) (by omega) rfl rfl (by omega) rfl _ _)
    blk_ext [iblk, V, idx t]
  · refine Eq.trans ?_ (Cert.Attn.toHeads_spread (m := 4096) (n := 8192) (r := r)
      (R := ⟨(2 * 128) * (grid0.coords t 0).val + (256 * (grid0.coords t 2).val - 128) + r, by omega⟩)
      (C := ⟨512 * (8 * (grid0.coords t 1).val) + l, by omega⟩) (.inr (.inr rfl)) _ rfl (by simp; omega) (by omega) rfl rfl (by omega) rfl _ _)
    blk_ext [iblk, V, idx t]
  · rw [after_eq, firstBias_eq, mask_eq, Cert.Attn.firstBias_at _ (by omega)]
    refine if_congr ?_ rfl rfl
    have : (grid0.coords t 2).val = 0 → 256 * (grid0.coords t 2).val = 0 := by omega
    constructor
    · rintro ⟨h1, h2, h3⟩; exact ⟨h1, h2, by omega⟩
    · rintro ⟨h1, h2, h3⟩; exact ⟨h1, h2, by omega⟩
  · rw [after_eq, laterBias_eq, mask_eq, Cert.Attn.laterBias_at]

/-! ## The arrays -/

/-- The body leaves the reference's output in the output's buffer. -/
theorem out_at (t : Fin cfg0.N) (y : S256x4096.Idx) : (outsAt0 m c t).1 y
    = spread 16 (256 * (grid0.coords t 2).val) (8 * (grid0.coords t 1).val) (grid0.coords t 0)
      (Cert.Attn.refOut (BitVec.ofNat 32 (128 * 16)) (BitVec.ofNat 32 16) (Q m c) (K m c) (V' m c)) (y 0) (y 1) := by
  rw [outsAt0]
  dsimp only
  rw [out0_A_5, View.read_writes_junk_eq_canon]
  refine View.canon_apply_of_pieces (Val := Elt Ideal) (fun y => spread 16 (256 * (grid0.coords t 2).val) (8 * (grid0.coords t 1).val)
    (grid0.coords t 0) (Cert.Attn.refOut (BitVec.ofNat 32 (128 * 16)) (BitVec.ofNat 32 16) (Q m c) (K m c) (V' m c))
    (y 0) (y 1)) _ ?_ y (cover0_A_5 ..)
  rw [run_out]
  exact (block m c t).out_piece _ _ _ _ _ _ _

/-- The body leaves the reference's log-sums in their buffer. -/
theorem lse_at (t : Fin cfg0.N) (y : S256x1024.Idx) : (outsAt0 m c t).2 y
    = spreadLse 16 (256 * (grid0.coords t 2).val) (8 * (grid0.coords t 1).val) (grid0.coords t 0)
      (Cert.Attn.refLse (BitVec.ofNat 32 (128 * 16)) (BitVec.ofNat 32 16) (Q m c) (K m c)) (y 0) (y 1) := by
  rw [outsAt0]
  dsimp only
  rw [out0_A_6, View.read_writes_junk_eq_canon]
  refine View.canon_apply_of_pieces (Val := Elt Ideal) (fun y => spreadLse 16 (256 * (grid0.coords t 2).val) (8 * (grid0.coords t 1).val)
    (grid0.coords t 0) (Cert.Attn.refLse (BitVec.ofNat 32 (128 * 16)) (BitVec.ofNat 32 16) (Q m c) (K m c))
    (y 0) (y 1)) _ ?_ y (cover0_A_6 ..)
  rw [run_lse]
  exact (block m c t).lse_piece _ _ _ _ _ _ lnTwo_eq _ _

theorem ref_out (x y z : FVec Ideal (Cert.Attn.Mat 4096 8192) .bf16) : Cert.Reference3Ideal.Read.val_main_v42 (F := Ideal) x y z
    = shapeCast (Cert.Attn.Mat 4096 8192) (Cert.Attn.refOut (BitVec.ofNat 32 (128 * 16)) (BitVec.ofNat 32 16)
      (Cert.Reference3Ideal.Read.val_main_v1 (F := Ideal) x) (Cert.Reference3Ideal.Read.val_main_v7 (F := Ideal) y) (Cert.Reference3Ideal.Read.val_main_v10 (F := Ideal) z)) (by decide) := rfl

theorem ref_lse (x y : FVec Ideal (Cert.Attn.Mat 4096 8192) .bf16) : Cert.Reference3Ideal.Read.val_main_v45 (F := Ideal) x y
    = shapeCast (Cert.Attn.Mat 4096 2048) (Cert.Attn.refLse (BitVec.ofNat 32 (128 * 16)) (BitVec.ofNat 32 16)
      (Cert.Reference3Ideal.Read.val_main_v1 (F := Ideal) x) (Cert.Reference3Ideal.Read.val_main_v7 (F := Ideal) y)) (by decide) := rfl

/-- The attention's output array is the reference's. -/
theorem final_out : (dats m 0 c).arrAt 5 cfg0.N = Cert.Reference3Ideal.Read.val_main_v42 (m ((c : Thread nD τ).loc main_arg0))
    (m ((c : Thread nD τ).loc main_arg1)) (m ((c : Thread nD τ).loc main_arg2)) := by
  refine (dats m 0 c).arrAt_eq_of_covers 5 _ (by decide +kernel) fun t _ y => ?_
  have hi : (grid0.coords t 2).val < 1 := (grid0.coords t 2).isLt
  have hr : (grid0.coords t 1).val < 2 := (grid0.coords t 1).isLt
  have hb : (grid0.coords t 0).val < 16 := (grid0.coords t 0).isLt
  have h0 : (y 0).val < 256 := (y 0).isLt
  have h1 : (y 1).val < 512 * 8 := (y 1).isLt
  blk_simp
  rw [after0_5]
  refine (out_at m c t y).trans ?_
  rw [ref_out]
  refine Eq.trans (Cert.Attn.ofHeads_spread (m := 4096) (n := 8192) (r := (y 0).val) (r' := y 0) (l' := y 1)
      (R := ⟨(2 * 128) * (grid0.coords t 0).val + 256 * (grid0.coords t 2).val + (y 0).val, by omega⟩)
      (C := ⟨512 * (8 * (grid0.coords t 1).val) + (y 1).val, by omega⟩) (.inr (.inr rfl)) _ rfl (by simp; omega) (by omega) rfl rfl
      (by omega) rfl _ (by decide)).symm ?_
  blk_ext [idx t]

/-- The array of log-sums is the reference's. -/
theorem final_lse : (dats m 0 c).arrAt 6 cfg0.N = Cert.Reference3Ideal.Read.val_main_v45 (m ((c : Thread nD τ).loc main_arg0))
    (m ((c : Thread nD τ).loc main_arg1)) := by
  refine (dats m 0 c).arrAt_eq_of_covers 6 _ (by decide +kernel) fun t _ y => ?_
  have hi : (grid0.coords t 2).val < 1 := (grid0.coords t 2).isLt
  have hr : (grid0.coords t 1).val < 2 := (grid0.coords t 1).isLt
  have hb : (grid0.coords t 0).val < 16 := (grid0.coords t 0).isLt
  have h0 : (y 0).val < 256 := (y 0).isLt
  have h1 : (y 1).val < 128 * 8 := (y 1).isLt
  blk_simp
  rw [after0_6]
  refine (lse_at m c t y).trans ?_
  rw [ref_lse]
  refine Eq.trans (Cert.Attn.ofLse_spread (m := 4096) (n := 2048) (r := (y 0).val) (r' := y 0) (l' := y 1)
      (R := ⟨(2 * 128) * (grid0.coords t 0).val + 256 * (grid0.coords t 2).val + (y 0).val, by omega⟩)
      (C := ⟨128 * (8 * (grid0.coords t 1).val) + (y 1).val, by omega⟩) (.inr (.inr rfl)) _ rfl (by simp; omega) (by omega) rfl rfl
      (by omega) rfl _ (by decide)).symm ?_
  blk_ext [idx t]

end Cert.Kernel3Ideal.Gen

end

end
-- ==== Proof.OutRead.lean ====
module

public import proofs.«01_k».proof.Proof.Pieces
public import Idealize.ShloMosaic.Lib.Pipeline.StridedRows

@[expose] public section

set_option maxRecDepth 16384
set_option backward.proofsInPublic true

noncomputable section

open Idealize.ShloMosaic Idealize.ShloMosaic.TcCoe
open Cert.Attn (Mat inb2 box)
open Idealize.ShloMosaic.StridedRows (Plane Row rowRect rowRect_emb_val)

/-! # Rows brought back into order

An array of pattern `D` lies in `N` rows of `D` residues.  The kernel stores each residue at a stride of `D` rows into a
scratch buffer and reads the buffer whole: row `i` is then row `i / D` of residue `i % D`. -/

namespace Cert.Out

/-- A read of a buffer whose stores all agree with one value, and cover what is read, brings that value. -/
theorem readCov_of_pieces {sig : RefSig} {κ : Kind} {sp : Space} {s : Shape} {e : EltTy} (v : View sig κ sp s e)
    (G : s.Idx → Elt Ideal e) (L : List (View.Piece (Elt Ideal) s e)) (h : ∀ p ∈ L, ∀ x, p.2 x = G (p.1.emb x))
    (B : LoadRect s) (x : B.shape.Idx) (cov : ∃ p ∈ L, B.idx x ∈ p.1.set) : v.readCov (Val := Elt Ideal) L B x = G (B.idx x) := by
  rw [View.readCov_eq_canon']
  exact View.canon_apply_of_pieces (Val := Elt Ideal) G L h _ cov

/-- The entry of a matrix at two numbers (zero outside). -/
def entry {m n : ℕ} (x : (Mat m n).Idx → EReal) (i j : ℕ) : EReal :=
  if h : i < m ∧ j < n then x (ix2 ⟨i, h.1⟩ ⟨j, h.2⟩) else 0

theorem entry_of {m n : ℕ} (x : (Mat m n).Idx → EReal) {i j : ℕ} (hi : i < m) (hj : j < n) :
    entry x i j = x (ix2 ⟨i, hi⟩ ⟨j, hj⟩) := dif_pos ⟨hi, hj⟩

section Load

variable {sig : RefSig} {m n : ℕ} {e : EltTy} {arg : Memref sig .tc .vmem (Mat m n) e} (h : arg.IsWhole)
  (x : Vec Ideal (Mat m n) e)

/-- The part of a block that a load brings. -/
def load (k l o o' : ℕ) (ho : o + k ≤ m) (ho' : o' + l ≤ n) : Vec Ideal (Mat k l) e :=
  View.readAt (Elt Ideal) arg.view (box k l o o' ho ho').toLoadRect (h.unread x)

theorem load_at (k l o o' : ℕ) (ho : o + k ≤ m) (ho' : o' + l ≤ n) (r : Fin k) (c : Fin l) :
    load h x k l o o' ho ho' (ix2 r c) = x (ix2 ⟨o + r, by omega⟩ ⟨o' + c, by omega⟩) := by
  rw [load, View.readAt_eq_ld, h.read_unread]
  refine congrArg x (funext fun a => Fin.ext ?_)
  match a with
  | ⟨0, _⟩ => show o + 1 * (r : ℕ) = o + r; omega
  | ⟨1, _⟩ => show o' + 1 * (c : ℕ) = o' + c; omega

end Load

variable {sig : RefSig} {N D : ℕ}

/-- Row `r + D n` of `N D` rows. -/
theorem div_mod_row {r n i : ℕ} (hr : r < D) (hi : i = r + D * n) : i / D = n ∧ i % D = r := by
  subst hi
  constructor
  · rw [Nat.add_mul_div_left _ _ (by omega), Nat.div_eq_of_lt hr, Nat.zero_add]
  · rw [Nat.add_mul_mod_self_left, Nat.mod_eq_of_lt hr]

theorem row_lt (i : Fin (N * D)) : (i : ℕ) / D < N :=
  Nat.div_lt_of_lt_mul (lt_of_lt_of_eq i.isLt (Nat.mul_comm N D))

section Slabs

variable {arg : Memref sig .tc .vmem (Mat N (512 * D)) .bf16} (h : arg.IsWhole) (x : Vec Ideal (Mat N (512 * D)) .bf16)

theorem oneCast : (Mat N 128).ShapeCasts (Row N 128) := by
  simp [Shape.ShapeCasts, Shape.numel, Fin.prod_univ_succ]

/-- The store of a residue's rows in one of four slabs of 128 columns. -/
def slabRows (r : Fin D) (s : Fin 4) : View.Piece (Elt Ideal) (Plane 4 N D 128) .f32 :=
  ⟨rowRect le_rfl s r, shapeCast (Row N 128)
    (extf (F := Ideal) (φ := .bf16) .f32 (load (e := .bf16) h x N 128 0 (512 * r + 128 * s) (by omega) (by omega)) (by decide)) oneCast⟩

/-- A slab's rows in order: row `i` is row `i / D` of residue `i % D`. -/
theorem slab_read {arg' : Memref sig .tc .vmem (Plane 4 N D 128) .f32} (R : List (Fin D)) (S : List (Fin 4))
    (hR : ∀ r, r ∈ R) (hS : ∀ s, s ∈ S) (s : Fin 4)
    (inb : ∀ a, (![(s : ℕ), 0, 0] : Fin 3 → ℕ) a + (![1, N * D, 128] : Fin 3 → ℕ) a ≤ (Plane 4 N D 128).size a)
    (hD : 0 < D) (i : Fin (N * D)) (l : Fin 128) :
    arg'.view.readCov (Val := Elt Ideal) (R.flatMap fun r => S.map (slabRows h x r))
        (Rect.unit (s := Plane 4 N D 128) ![(s : ℕ), 0, 0] ![1, N * D, 128] inb).toLoadRect (ix3 (0 : Fin 1) i l)
      = entry x (i / D) (512 * (i % D) + 128 * s + l) := by
  refine (readCov_of_pieces arg'.view (fun y : (Plane 4 N D 128).Idx =>
    entry x ((y 1).val / D) (512 * ((y 1).val % D) + 128 * (y 0).val + (y 2).val)) _ ?_ _ _ ?_).trans ?_
  · intro p hp y
    obtain ⟨r, _, hp⟩ := List.mem_flatMap.1 hp
    obtain ⟨s', _, rfl⟩ := List.mem_map.1 hp
    have hy : ∃ (n : Fin N) (k : Fin 128), y = ix3 (0 : Fin 1) n k :=
      ⟨y 1, y 2, by funext a; match a with | ⟨0, _⟩ => exact Subsingleton.elim (α := Fin 1) _ _ | ⟨1, _⟩ => rfl | ⟨2, _⟩ => rfl⟩
    obtain ⟨n, k, rfl⟩ := hy
    obtain ⟨e0, e1, e2⟩ := rowRect_emb_val (C := 4) (N := N) (DP := D) (L := 128) le_rfl s' r (ix3 (0 : Fin 1) n k)
    obtain ⟨q1, q2⟩ := div_mod_row (D := D) r.isLt e1
    dsimp only [slabRows]
    rw [shapeCast_apply _ _ _ (ix2 n k) (by rw [Shape.rowMajor_val_two, Shape.rowMajor_val_three]; simp)]
    refine (load_at (e := .bf16) h x N 128 0 (512 * r + 128 * s') _ _ n k).trans ((entry_of _ _ _).symm.trans ?_)
    exact congrArg₂ (entry x) ((Nat.zero_add _).trans q1.symm)
      (congrArg₂ (· + ·) (congrArg₂ (· + ·) (congrArg (512 * ·) q2.symm) (congrArg (128 * ·) e0.symm)) e2.symm)
  · refine ⟨slabRows h x ⟨i % D, Nat.mod_lt _ hD⟩ s, List.mem_flatMap.2 ⟨_, hR _, List.mem_map.2 ⟨_, hS _, rfl⟩⟩, ?_⟩
    rw [LoadRect.mem_set]
    intro a
    match a with
    | ⟨0, _⟩ => exact ⟨0, Nat.one_pos, rfl⟩
    | ⟨1, _⟩ =>
      refine ⟨i / D, row_lt i, ?_⟩
      show 0 + 1 * (i : ℕ) = i % D + D * (i / D)
      have := Nat.mod_add_div (i : ℕ) D; omega
    | ⟨2, _⟩ => exact ⟨l, l.isLt, rfl⟩
  · show entry x ((0 + 1 * (i : ℕ)) / D) (512 * ((0 + 1 * (i : ℕ)) % D) + 128 * (s + 1 * 0) + (0 + 1 * (l : ℕ))) = _
    simp only [Nat.zero_add, Nat.one_mul, Nat.mul_zero, Nat.add_zero]

end Slabs

section Rows

variable {arg : Memref sig .tc .vmem (Mat N (128 * D)) .f32} (h : arg.IsWhole) (x : Vec Ideal (Mat N (128 * D)) .f32)

/-- The rows of a residue. -/
def rows (r : Fin D) : Rect (Mat (N * D) 128) where
  off := ![(r : ℕ), 0]
  size := ![N, 128]
  stride := ![D, 1]
  inb a := (rowRect (C := 1) (N := N) (L := 128) (DP := D) le_rfl 0 r).inb a.succ
  stride_pos a := (rowRect (C := 1) (N := N) (L := 128) (DP := D) le_rfl 0 r).stride_pos a.succ

theorem sameCast : (Mat N 128).ShapeCasts (Mat N 128) := rfl

/-- The store of a residue's rows of the log-sums. -/
def lseRows (r : Fin D) : View.Piece (Elt Ideal) (Mat (N * D) 128) .f32 :=
  ⟨rows r, shapeCast (Mat N 128) (load (e := .f32) h x N 128 0 (128 * r) (by omega) (by omega)) sameCast⟩

/-- The log-sums' rows in order. -/
theorem lse_read {arg' : Memref sig .tc .vmem (Mat (N * D) 128) .f32} (R : List (Fin D)) (hR : ∀ r, r ∈ R)
    (inb : ∀ a, (![0, 0] : Fin 2 → ℕ) a + (![N * D, 128] : Fin 2 → ℕ) a ≤ (Mat (N * D) 128).size a)
    (hD : 0 < D) (i : Fin (N * D)) (l : Fin 128) :
    arg'.view.readCov (Val := Elt Ideal) (R.map (lseRows h x))
        (Rect.unit (s := Mat (N * D) 128) ![0, 0] ![N * D, 128] inb).toLoadRect (ix2 i l)
      = entry x (i / D) (128 * (i % D) + l) := by
  refine (readCov_of_pieces arg'.view (fun y : (Mat (N * D) 128).Idx =>
    entry x ((y 0).val / D) (128 * ((y 0).val % D) + (y 1).val)) _ ?_ _ _ ?_).trans ?_
  · intro p hp y
    obtain ⟨r, _, rfl⟩ := List.mem_map.1 hp
    have hy : ∃ (n : Fin N) (k : Fin 128), y = ix2 n k :=
      ⟨y 0, y 1, by funext a; match a with | ⟨0, _⟩ => rfl | ⟨1, _⟩ => rfl⟩
    obtain ⟨n, k, rfl⟩ := hy
    have e1 : ((rows (N := N) r).emb (ix2 n k) 0).val = r + D * n := rfl
    have e2 : ((rows (N := N) r).emb (ix2 n k) 1).val = k := by show 0 + 1 * (k : ℕ) = k; omega
    obtain ⟨q1, q2⟩ := div_mod_row (D := D) r.isLt e1
    dsimp only [lseRows]
    rw [shapeCast_apply _ _ _ (ix2 n k) rfl]
    refine (load_at (e := .f32) h x N 128 0 (128 * r) _ _ n k).trans ((entry_of _ _ _).symm.trans ?_)
    exact congrArg₂ (entry x) ((Nat.zero_add _).trans q1.symm)
      (congrArg₂ (· + ·) (congrArg (128 * ·) q2.symm) e2.symm)
  · refine ⟨lseRows h x ⟨i % D, Nat.mod_lt _ hD⟩, List.mem_map.2 ⟨_, hR _, rfl⟩, ?_⟩
    rw [LoadRect.mem_set]
    intro a
    match a with
    | ⟨0, _⟩ =>
      refine ⟨i / D, row_lt i, ?_⟩
      show 0 + 1 * (i : ℕ) = i % D + D * (i / D)
      have := Nat.mod_add_div (i : ℕ) D; omega
    | ⟨1, _⟩ => exact ⟨l, l.isLt, rfl⟩
  · show entry x ((0 + 1 * (i : ℕ)) / D) (128 * ((0 + 1 * (i : ℕ)) % D) + (0 + 1 * (l : ℕ))) = _
    simp only [Nat.zero_add, Nat.one_mul]

end Rows

end Cert.Out

end

end
-- ==== Proof.ProjViews.lean ====
module

public import proofs.«01_k».proof.Proof.OutRead
public import proofs.«01_k».proof.Proof.Gen.Kernel4Ideal.Value

@[expose] public section

set_option maxRecDepth 16384
set_option backward.proofsInPublic true

noncomputable section

open Idealize.ShloMosaic Idealize.ShloMosaic.TcCoe
open Cert.Attn (Mat inb2 box)
open Cert.Out (readCov_of_pieces)

/-! # The views of the projected heads

The queries, the keys and the values of a block of 512 rows are written in order, and in the order of the patterns 4 and 16.
The kernel stores the rows in four slabs of 128 columns, reads each slab at a stride of four rows into sixteen planes (residue and
slab), and reads these planes at a stride of four rows again. -/

namespace Cert.Kernel4Ideal.Gen

/-! ## The slabs -/

theorem slotInb (j : Fin 3) (a : Fin 4) : (![(j : ℕ), 0, 0, 0] : Fin 4 → ℕ) a + S1x4x512x128.size a ≤ S3x4x512x128.size a := by
  match a with
  | ⟨0, _⟩ => exact j.isLt
  | ⟨1, _⟩ => exact le_rfl
  | ⟨2, _⟩ => exact le_rfl
  | ⟨3, _⟩ => exact le_rfl

theorem slabInb (s : Fin 4) (a : Fin 3) : (![(s : ℕ), 0, 0] : Fin 3 → ℕ) a + S1x512x128.size a ≤ S4x512x128.size a := by
  match a with
  | ⟨0, _⟩ => exact s.isLt
  | ⟨1, _⟩ => exact le_rfl
  | ⟨2, _⟩ => exact le_rfl

theorem slabSlices : ∀ s : Fin 4, S512x512.Slices ![0, 128 * (s : ℕ)] S512x128 := by decide

/-- The store of a slab of a value in slot `j`. -/
def slabPiece (v : FVec Ideal S512x512 .f32) (j : Fin 3) (s : Fin 4) : View.Piece (Elt Ideal) S3x4x512x128 .f32 :=
  ⟨(Rect.unit (s := S3x4x512x128) ![(j : ℕ), 0, 0, 0] S1x4x512x128.size (slotInb j)).within
      ((Rect.unit (s := S4x512x128) ![(s : ℕ), 0, 0] S1x512x128.size (slabInb s)).consLift ![1, 4, 512, 128] rfl (by decide)) (fun _ => rfl),
    Rect.payAlong (Rect.numel_consLift (Rect.unit (s := S4x512x128) ![(s : ℕ), 0, 0] S1x512x128.size (slabInb s)) ![1, 4, 512, 128] rfl (by decide))
      (shapeCast S1x512x128 (extractStridedSlice S512x128 ![0, 128 * (s : ℕ)] v (slabSlices s)) shapeCasts_S512x128_S1x512x128)⟩

/-- What the slabs hold: the three values. -/
def slabVal (V : Fin 3 → FVec Ideal S512x512 .f32) (y : S3x4x512x128.Idx) : EReal :=
  V (y 0) (ix2 (⟨(y 2).val, (y 2).isLt⟩ : Fin 512) (⟨128 * (y 1).val + (y 3).val, by
    have h1 : (y 1).val < 4 := (y 1).isLt
    have h3 : (y 3).val < 128 := (y 3).isLt
    omega⟩ : Fin 512))

theorem slabPiece_at (V : Fin 3 → FVec Ideal S512x512 .f32) (j : Fin 3) (s : Fin 4) (x) :
    (slabPiece (V j) j s).2 x = slabVal V ((slabPiece (V j) j s).1.emb x) := by
  have h0 : (x 0).val < 1 := (x 0).isLt
  have h1 : (x 1).val < 1 := (x 1).isLt
  have h2 : (x 2).val < 512 := (x 2).isLt
  have h3 : (x 3).val < 128 := (x 3).isLt
  have e0 : ((slabPiece (V j) j s).1.emb x 0).val = (j + 0) + 1 * (x 0).val := rfl
  have e1 : ((slabPiece (V j) j s).1.emb x 1).val = (0 + s) + 1 * (x 1).val := rfl
  have e2 : ((slabPiece (V j) j s).1.emb x 2).val = (0 + 0) + 1 * (x 2).val := rfl
  have e3 : ((slabPiece (V j) j s).1.emb x 3).val = (0 + 0) + 1 * (x 3).val := rfl
  refine (Rect.payAlong_consLift (Rect.unit (s := S4x512x128) ![(s : ℕ), 0, 0] S1x512x128.size (slabInb s)) ![1, 4, 512, 128] rfl
    (by decide) (shapeCast S1x512x128 (extractStridedSlice S512x128 ![0, 128 * (s : ℕ)] (V j) (slabSlices s)) shapeCasts_S512x128_S1x512x128)
    (Rect.numel_consLift _ _ _ _) x (ix3 (⟨(x 1).val, h1⟩ : Fin 1) (⟨(x 2).val, h2⟩ : Fin 512) (⟨(x 3).val, h3⟩ : Fin 128))
    fun i => by match i with | ⟨0, _⟩ => rfl | ⟨1, _⟩ => rfl | ⟨2, _⟩ => rfl).trans ?_
  rw [shapeCast_apply _ _ _ (ix2 (⟨(x 2).val, h2⟩ : Fin 512) (⟨(x 3).val, h3⟩ : Fin 128)) (by
    rw [Shape.rowMajor_val_two, Shape.rowMajor_val_three]; simp)]
  unfold slabVal
  have ej : (slabPiece (V j) j s).1.emb x 0 = j := Fin.ext (by rw [e0]; omega)
  rw [ej]
  refine congrArg (V j) (funext fun a => Fin.ext ?_)
  match a with
  | ⟨0, _⟩ => show 0 + (x 2).val = ((slabPiece (V j) j s).1.emb x 2).val; rw [e2]; omega
  | ⟨1, _⟩ =>
    show 128 * (s : ℕ) + (x 3).val = 128 * ((slabPiece (V j) j s).1.emb x 1).val + ((slabPiece (V j) j s).1.emb x 3).val
    rw [e1, e3]; omega

theorem rowsInb (s r : Fin 4) (a : Fin 3) : (![1, 128, 128] : Fin 3 → ℕ) a = 0 ∨
    (![(s : ℕ), (r : ℕ), 0] : Fin 3 → ℕ) a + (![1, 4, 1] : Fin 3 → ℕ) a * ((![1, 128, 128] : Fin 3 → ℕ) a - 1) < S4x512x128.size a := by
  match a with
  | ⟨0, _⟩ => exact .inr (by show (s : ℕ) + 1 * (1 - 1) < 4; omega)
  | ⟨1, _⟩ => exact .inr (by show (r : ℕ) + 4 * (128 - 1) < 512; omega)
  | ⟨2, _⟩ => exact .inr (by show 0 + 1 * (128 - 1) < 128; omega)

/-- The rows of residue `r` modulo four of a slab. -/
def slabRows (j : Fin 3) (s r : Fin 4) : LoadRect S3x4x512x128 :=
  (Rect.unit (s := S3x4x512x128) ![(j : ℕ), 0, 0, 0] S1x4x512x128.size (slotInb j)).withinL
    (({ off := ![(s : ℕ), (r : ℕ), 0], size := S1x128x128.size, stride := ![1, 4, 1], inb := rowsInb s r } : LoadRect S4x512x128).consLift
      ![1, 4, 512, 128] rfl (by decide)) (fun _ => rfl)

theorem slabRows_numel (j : Fin 3) (s r : Fin 4) : S1x128x128.numel = (slabRows j s r).shape.numel := by
  show _ = Shape.numel ⟨4, Fin.cons 1 ![1, 128, 128]⟩
  decide

/-- A read of these rows. -/
def readRows (arg27 : Memref sig .tc .vmem S3x4x512x128 .f32) (L : List (View.Piece (Elt Ideal) S3x4x512x128 .f32)) (j : Fin 3) (s r : Fin 4) :
    Vec Ideal S1x128x128 .f32 :=
  fun x => arg27.view.readCov (Val := Elt Ideal) L (slabRows j s r) (Shape.reshapeEquiv (slabRows_numel j s r) x)

/-- A read of these rows brings the rows `r + 4 n` of the value's slab. -/
theorem readRows_at (V : Fin 3 → FVec Ideal S512x512 .f32) (arg27 : Memref sig .tc .vmem S3x4x512x128 .f32)
    (L : List (View.Piece (Elt Ideal) S3x4x512x128 .f32)) (hL : ∀ p ∈ L, ∀ x, p.2 x = slabVal V (p.1.emb x))
    (j : Fin 3) (hj : ∀ s, slabPiece (V j) j s ∈ L) (s r : Fin 4) (n l : Fin 128) :
    readRows arg27 L j s r (ix3 (0 : Fin 1) n l) = V j (ix2 (⟨r + 4 * n, by omega⟩ : Fin 512) (⟨128 * s + l, by omega⟩ : Fin 512)) := by
  unfold readRows
  have e : Shape.reshapeEquiv (slabRows_numel j s r) (ix3 (0 : Fin 1) n l)
      = (Fin.cons (⟨0, Nat.one_pos⟩ : Fin 1) (ix3 (0 : Fin 1) n l) : (slabRows j s r).shape.Idx) :=
    Shape.reshapeEquiv_cons_one (d := ![1, 128, 128]) (slabRows_numel j s r) (ix3 (0 : Fin 1) n l)
  rw [e]
  have i0 : ((slabRows j s r).idx (Fin.cons (⟨0, Nat.one_pos⟩ : Fin 1) (ix3 (0 : Fin 1) n l)) 0).val = (j + 0) + 1 * 0 := rfl
  have i1 : ((slabRows j s r).idx (Fin.cons (⟨0, Nat.one_pos⟩ : Fin 1) (ix3 (0 : Fin 1) n l)) 1).val = (0 + s) + 1 * 0 := rfl
  have i2 : ((slabRows j s r).idx (Fin.cons (⟨0, Nat.one_pos⟩ : Fin 1) (ix3 (0 : Fin 1) n l)) 2).val = (0 + r) + 4 * n := rfl
  have i3 : ((slabRows j s r).idx (Fin.cons (⟨0, Nat.one_pos⟩ : Fin 1) (ix3 (0 : Fin 1) n l)) 3).val = (0 + 0) + 1 * l := rfl
  refine (readCov_of_pieces arg27.view (slabVal V) L hL _ _ ⟨_, hj s, ?_⟩).trans ?_
  · rw [LoadRect.mem_set]
    intro a
    match a with
    | ⟨0, _⟩ => exact ⟨0, Nat.one_pos, rfl⟩
    | ⟨1, _⟩ => exact ⟨0, Nat.one_pos, rfl⟩
    | ⟨2, _⟩ => exact ⟨r + 4 * n, by show (r : ℕ) + 4 * n < 512; omega, i2.trans (by show _ = (0 + 0) + 1 * ((r : ℕ) + 4 * n); omega)⟩
    | ⟨3, _⟩ => exact ⟨l, l.isLt, i3.trans rfl⟩
  · unfold slabVal
    have ej : (slabRows j s r).idx (Fin.cons (⟨0, Nat.one_pos⟩ : Fin 1) (ix3 (0 : Fin 1) n l)) 0 = j := Fin.ext (i0.trans (by omega))
    rw [ej]
    refine congrArg (V j) (funext fun a => Fin.ext ?_)
    match a with
    | ⟨0, _⟩ => exact i2.trans (by show _ = (r : ℕ) + 4 * n; omega)
    | ⟨1, _⟩ =>
      refine (congrArg₂ (fun a b => 128 * a + b) i1 i3).trans ?_
      show 128 * ((0 + (s : ℕ)) + 1 * 0) + ((0 + 0) + 1 * (l : ℕ)) = 128 * s + l
      omega

/-! ## The planes -/

theorem slotInb' (j : Fin 3) (a : Fin 4) : (![(j : ℕ), 0, 0, 0] : Fin 4 → ℕ) a + S1x16x128x128.size a ≤ S3x16x128x128.size a := by
  match a with
  | ⟨0, _⟩ => exact j.isLt
  | ⟨1, _⟩ => exact le_rfl
  | ⟨2, _⟩ => exact le_rfl
  | ⟨3, _⟩ => exact le_rfl

theorem planeInb (q : Fin 16) (a : Fin 3) : (![(q : ℕ), 0, 0] : Fin 3 → ℕ) a + S1x128x128.size a ≤ S16x128x128.size a := by
  match a with
  | ⟨0, _⟩ => exact q.isLt
  | ⟨1, _⟩ => exact le_rfl
  | ⟨2, _⟩ => exact le_rfl

/-- The rows of a read as a matrix. -/
def rowsOf (v : Vec Ideal S1x128x128 .f32) : FVec Ideal S128x128 .f32 := shapeCast S128x128 v shapeCasts_S1x128x128_S128x128

theorem rowsOf_at (v : Vec Ideal S1x128x128 .f32) (n l : Fin 128) : rowsOf v (ix2 n l) = v (ix3 (0 : Fin 1) n l) :=
  shapeCast_apply _ _ _ _ (by rw [Shape.rowMajor_val_two, Shape.rowMajor_val_three]; simp)

/-- The store of a matrix in plane `q` of slot `j`. -/
def planePiece (v : FVec Ideal S128x128 .f32) (j : Fin 3) (q : Fin 16) : View.Piece (Elt Ideal) S3x16x128x128 .f32 :=
  ⟨(Rect.unit (s := S3x16x128x128) ![(j : ℕ), 0, 0, 0] S1x16x128x128.size (slotInb' j)).within
      ((Rect.unit (s := S16x128x128) ![(q : ℕ), 0, 0] S1x128x128.size (planeInb q)).consLift ![1, 16, 128, 128] rfl (by decide)) (fun _ => rfl),
    Rect.payAlong (Rect.numel_consLift (Rect.unit (s := S16x128x128) ![(q : ℕ), 0, 0] S1x128x128.size (planeInb q)) ![1, 16, 128, 128] rfl (by decide))
      (shapeCast S1x128x128 v shapeCasts_S128x128_S1x128x128)⟩

/-- What the planes hold: the rows `r + 4 n` of a slab. -/
def planeVal (V : Fin 3 → FVec Ideal S512x512 .f32) (y : S3x16x128x128.Idx) : EReal :=
  V (y 0) (ix2 (⟨(y 1).val / 4 + 4 * (y 2).val, by
    have h1 : (y 1).val < 16 := (y 1).isLt
    have h3 : (y 2).val < 128 := (y 2).isLt
    omega⟩ : Fin 512) (⟨128 * ((y 1).val % 4) + (y 3).val, by
    have h3 : (y 3).val < 128 := (y 3).isLt
    omega⟩ : Fin 512))

theorem planePiece_at (V : Fin 3 → FVec Ideal S512x512 .f32) (j : Fin 3) (q : Fin 16) (v : FVec Ideal S128x128 .f32)
    (hv : ∀ n l : Fin 128, v (ix2 n l) = V j (ix2 (⟨q / 4 + 4 * n, by omega⟩ : Fin 512) (⟨128 * (q % 4) + l, by omega⟩ : Fin 512))) (x) :
    (planePiece v j q).2 x = planeVal V ((planePiece v j q).1.emb x) := by
  have h0 : (x 0).val < 1 := (x 0).isLt
  have h1 : (x 1).val < 1 := (x 1).isLt
  have h2 : (x 2).val < 128 := (x 2).isLt
  have h3 : (x 3).val < 128 := (x 3).isLt
  have e0 : ((planePiece v j q).1.emb x 0).val = (j + 0) + 1 * (x 0).val := rfl
  have e1 : ((planePiece v j q).1.emb x 1).val = (0 + q) + 1 * (x 1).val := rfl
  have e2 : ((planePiece v j q).1.emb x 2).val = (0 + 0) + 1 * (x 2).val := rfl
  have e3 : ((planePiece v j q).1.emb x 3).val = (0 + 0) + 1 * (x 3).val := rfl
  refine (Rect.payAlong_consLift (Rect.unit (s := S16x128x128) ![(q : ℕ), 0, 0] S1x128x128.size (planeInb q)) ![1, 16, 128, 128] rfl
    (by decide) (shapeCast S1x128x128 v shapeCasts_S128x128_S1x128x128)
    (Rect.numel_consLift _ _ _ _) x (ix3 (⟨(x 1).val, h1⟩ : Fin 1) (⟨(x 2).val, h2⟩ : Fin 128) (⟨(x 3).val, h3⟩ : Fin 128))
    fun i => by match i with | ⟨0, _⟩ => rfl | ⟨1, _⟩ => rfl | ⟨2, _⟩ => rfl).trans ?_
  rw [shapeCast_apply _ _ _ (ix2 (⟨(x 2).val, h2⟩ : Fin 128) (⟨(x 3).val, h3⟩ : Fin 128)) (by
    rw [Shape.rowMajor_val_two, Shape.rowMajor_val_three]; simp), hv]
  unfold planeVal
  have ej : (planePiece v j q).1.emb x 0 = j := Fin.ext (by rw [e0]; omega)
  have eq : ((planePiece v j q).1.emb x 1).val = q := by rw [e1]; omega
  rw [ej]
  refine congrArg (V j) (funext fun a => Fin.ext ?_)
  match a with
  | ⟨0, _⟩ =>
    show (q : ℕ) / 4 + 4 * (x 2).val = ((planePiece v j q).1.emb x 1).val / 4 + 4 * ((planePiece v j q).1.emb x 2).val
    rw [eq, e2]; omega
  | ⟨1, _⟩ =>
    show 128 * ((q : ℕ) % 4) + (x 3).val = 128 * (((planePiece v j q).1.emb x 1).val % 4) + ((planePiece v j q).1.emb x 3).val
    rw [eq, e3]; omega

theorem planeRowsInb (q : Fin 16) (r : Fin 4) (a : Fin 3) : (![1, 32, 128] : Fin 3 → ℕ) a = 0 ∨
    (![(q : ℕ), (r : ℕ), 0] : Fin 3 → ℕ) a + (![1, 4, 1] : Fin 3 → ℕ) a * ((![1, 32, 128] : Fin 3 → ℕ) a - 1) < S16x128x128.size a := by
  match a with
  | ⟨0, _⟩ => exact .inr (by show (q : ℕ) + 1 * (1 - 1) < 16; omega)
  | ⟨1, _⟩ => exact .inr (by show (r : ℕ) + 4 * (32 - 1) < 128; omega)
  | ⟨2, _⟩ => exact .inr (by show 0 + 1 * (128 - 1) < 128; omega)

/-- The rows of residue `r` modulo four of a plane. -/
def planeRows (j : Fin 3) (q : Fin 16) (r : Fin 4) : LoadRect S3x16x128x128 :=
  (Rect.unit (s := S3x16x128x128) ![(j : ℕ), 0, 0, 0] S1x16x128x128.size (slotInb' j)).withinL
    (({ off := ![(q : ℕ), (r : ℕ), 0], size := S1x32x128.size, stride := ![1, 4, 1], inb := planeRowsInb q r } : LoadRect S16x128x128).consLift
      ![1, 16, 128, 128] rfl (by decide)) (fun _ => rfl)

theorem planeRows_numel (j : Fin 3) (q : Fin 16) (r : Fin 4) : S1x32x128.numel = (planeRows j q r).shape.numel := by
  show _ = Shape.numel ⟨4, Fin.cons 1 ![1, 32, 128]⟩
  decide

/-- A read of these rows. -/
def readPlane (arg28 : Memref sig .tc .vmem S3x16x128x128 .f32) (L : List (View.Piece (Elt Ideal) S3x16x128x128 .f32)) (j : Fin 3)
    (q : Fin 16) (r : Fin 4) : Vec Ideal S1x32x128 .f32 :=
  fun x => arg28.view.readCov (Val := Elt Ideal) L (planeRows j q r) (Shape.reshapeEquiv (planeRows_numel j q r) x)

/-- A read of these rows brings the rows `q / 4 + 4 r + 16 n` of the value's slab `q % 4`. -/
theorem readPlane_at (V : Fin 3 → FVec Ideal S512x512 .f32) (arg28 : Memref sig .tc .vmem S3x16x128x128 .f32)
    (L : List (View.Piece (Elt Ideal) S3x16x128x128 .f32)) (hL : ∀ p ∈ L, ∀ x, p.2 x = planeVal V (p.1.emb x))
    (j : Fin 3) (q : Fin 16) (hj : ∃ v, planePiece v j q ∈ L) (r : Fin 4) (n : Fin 32) (l : Fin 128) :
    readPlane arg28 L j q r (ix3 (0 : Fin 1) n l)
      = V j (ix2 (⟨q / 4 + 4 * r + 16 * n, by omega⟩ : Fin 512) (⟨128 * (q % 4) + l, by omega⟩ : Fin 512)) := by
  unfold readPlane
  obtain ⟨v, hv⟩ := hj
  have e : Shape.reshapeEquiv (planeRows_numel j q r) (ix3 (0 : Fin 1) n l)
      = (Fin.cons (⟨0, Nat.one_pos⟩ : Fin 1) (ix3 (0 : Fin 1) n l) : (planeRows j q r).shape.Idx) :=
    Shape.reshapeEquiv_cons_one (d := ![1, 32, 128]) (planeRows_numel j q r) (ix3 (0 : Fin 1) n l)
  rw [e]
  have i0 : ((planeRows j q r).idx (Fin.cons (⟨0, Nat.one_pos⟩ : Fin 1) (ix3 (0 : Fin 1) n l)) 0).val = (j + 0) + 1 * 0 := rfl
  have i1 : ((planeRows j q r).idx (Fin.cons (⟨0, Nat.one_pos⟩ : Fin 1) (ix3 (0 : Fin 1) n l)) 1).val = (0 + q) + 1 * 0 := rfl
  have i2 : ((planeRows j q r).idx (Fin.cons (⟨0, Nat.one_pos⟩ : Fin 1) (ix3 (0 : Fin 1) n l)) 2).val = (0 + r) + 4 * n := rfl
  have i3 : ((planeRows j q r).idx (Fin.cons (⟨0, Nat.one_pos⟩ : Fin 1) (ix3 (0 : Fin 1) n l)) 3).val = (0 + 0) + 1 * l := rfl
  refine (readCov_of_pieces arg28.view (planeVal V) L hL _ _ ⟨_, hv, ?_⟩).trans ?_
  · rw [LoadRect.mem_set]
    intro a
    match a with
    | ⟨0, _⟩ => exact ⟨0, Nat.one_pos, rfl⟩
    | ⟨1, _⟩ => exact ⟨0, Nat.one_pos, rfl⟩
    | ⟨2, _⟩ => exact ⟨r + 4 * n, by show (r : ℕ) + 4 * n < 128; omega, i2.trans (by show _ = (0 + 0) + 1 * ((r : ℕ) + 4 * n); omega)⟩
    | ⟨3, _⟩ => exact ⟨l, l.isLt, i3.trans rfl⟩
  · unfold planeVal
    have ej : (planeRows j q r).idx (Fin.cons (⟨0, Nat.one_pos⟩ : Fin 1) (ix3 (0 : Fin 1) n l)) 0 = j := Fin.ext (i0.trans (by omega))
    rw [ej]
    refine congrArg (V j) (funext fun a => Fin.ext ?_)
    match a with
    | ⟨0, _⟩ =>
      refine (congrArg₂ (fun a b => a / 4 + 4 * b) i1 i2).trans ?_
      show ((0 + (q : ℕ)) + 1 * 0) / 4 + 4 * ((0 + (r : ℕ)) + 4 * n) = q / 4 + 4 * r + 16 * n
      rw [show (0 + (q : ℕ)) + 1 * 0 = q by omega]; omega
    | ⟨1, _⟩ =>
      refine (congrArg₂ (fun a b => 128 * (a % 4) + b) i1 i3).trans ?_
      show 128 * (((0 + (q : ℕ)) + 1 * 0) % 4) + ((0 + 0) + 1 * (l : ℕ)) = 128 * (q % 4) + l
      rw [show (0 + (q : ℕ)) + 1 * 0 = q by omega]; omega

end Cert.Kernel4Ideal.Gen

end

end
-- ==== Proof.ProjBody.lean ====
module

public import proofs.«01_k».proof.Proof.ProjViews
public import proofs.«01_k».proof.Proof.OutRead
public import proofs.«01_k».proof.Proof.Gen.Kernel4Ideal.Value

@[expose] public section

set_option maxRecDepth 16384
set_option backward.proofsInPublic true

noncomputable section

open Idealize.ShloMosaic Idealize.ShloMosaic.TcCoe
open Cert.Attn (inb2 box)
open Cert.Out (load load_at readCov_of_pieces)

/-! # What the input projection's body stores -/

namespace Cert.Kernel4Ideal.Gen

section Run

variable (c : Dev nD) (i : grid0.Coords)
  {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  {arg7 : Memref sig .tc .vmem S4x1024 .f32} (harg7 : arg7.IsWhole) {arg8 : Memref sig .tc .vmem S1x1024 .f32} (harg8 : arg8.IsWhole)
  {arg9 : Memref sig .tc .vmem S1x128 .f32} (harg9 : arg9.IsWhole) {arg10 : Memref sig .tc .vmem S256x256 .bf16} (harg10 : arg10.IsWhole)
  {arg11 : Memref sig .tc .vmem S512x512 .bf16} (harg11 : arg11.IsWhole) {arg12 : Memref sig .tc .vmem S512x1024 .bf16} (harg12 : arg12.IsWhole)
  {arg13 : Memref sig .tc .vmem S512x1024 .bf16} (harg13 : arg13.IsWhole) {arg14 : Memref sig .tc .vmem S512x1024 .bf16} (harg14 : arg14.IsWhole)
  {arg15 : Memref sig .tc .vmem S512x512 .bf16} (harg15 : arg15.IsWhole) {arg16 : Memref sig .tc .vmem S512x128 .f32} (harg16 : arg16.IsWhole)
  {arg17 : Memref sig .tc .vmem S2x4x128x256 .bf16} (harg17 : arg17.IsWhole) {arg18 : Memref sig .tc .vmem S512x512 .bf16} (harg18 : arg18.IsWhole)
  {arg19 : Memref sig .tc .vmem S512x512 .bf16} (harg19 : arg19.IsWhole) {arg20 : Memref sig .tc .vmem S512x512 .bf16} (harg20 : arg20.IsWhole)
  {arg21 : Memref sig .tc .vmem S128x2048 .bf16} (harg21 : arg21.IsWhole) {arg22 : Memref sig .tc .vmem S128x2048 .bf16} (harg22 : arg22.IsWhole)
  {arg23 : Memref sig .tc .vmem S128x2048 .bf16} (harg23 : arg23.IsWhole) {arg24 : Memref sig .tc .vmem S32x8192 .bf16} (harg24 : arg24.IsWhole)
  {arg25 : Memref sig .tc .vmem S32x8192 .bf16} (harg25 : arg25.IsWhole) {arg26 : Memref sig .tc .vmem S32x8192 .bf16} (harg26 : arg26.IsWhole)
  {arg27 : Memref sig .tc .vmem S3x4x512x128 .f32} (harg27 : arg27.IsWhole) {arg28 : Memref sig .tc .vmem S3x16x128x128 .f32} (harg28 : arg28.IsWhole)
  {arg29 : Memref sig .tc .vmem S520x1024 .f32} (harg29 : arg29.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32) (x6 : Vec Ideal S4x1024 .f32) (x7 : Vec Ideal S1x1024 .f32)
  (x8 : Vec Ideal S1x128 .f32) (x9 : Vec Ideal S256x256 .bf16) (xs2 : Vec Ideal S520x1024 .f32)

/-- The block of rows times the gain. -/
def scaled : FVec Ideal S512x1024 .bf16 :=
  k0_pay5 (F := Ideal) (load harg1 x0 512 1024 0 0 (by omega) (by omega)) (load harg2 x1 1 1024 0 0 (by omega) (by omega))

/-- The rows' reciprocal roots. -/
def roots : FVec Ideal S512x1 .f32 := k0_pay6 (F := Ideal) (load harg1 x0 512 1024 0 0 (by omega) (by omega))

/-- Columns of the weights. -/
abbrev cols (l o : ℕ) (h : o + l ≤ 6272) : Vec Ideal (Cert.Attn.Mat 1024 l) .bf16 := load harg3 x2 1024 l 0 o (by omega) h

/-- The queries of the block. -/
def blkQ : FVec Ideal S512x512 .f32 :=
  k0_pay39 (F := Ideal) (scaled harg1 harg2 x0 x1) (roots harg1 x0) (cols harg3 x2 512 4096 (by omega))
    (load harg4 x3 256 256 0 0 (by omega) (by omega)) (load harg5 x4 1 512 0 0 (by omega) (by omega))

/-- The keys of the block. -/
def blkK : FVec Ideal S512x512 .f32 :=
  k0_pay161 (F := Ideal) (k0_pay159 (F := Ideal) (scaled harg1 harg2 x0 x1) (roots harg1 x0) (cols harg3 x2 512 4608 (by omega)))
    (k0_pay160 (F := Ideal) (scaled harg1 harg2 x0 x1) (roots harg1 x0) (cols harg3 x2 512 4608 (by omega)))
    (load harg4 x3 256 256 0 0 (by omega) (by omega)) (load harg6 x5 1 512 0 0 (by omega) (by omega))

/-- The values of the block. -/
def blkV : FVec Ideal S512x512 .f32 :=
  k0_pay285 (F := Ideal) (scaled harg1 harg2 x0 x1) (roots harg1 x0) (cols harg3 x2 512 5120 (by omega))

end Run

/-- The slabs stored before a slot's rows are read. -/
def slabs0 (q : FVec Ideal S512x512 .f32) : List (View.Piece (Elt Ideal) S3x4x512x128 .f32) :=
  ([3, 2, 1, 0] : List (Fin 4)).map fun s => slabPiece q 0 s

def slabs1 (q k : FVec Ideal S512x512 .f32) : List (View.Piece (Elt Ideal) S3x4x512x128 .f32) :=
  (([3, 2, 1, 0] : List (Fin 4)).map fun s => slabPiece k 1 s) ++ slabs0 q

def slabs2 (q k v : FVec Ideal S512x512 .f32) : List (View.Piece (Elt Ideal) S3x4x512x128 .f32) :=
  (([3, 2, 1, 0] : List (Fin 4)).map fun s => slabPiece v 2 s) ++ slabs1 q k

/-- The stores of a slot's view with every fourth row. -/
def view4 (arg27 : Memref sig .tc .vmem S3x4x512x128 .f32) (L : List (View.Piece (Elt Ideal) S3x4x512x128 .f32)) (j : Fin 3) :
    List (View.Piece (Elt Ideal) S128x2048 .bf16) :=
  ([3, 2, 1, 0] : List (Fin 4)).flatMap fun r : Fin 4 => ([3, 2, 1, 0] : List (Fin 4)).map fun s : Fin 4 =>
    ⟨box (m := 128) (n := 2048) 128 128 0 (512 * r + 128 * s) (by omega) (by omega),
      truncf (F := Ideal) (φ := .f32) .bf16 (rowsOf (readRows arg27 L j s r)) (by decide)⟩

/-- The stores of a slot's planes. -/
def planes (arg27 : Memref sig .tc .vmem S3x4x512x128 .f32) (L : List (View.Piece (Elt Ideal) S3x4x512x128 .f32)) (j : Fin 3) :
    List (View.Piece (Elt Ideal) S3x16x128x128 .f32) :=
  ([3, 2, 1, 0] : List (Fin 4)).flatMap fun r : Fin 4 => ([3, 2, 1, 0] : List (Fin 4)).map fun s : Fin 4 =>
    planePiece (rowsOf (readRows arg27 L j s r)) j (⟨4 * r + s, by omega⟩ : Fin 16)

/-- The stores of a slot's view with every sixteenth row. -/
def view16 (arg28 : Memref sig .tc .vmem S3x16x128x128 .f32) (L : List (View.Piece (Elt Ideal) S3x16x128x128 .f32)) (j : Fin 3) :
    List (View.Piece (Elt Ideal) S32x8192 .bf16) :=
  ([15, 14, 13, 12, 11, 10, 9, 8, 7, 6, 5, 4, 3, 2, 1, 0] : List (Fin 16)).flatMap fun r : Fin 16 => ([3, 2, 1, 0] : List (Fin 4)).map fun s : Fin 4 =>
    ⟨box (m := 32) (n := 8192) 32 128 0 (512 * r + 128 * s) (by omega) (by omega),
      truncf (F := Ideal) (φ := .f32) .bf16 (shapeCast S32x128 (readPlane arg28 L j (⟨4 * (r % 4) + s, by omega⟩ : Fin 16) (⟨r / 4, by omega⟩ : Fin 4))
        shapeCasts_S1x32x128_S32x128) (by decide)⟩

def planes0 (arg27 : Memref sig .tc .vmem S3x4x512x128 .f32) (q : FVec Ideal S512x512 .f32) :
    List (View.Piece (Elt Ideal) S3x16x128x128 .f32) := planes arg27 (slabs0 q) 0

def planes1 (arg27 : Memref sig .tc .vmem S3x4x512x128 .f32) (q k : FVec Ideal S512x512 .f32) :
    List (View.Piece (Elt Ideal) S3x16x128x128 .f32) := planes arg27 (slabs1 q k) 1 ++ planes0 arg27 q

def planes2 (arg27 : Memref sig .tc .vmem S3x4x512x128 .f32) (q k v : FVec Ideal S512x512 .f32) :
    List (View.Piece (Elt Ideal) S3x16x128x128 .f32) := planes arg27 (slabs2 q k v) 2 ++ planes1 arg27 q k

/-- One store of a whole block. -/
abbrev whole (n : ℕ) (v : Vec Ideal (Cert.Attn.Mat 512 n) .bf16) : List (View.Piece (Elt Ideal) (Cert.Attn.Mat 512 n) .bf16) :=
  [⟨box (m := 512) (n := n) 512 n 0 0 (by omega) (by omega), v⟩]

end Cert.Kernel4Ideal.Gen

end

end
-- ==== Proof.Proj.lean ====
module

public import proofs.«01_k».proof.Proof.Pieces

@[expose] public section

set_option maxRecDepth 16384
set_option backward.proofsInPublic true

noncomputable section

open Idealize.ShloMosaic

/-! # A projection of a normalized row

A row is scaled by the reciprocal root of its mean square and by a gain, then multiplied into a column.  The kernel scales
after the product, the reference before it; the two agree because the reciprocal root is never negative and never
infinite.  A head norm does the same once more over groups of 64 columns. -/

namespace Cert.Proj

/-- What is added to a mean square. -/
abbrev eps : EReal := Ideal.ofBits .f32 897988541#32

theorem eps_eq : eps = ((8796093 * (2 : ℝ) ^ (-43 : Int) : ℝ) : EReal) := by
  simp [eps, Ideal.ofBits, Ideal.ieee, -EReal.coe_mul]
  try norm_num

theorem eps_pos : 0 < eps := by rw [eps_eq]; exact EReal.coe_pos.2 (by positivity)

theorem n1024_eq : Ideal.ofBits .f32 1149239296#32 = ((1024 : ℝ) : EReal) := by
  simp [Ideal.ofBits, Ideal.ieee, -EReal.coe_mul]
  norm_num

theorem n64_eq : Ideal.ofBits .f32 1115684864#32 = ((64 : ℝ) : EReal) := by
  simp [Ideal.ofBits, Ideal.ieee, -EReal.coe_mul]
  norm_num

theorem inv64_eq : Ideal.ofBits .f32 1015021568#32 = ((1 / 64 : ℝ) : EReal) := by
  simp [Ideal.ofBits, Ideal.ieee, -EReal.coe_mul]
  norm_num

theorem div_real (x : EReal) {r : ℝ} (h : 0 < r) : Ideal.div x (r : EReal) = x * ((r⁻¹ : ℝ) : EReal) := by
  rw [Ideal.div, if_neg (by rw [← EReal.coe_zero, EReal.coe_eq_coe_iff]; exact h.ne'), EReal.coe_inv]

theorem sq_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

theorem rsqrt_nonneg {x : EReal} (h : 0 < x) : 0 ≤ Ideal.rsqrt x := by
  induction x with
  | bot => exact absurd h (by simp)
  | top => rw [Ideal.rsqrt_top]
  | coe r =>
    have hr : 0 < r := EReal.coe_pos.1 h
    rw [Ideal.rsqrt_coe, if_neg hr.not_gt, if_neg hr.ne']
    exact EReal.coe_nonneg.2 (by positivity)

theorem rsqrt_ne_top {x : EReal} (h : 0 < x) : Ideal.rsqrt x ≠ ⊤ := by
  induction x with
  | bot => exact absurd h (by simp)
  | top => rw [Ideal.rsqrt_top]; exact EReal.zero_ne_top
  | coe r =>
    have hr : 0 < r := EReal.coe_pos.1 h
    rw [Ideal.rsqrt_coe, if_neg hr.not_gt, if_neg hr.ne']
    exact EReal.coe_ne_top _

/-- The reciprocal root of a row's mean square. -/
def inv (f : Fin 1024 → EReal) : EReal :=
  Ideal.rsqrt (Ideal.div (∑ k, f k * f k) (Ideal.ofBits .f32 1149239296#32) + eps)

theorem arg_pos (f : Fin 1024 → EReal) : 0 < Ideal.div (∑ k, f k * f k) (Ideal.ofBits .f32 1149239296#32) + eps := by
  rw [n1024_eq, div_real _ (by norm_num)]
  refine lt_of_lt_of_le eps_pos (le_add_of_nonneg_left (mul_nonneg (Finset.sum_nonneg fun k _ => sq_nonneg _) ?_))
  exact EReal.coe_nonneg.2 (by norm_num)

theorem sum_mul {ι : Type} (s : Finset ι) (f : ι → EReal) {a : EReal} (h : 0 ≤ a) (h' : a ≠ ⊤) :
    (∑ i ∈ s, f i) * a = ∑ i ∈ s, f i * a := by
  classical
  induction s using Finset.induction_on with
  | empty => simp
  | insert b s hb ih =>
    rw [Finset.sum_insert hb, Finset.sum_insert hb, EReal.right_distrib_of_nonneg_of_ne_top h h', ih]

/-- A column of the projection. -/
def proj (f g w : Fin 1024 → EReal) : EReal := ∑ k, f k * inv f * g k * w k

/-- Scaling after the product is scaling before it. -/
theorem proj_eq (f g w : Fin 1024 → EReal) : (∑ k, f k * g k * w k) * inv f = proj f g w := by
  rw [sum_mul (a := inv f) _ _ (rsqrt_nonneg (arg_pos f)) (rsqrt_ne_top (arg_pos f)), proj]
  refine Finset.sum_congr rfl fun k _ => ?_
  rw [mul_right_comm, mul_right_comm (f k)]

/-- The columns of a head: 64 together. -/
def mate (c : Fin 512) (l : Fin 64) : Fin 512 := ⟨64 * (c / 64) + l, by omega⟩

/-- A column normalized over its head. -/
def headNorm (p : Fin 512 → EReal) (γ : EReal) (c : Fin 512) : EReal :=
  p c * Ideal.rsqrt (Ideal.div (∑ l, p (mate c l) * p (mate c l)) (Ideal.ofBits .f32 1115684864#32) + eps) * γ

/-- A sum over 256 columns, of which those of one head count. -/
theorem sum_head (f : Fin 256 → EReal) (b : Fin 256 → EReal) (c : ℕ) (hc : c < 256)
    (hb : ∀ x : Fin 256, b x = if (x : ℕ) / 64 = c / 64 then 1 else 0) :
    ∑ x, f x * b x = ∑ l : Fin 64, f ⟨64 * (c / 64) + l, by omega⟩ := by
  symm
  refine Finset.sum_of_injOn (fun l : Fin 64 => (⟨64 * (c / 64) + l, by omega⟩ : Fin 256)) ?_ (fun _ _ => Finset.mem_coe.2 (Finset.mem_univ _))
    (fun x _ hx => ?_) fun l _ => ?_
  · intro l _ l' _ h
    have := congrArg Fin.val h
    exact Fin.ext (by simp at this; omega)
  · rw [hb, if_neg, mul_zero]
    intro h
    exact hx ⟨⟨x % 64, by omega⟩, Finset.mem_coe.2 (Finset.mem_univ _), Fin.ext (by show 64 * (c / 64) + (x : ℕ) % 64 = x; omega)⟩
  · rw [hb, if_pos (by show (64 * (c / 64) + (l : ℕ)) / 64 = c / 64; omega), mul_one]

/-- The head norm by a product with a block-diagonal matrix, 256 columns at a time. -/
theorem headNorm_eq (p : Fin 512 → EReal) (γ : EReal) (c : Fin 512) (b : Fin 256 → Fin 256 → EReal)
    (hb : ∀ x y : Fin 256, b x y = if (x : ℕ) / 64 = (y : ℕ) / 64 then 1 else 0) :
    p c * Ideal.rsqrt ((if h : (c : ℕ) < 256 then ∑ x : Fin 256, p ⟨x, by omega⟩ * p ⟨x, by omega⟩ * b x ⟨c, h⟩
      else ∑ x : Fin 256, p ⟨256 + x, by omega⟩ * p ⟨256 + x, by omega⟩ * b x ⟨c - 256, by omega⟩)
        * Ideal.ofBits .f32 1015021568#32 + eps) * γ = headNorm p γ c := by
  rw [headNorm, n64_eq, inv64_eq, div_real _ (by norm_num)]
  have e : ((1 / 64 : ℝ) : EReal) = ((64⁻¹ : ℝ) : EReal) := by norm_num
  rw [e]
  congr 5
  split
  · rename_i h
    rw [sum_head (fun x : Fin 256 => p ⟨x, by omega⟩ * p ⟨x, by omega⟩) _ c h fun x => hb x ⟨c, h⟩]
    rfl
  · rename_i h
    rw [sum_head (fun x : Fin 256 => p ⟨256 + x, by omega⟩ * p ⟨256 + x, by omega⟩) _ (c - 256) (by omega)
      fun x => hb x ⟨c - 256, by omega⟩]
    refine Finset.sum_congr rfl fun l _ => ?_
    have : (⟨256 + (64 * (((c : ℕ) - 256) / 64) + l), by omega⟩ : Fin 512) = mate c l := Fin.ext (by
      show 256 + (64 * (((c : ℕ) - 256) / 64) + (l : ℕ)) = 64 * (c / 64) + l; omega)
    show p ⟨256 + (64 * (((c : ℕ) - 256) / 64) + l), _⟩ * _ = _
    rw [this]

end Cert.Proj

end

end
-- ==== Proof.ProjBlock.lean ====
module

public import proofs.«01_k».proof.Proof.ProjBody
public import proofs.«01_k».proof.Proof.Proj

@[expose] public section

set_option maxRecDepth 16384
set_option backward.proofsInPublic true

noncomputable section

open Idealize.ShloMosaic Idealize.ShloMosaic.TcCoe
open Cert.Attn (inb2 box)
open Cert.Out (load load_at readCov_of_pieces)
open Cert.Proj (proj inv proj_eq headNorm headNorm_eq)

/-! # One block of the input projection, entry by entry -/

namespace Cert.Kernel4Ideal.Gen

/-! ## The payloads -/

theorem pay5_at (X : FVec Ideal S512x1024 .f32) (g : FVec Ideal S1x1024 .f32) (r : Fin 512) (k : Fin 1024) :
    k0_pay5 (F := Ideal) X g (ix2 r k) = X (ix2 r k) * g (ix2 0 k) := by
  pointwise [k0_pay5]

theorem pay6_at (X : FVec Ideal S512x1024 .f32) (r : Fin 512) : k0_pay6 (F := Ideal) X (ix2 r 0) = inv fun k => X (ix2 r k) := by
  pointwise [k0_pay6]
  rfl

theorem pay7_at (X : FVec Ideal S512x1024 .f32) (g : FVec Ideal S1x1024 .f32) (w : FVec Ideal S1024x1024 .bf16) (r : Fin 512) (c : Fin 1024) :
    k0_pay7 (F := Ideal) X g w (ix2 r c) = (∑ x, X (ix2 r x) * g (ix2 0 x) * w (ix2 x c)) * inv fun k => X (ix2 r k) := by
  pointwise [k0_pay7, k0_pay5, k0_pay6]
  rfl

section Pays

variable (h : FVec Ideal S512x1024 .bf16) (q : FVec Ideal S512x1 .f32) (w : FVec Ideal S1024x1024 .bf16) (w' : FVec Ideal S1024x512 .bf16)
  (r c' : Fin 512) (c : Fin 1024)

theorem pay38_at : k0_pay38 (F := Ideal) h q w (ix2 r c) = (∑ x, h (ix2 r x) * w (ix2 x c)) * q (ix2 r 0) := by
  pointwise [k0_pay38]

theorem pay158_at : k0_pay158 (F := Ideal) h q w (ix2 r c) = (∑ x, h (ix2 r x) * w (ix2 x c)) * q (ix2 r 0) := by
  pointwise [k0_pay158]

theorem pay284_at : k0_pay284 (F := Ideal) h q w' (ix2 r c') = (∑ x, h (ix2 r x) * w' (ix2 x c')) * q (ix2 r 0) := by
  pointwise [k0_pay284]

theorem pay285_at : k0_pay285 (F := Ideal) h q w' (ix2 r c') = (∑ x, h (ix2 r x) * w' (ix2 x c')) * q (ix2 r 0) := by
  pointwise [k0_pay285]

theorem pay159_at : k0_pay159 (F := Ideal) h q w' (ix2 r c') = (∑ x, h (ix2 r x) * w' (ix2 x c')) * q (ix2 r 0) := by
  pointwise [k0_pay159]

theorem pay160_at : k0_pay160 (F := Ideal) h q w' (ix2 r c')
    = ((∑ x, h (ix2 r x) * w' (ix2 x c')) * q (ix2 r 0)) * ((∑ x, h (ix2 r x) * w' (ix2 x c')) * q (ix2 r 0)) := by
  pointwise [k0_pay160, k0_pay159]

variable (b : FVec Ideal S256x256 .bf16) (g : FVec Ideal S1x512 .f32)
  (hb : ∀ x y : Fin 256, b (ix2 x y) = if (x : ℕ) / 64 = (y : ℕ) / 64 then (1 : EReal) else 0)
include hb

theorem pay39_at : k0_pay39 (F := Ideal) h q w' b g (ix2 r c')
    = headNorm (fun c => (∑ x, h (ix2 r x) * w' (ix2 x c)) * q (ix2 r 0)) (g (ix2 0 c')) c' := by
  refine Eq.trans ?_ (headNorm_eq (fun c => (∑ x, h (ix2 r x) * w' (ix2 x c)) * q (ix2 r 0)) (g (ix2 0 c')) c' (fun x y => b (ix2 x y)) hb)
  pointwise [k0_pay39]

theorem pay161_at (p u : FVec Ideal S512x512 .f32) (hu : ∀ c : Fin 512, u (ix2 r c) = p (ix2 r c) * p (ix2 r c)) :
    k0_pay161 (F := Ideal) p u b g (ix2 r c') = headNorm (fun c => p (ix2 r c)) (g (ix2 0 c')) c' := by
  refine Eq.trans ?_ (headNorm_eq (fun c => p (ix2 r c)) (g (ix2 0 c')) c' (fun x y => b (ix2 x y)) hb)
  pointwise [k0_pay161]
  simp only [hu]

end Pays

/-! ## The block's values -/

section Block

variable {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32)

/-- The projection of a row of the block. -/
def row (r : Fin 512) (c : Fin 6272) : EReal := proj (fun k => x0 (ix2 r k)) (fun k => x1 (ix2 0 k)) (fun k => x2 (ix2 k c))

theorem load_all {m n : ℕ} {e : EltTy} {arg : Memref sig .tc .vmem (Cert.Attn.Mat m n) e} (h : arg.IsWhole)
    (x : Vec Ideal (Cert.Attn.Mat m n) e) (a : Fin m) (b : Fin n) : load h x m n 0 0 (by omega) (by omega) (ix2 a b) = x (ix2 a b) :=
  (load_at h x m n 0 0 (by omega) (by omega) a b).trans
    (congrArg x (congrArg₂ ix2 (Fin.ext (Nat.zero_add _)) (Fin.ext (Nat.zero_add _))))

theorem cols_at (l o : ℕ) (ho : o + l ≤ 6272) (k : Fin 1024) (c : Fin l) :
    cols harg3 x2 l o ho (ix2 k c) = x2 (ix2 k (⟨o + c, by omega⟩ : Fin 6272)) :=
  (load_at harg3 x2 1024 l 0 o (by omega) ho k c).trans (congrArg x2 (congrArg₂ ix2 (Fin.ext (Nat.zero_add _)) rfl))

theorem scaled_at (r : Fin 512) (k : Fin 1024) : scaled harg1 harg2 x0 x1 (ix2 r k) = x0 (ix2 r k) * x1 (ix2 0 k) :=
  (pay5_at _ _ r k).trans (congrArg₂ (· * ·) (load_all harg1 x0 r k) (load_all harg2 x1 0 k))

theorem roots_at (r : Fin 512) : roots harg1 x0 (ix2 r 0) = inv fun k => x0 (ix2 r k) :=
  (pay6_at _ r).trans (congrArg inv (funext fun k => load_all harg1 x0 r k))

/-- The scaled product is the projection. -/
theorem row_of (l o : ℕ) (ho : o + l ≤ 6272) (r : Fin 512) (c : Fin l) :
    (∑ x, scaled harg1 harg2 x0 x1 (ix2 r x) * cols harg3 x2 l o ho (ix2 x c)) * roots harg1 x0 (ix2 r 0)
      = row x0 x1 x2 r ⟨o + c, by omega⟩ := by
  refine Eq.trans ?_ (proj_eq (fun k => x0 (ix2 r k)) (fun k => x1 (ix2 0 k)) (fun k => x2 (ix2 k ⟨o + c, by omega⟩)))
  exact congrArg₂ (· * ·) (Finset.sum_congr rfl fun x _ => congrArg₂ (· * ·) (scaled_at harg1 harg2 x0 x1 r x) (cols_at harg3 x2 l o ho x c))
    (roots_at harg1 x0 r)

theorem gate_at (r : Fin 512) (c : Fin 1024) :
    k0_pay7 (F := Ideal) (load harg1 x0 512 1024 0 0 (by omega) (by omega)) (load harg2 x1 1 1024 0 0 (by omega) (by omega))
      (cols harg3 x2 1024 1024 (by omega)) (ix2 r c) = row x0 x1 x2 r ⟨1024 + c, by omega⟩ := by
  refine (pay7_at _ _ _ r c).trans ?_
  refine Eq.trans ?_ (proj_eq (fun k => x0 (ix2 r k)) (fun k => x1 (ix2 0 k)) (fun k => x2 (ix2 k ⟨1024 + c, by omega⟩)))
  exact congrArg₂ (· * ·) (Finset.sum_congr rfl fun x _ => congrArg₂ (· * ·) (congrArg₂ (· * ·) (load_all harg1 x0 r x) (load_all harg2 x1 0 x))
    (cols_at harg3 x2 1024 1024 (by omega) x c)) (congrArg inv (funext fun k => load_all harg1 x0 r k))

theorem blkV_at (r c : Fin 512) : blkV harg1 harg2 harg3 x0 x1 x2 (ix2 r c) = row x0 x1 x2 r ⟨5120 + c, by omega⟩ :=
  (pay285_at _ _ _ r c).trans (row_of harg1 harg2 harg3 x0 x1 x2 512 5120 (by omega) r c)

variable (hb : ∀ x y : Fin 256, x3 (ix2 x y) = if (x : ℕ) / 64 = (y : ℕ) / 64 then (1 : EReal) else 0)
include hb

theorem blkQ_at (r c : Fin 512) : blkQ harg1 harg2 harg3 harg4 harg5 x0 x1 x2 x3 x4 (ix2 r c)
    = headNorm (fun c => row x0 x1 x2 r ⟨4096 + c, by omega⟩) (x4 (ix2 0 c)) c := by
  refine (pay39_at _ _ _ r c _ _ (fun x y => (load_all harg4 x3 x y).trans (hb x y))).trans ?_
  exact congrArg₂ (headNorm · · c) (funext fun c => row_of harg1 harg2 harg3 x0 x1 x2 512 4096 (by omega) r c) (load_all harg5 x4 0 c)

theorem blkK_at (r c : Fin 512) : blkK harg1 harg2 harg3 harg4 harg6 x0 x1 x2 x3 x5 (ix2 r c)
    = headNorm (fun c => row x0 x1 x2 r ⟨4608 + c, by omega⟩) (x5 (ix2 0 c)) c := by
  refine (pay161_at r c _ _ (fun x y => (load_all harg4 x3 x y).trans (hb x y)) _ _
    fun c => (pay160_at _ _ _ r c).trans (congrArg₂ (· * ·) (pay159_at _ _ _ r c).symm (pay159_at _ _ _ r c).symm)).trans ?_
  exact congrArg₂ (headNorm · · c) (funext fun c => (pay159_at _ _ _ r c).trans (row_of harg1 harg2 harg3 x0 x1 x2 512 4608 (by omega) r c))
    (load_all harg6 x5 0 c)

end Block

theorem whole_canon (n : ℕ) (v : Vec Ideal (Cert.Attn.Mat 512 n) .bf16) : View.canon (Val := Elt Ideal) (whole n v) = v :=
  View.canon_cons_unit_lit (Val := Elt Ideal) _ _ _ (by intro a; match a with | ⟨0, _⟩ => rfl | ⟨1, _⟩ => rfl)

/-! ## The views -/

section Views

variable (V : Fin 3 → FVec Ideal S512x512 .f32)

theorem mem_slabs0 {p} (h : p ∈ slabs0 (V 0)) (x) : p.2 x = slabVal V (p.1.emb x) := by
  obtain ⟨s, _, rfl⟩ := List.mem_map.1 h
  exact slabPiece_at V 0 s x

theorem mem_slabs1 {p} (h : p ∈ slabs1 (V 0) (V 1)) (x) : p.2 x = slabVal V (p.1.emb x) := by
  rcases List.mem_append.1 h with h | h
  · obtain ⟨s, _, rfl⟩ := List.mem_map.1 h
    exact slabPiece_at V 1 s x
  · exact mem_slabs0 V h x

theorem mem_slabs2 {p} (h : p ∈ slabs2 (V 0) (V 1) (V 2)) (x) : p.2 x = slabVal V (p.1.emb x) := by
  rcases List.mem_append.1 h with h | h
  · obtain ⟨s, _, rfl⟩ := List.mem_map.1 h
    exact slabPiece_at V 2 s x
  · exact mem_slabs1 V h x

theorem all_four : ∀ s : Fin 4, s ∈ ([3, 2, 1, 0] : List (Fin 4)) := by decide

theorem all_sixteen : ∀ s : Fin 16, s ∈ ([15, 14, 13, 12, 11, 10, 9, 8, 7, 6, 5, 4, 3, 2, 1, 0] : List (Fin 16)) := by decide

theorem slab_mem0 (s : Fin 4) : slabPiece (V 0) 0 s ∈ slabs0 (V 0) := List.mem_map.2 ⟨s, all_four s, rfl⟩

theorem slab_mem1 (s : Fin 4) : slabPiece (V 1) 1 s ∈ slabs1 (V 0) (V 1) :=
  List.mem_append.2 (.inl (List.mem_map.2 ⟨s, all_four s, rfl⟩))

theorem slab_mem2 (s : Fin 4) : slabPiece (V 2) 2 s ∈ slabs2 (V 0) (V 1) (V 2) :=
  List.mem_append.2 (.inl (List.mem_map.2 ⟨s, all_four s, rfl⟩))

/-- A view's buffer holds every fourth row of its slot's values. -/
theorem view4_at (arg27 : Memref sig .tc .vmem S3x4x512x128 .f32) (L : List (View.Piece (Elt Ideal) S3x4x512x128 .f32)) (j : Fin 3)
    (hL : ∀ p ∈ L, ∀ x, p.2 x = slabVal V (p.1.emb x)) (hj : ∀ s, slabPiece (V j) j s ∈ L) (y : S128x2048.Idx) (n : Fin 128) (k : Fin 2048)
    (hy : y = ix2 n k) :
    View.canon (Val := Elt Ideal) (view4 arg27 L j) y
      = V j (ix2 (⟨(k : ℕ) / 512 + 4 * n, by omega⟩ : Fin 512) (⟨(k : ℕ) % 512, by omega⟩ : Fin 512)) := by
  subst hy
  have cov : ∃ p ∈ view4 arg27 L j, ix2 n k ∈ p.1.set := by
    refine ⟨_, List.mem_flatMap.2 ⟨⟨k / 512, by omega⟩, all_four _, List.mem_map.2 ⟨⟨k % 512 / 128, by omega⟩, all_four _, rfl⟩⟩, ?_⟩
    rw [LoadRect.mem_set]
    intro a
    match a with
    | ⟨0, _⟩ => exact ⟨n, n.isLt, by show (n : ℕ) = 0 + 1 * n; omega⟩
    | ⟨1, _⟩ =>
      exact ⟨k % 128, Nat.mod_lt _ (by decide), by
        show (k : ℕ) = 512 * (k / 512) + 128 * (k % 512 / 128) + 1 * (k % 128)
        omega⟩
  refine View.canon_apply_of_pieces (Val := Elt Ideal) (fun y : S128x2048.Idx =>
    V j (ix2 (⟨(y 1).val / 512 + 4 * (y 0).val, by
      have h0 : (y 0).val < 128 := (y 0).isLt
      have h1 : (y 1).val < 2048 := (y 1).isLt
      omega⟩ : Fin 512) (⟨(y 1).val % 512, by omega⟩ : Fin 512))) _ ?_ _ cov
  intro p hp x
  obtain ⟨r, _, hp⟩ := List.mem_flatMap.1 hp
  obtain ⟨s, _, rfl⟩ := List.mem_map.1 hp
  have hx : ∃ (n : Fin 128) (l : Fin 128), x = ix2 n l :=
    ⟨x 0, x 1, by funext a; match a with | ⟨0, _⟩ => rfl | ⟨1, _⟩ => rfl⟩
  obtain ⟨n, l, rfl⟩ := hx
  refine (rowsOf_at _ n l).trans ((readRows_at V arg27 L hL j hj s r n l).trans ?_)
  refine congrArg (V j) (congrArg₂ ix2 (Fin.ext ?_) (Fin.ext ?_))
  · show (r : ℕ) + 4 * n = (512 * r + 128 * s + 1 * l) / 512 + 4 * (0 + 1 * n)
    omega
  · show 128 * (s : ℕ) + l = (512 * r + 128 * s + 1 * l) % 512
    omega

theorem mem_planes (arg27 : Memref sig .tc .vmem S3x4x512x128 .f32) (L : List (View.Piece (Elt Ideal) S3x4x512x128 .f32)) (j : Fin 3)
    (hL : ∀ p ∈ L, ∀ x, p.2 x = slabVal V (p.1.emb x)) (hj : ∀ s, slabPiece (V j) j s ∈ L) {p} (hp : p ∈ planes arg27 L j) (x) :
    p.2 x = planeVal V (p.1.emb x) := by
  obtain ⟨r, _, hp⟩ := List.mem_flatMap.1 hp
  obtain ⟨s, _, rfl⟩ := List.mem_map.1 hp
  refine planePiece_at V j _ _ (fun n l => (rowsOf_at _ n l).trans ((readRows_at V arg27 L hL j hj s r n l).trans ?_)) x
  refine congrArg (V j) (congrArg₂ ix2 (Fin.ext ?_) (Fin.ext ?_))
  · show (r : ℕ) + 4 * n = (4 * r + s) / 4 + 4 * n
    omega
  · show 128 * (s : ℕ) + l = 128 * ((4 * r + s) % 4) + l
    omega

theorem plane_mem (arg27 : Memref sig .tc .vmem S3x4x512x128 .f32) (L : List (View.Piece (Elt Ideal) S3x4x512x128 .f32)) (j : Fin 3)
    (q : Fin 16) : ∃ v, planePiece v j q ∈ planes arg27 L j := by
  refine ⟨rowsOf (readRows arg27 L j ⟨q % 4, by omega⟩ ⟨q / 4, by omega⟩),
    List.mem_flatMap.2 ⟨⟨q / 4, by omega⟩, all_four _, List.mem_map.2 ⟨⟨q % 4, by omega⟩, all_four _, ?_⟩⟩⟩
  exact congrArg (planePiece _ j) (Fin.ext (by show 4 * ((q : ℕ) / 4) + q % 4 = q; omega))

variable (arg27 : Memref sig .tc .vmem S3x4x512x128 .f32)

theorem mem_planes0 {p} (h : p ∈ planes0 arg27 (V 0)) (x) : p.2 x = planeVal V (p.1.emb x) :=
  mem_planes V arg27 _ 0 (fun _ hp => mem_slabs0 V hp) (slab_mem0 V) h x

theorem mem_planes1 {p} (h : p ∈ planes1 arg27 (V 0) (V 1)) (x) : p.2 x = planeVal V (p.1.emb x) := by
  rcases List.mem_append.1 h with h | h
  · exact mem_planes V arg27 _ 1 (fun _ hp => mem_slabs1 V hp) (slab_mem1 V) h x
  · exact mem_planes0 V arg27 h x

theorem mem_planes2 {p} (h : p ∈ planes2 arg27 (V 0) (V 1) (V 2)) (x) : p.2 x = planeVal V (p.1.emb x) := by
  rcases List.mem_append.1 h with h | h
  · exact mem_planes V arg27 _ 2 (fun _ hp => mem_slabs2 V hp) (slab_mem2 V) h x
  · exact mem_planes1 V arg27 h x

theorem plane_mem0 (q : Fin 16) : ∃ v, planePiece v 0 q ∈ planes0 arg27 (V 0) := plane_mem arg27 _ 0 q

theorem plane_mem1 (q : Fin 16) : ∃ v, planePiece v 1 q ∈ planes1 arg27 (V 0) (V 1) := by
  obtain ⟨v, hv⟩ := plane_mem arg27 (slabs1 (V 0) (V 1)) 1 q
  exact ⟨v, List.mem_append.2 (.inl hv)⟩

theorem plane_mem2 (q : Fin 16) : ∃ v, planePiece v 2 q ∈ planes2 arg27 (V 0) (V 1) (V 2) := by
  obtain ⟨v, hv⟩ := plane_mem arg27 (slabs2 (V 0) (V 1) (V 2)) 2 q
  exact ⟨v, List.mem_append.2 (.inl hv)⟩

theorem planeCast_at (v : Vec Ideal S1x32x128 .f32) (n : Fin 32) (l : Fin 128) :
    shapeCast S32x128 v shapeCasts_S1x32x128_S32x128 (ix2 n l) = v (ix3 (0 : Fin 1) n l) :=
  shapeCast_apply _ _ _ _ (by rw [Shape.rowMajor_val_two, Shape.rowMajor_val_three]; simp)

/-- A view's buffer holds every sixteenth row of its slot's values. -/
theorem view16_at (arg28 : Memref sig .tc .vmem S3x16x128x128 .f32) (L : List (View.Piece (Elt Ideal) S3x16x128x128 .f32)) (j : Fin 3)
    (hL : ∀ p ∈ L, ∀ x, p.2 x = planeVal V (p.1.emb x)) (hj : ∀ q, ∃ v, planePiece v j q ∈ L) (y : S32x8192.Idx) (n : Fin 32) (k : Fin 8192)
    (hy : y = ix2 n k) :
    View.canon (Val := Elt Ideal) (view16 arg28 L j) y
      = V j (ix2 (⟨(k : ℕ) / 512 + 16 * n, by omega⟩ : Fin 512) (⟨(k : ℕ) % 512, by omega⟩ : Fin 512)) := by
  subst hy
  have cov : ∃ p ∈ view16 arg28 L j, ix2 n k ∈ p.1.set := by
    refine ⟨_, List.mem_flatMap.2 ⟨⟨k / 512, by omega⟩, all_sixteen _, List.mem_map.2 ⟨⟨k % 512 / 128, by omega⟩, all_four _, rfl⟩⟩, ?_⟩
    rw [LoadRect.mem_set]
    intro a
    match a with
    | ⟨0, _⟩ => exact ⟨n, n.isLt, by show (n : ℕ) = 0 + 1 * n; omega⟩
    | ⟨1, _⟩ =>
      exact ⟨k % 128, Nat.mod_lt _ (by decide), by
        show (k : ℕ) = 512 * (k / 512) + 128 * (k % 512 / 128) + 1 * (k % 128)
        omega⟩
  refine View.canon_apply_of_pieces (Val := Elt Ideal) (fun y : S32x8192.Idx =>
    V j (ix2 (⟨(y 1).val / 512 + 16 * (y 0).val, by
      have h0 : (y 0).val < 32 := (y 0).isLt
      have h1 : (y 1).val < 8192 := (y 1).isLt
      omega⟩ : Fin 512) (⟨(y 1).val % 512, by omega⟩ : Fin 512))) _ ?_ _ cov
  intro p hp x
  obtain ⟨r, _, hp⟩ := List.mem_flatMap.1 hp
  obtain ⟨s, _, rfl⟩ := List.mem_map.1 hp
  have hx : ∃ (n : Fin 32) (l : Fin 128), x = ix2 n l :=
    ⟨x 0, x 1, by funext a; match a with | ⟨0, _⟩ => rfl | ⟨1, _⟩ => rfl⟩
  obtain ⟨n, l, rfl⟩ := hx
  refine Eq.trans (b := readPlane arg28 L j (⟨4 * (r % 4) + s, by omega⟩ : Fin 16) (⟨r / 4, by omega⟩ : Fin 4) (ix3 (0 : Fin 1) n l)) ?_ ?_
  · exact planeCast_at (readPlane arg28 L j _ _) n l
  refine (readPlane_at V arg28 L hL j _ (hj _) _ n l).trans ?_
  refine congrArg (V j) (congrArg₂ ix2 (Fin.ext ?_) (Fin.ext ?_))
  · show (4 * ((r : ℕ) % 4) + s) / 4 + 4 * (r / 4) + 16 * n = (512 * r + 128 * s + 1 * l) / 512 + 16 * (0 + 1 * n)
    omega
  · show 128 * ((4 * ((r : ℕ) % 4) + s) % 4) + l = (512 * r + 128 * s + 1 * l) % 512
    omega

end Views

/-! ## The views of the three slots -/

section Slots

variable (arg27 : Memref sig .tc .vmem S3x4x512x128 .f32) (arg28 : Memref sig .tc .vmem S3x16x128x128 .f32) (q k v : FVec Ideal S512x512 .f32)

theorem view4_slot0 (n : Fin 128) (l : Fin 2048) : View.canon (Val := Elt Ideal) (view4 arg27 (slabs0 q) 0) (ix2 n l)
    = q (ix2 (⟨(l : ℕ) / 512 + 4 * n, by omega⟩ : Fin 512) (⟨(l : ℕ) % 512, by omega⟩ : Fin 512)) :=
  view4_at ![q, q, q] arg27 (slabs0 q) 0 (fun _ hp => mem_slabs0 ![q, q, q] hp) (slab_mem0 ![q, q, q]) _ n l rfl

theorem view4_slot1 (n : Fin 128) (l : Fin 2048) : View.canon (Val := Elt Ideal) (view4 arg27 (slabs1 q k) 1) (ix2 n l)
    = k (ix2 (⟨(l : ℕ) / 512 + 4 * n, by omega⟩ : Fin 512) (⟨(l : ℕ) % 512, by omega⟩ : Fin 512)) :=
  view4_at ![q, k, k] arg27 (slabs1 q k) 1 (fun _ hp => mem_slabs1 ![q, k, k] hp) (slab_mem1 ![q, k, k]) _ n l rfl

theorem view4_slot2 (n : Fin 128) (l : Fin 2048) : View.canon (Val := Elt Ideal) (view4 arg27 (slabs2 q k v) 2) (ix2 n l)
    = v (ix2 (⟨(l : ℕ) / 512 + 4 * n, by omega⟩ : Fin 512) (⟨(l : ℕ) % 512, by omega⟩ : Fin 512)) :=
  view4_at ![q, k, v] arg27 (slabs2 q k v) 2 (fun _ hp => mem_slabs2 ![q, k, v] hp) (slab_mem2 ![q, k, v]) _ n l rfl

theorem view16_slot0 (n : Fin 32) (l : Fin 8192) : View.canon (Val := Elt Ideal) (view16 arg28 (planes0 arg27 q) 0) (ix2 n l)
    = q (ix2 (⟨(l : ℕ) / 512 + 16 * n, by omega⟩ : Fin 512) (⟨(l : ℕ) % 512, by omega⟩ : Fin 512)) :=
  view16_at ![q, q, q] arg28 (planes0 arg27 q) 0 (fun _ hp => mem_planes0 ![q, q, q] arg27 hp) (plane_mem0 ![q, q, q] arg27) _ n l rfl

theorem view16_slot1 (n : Fin 32) (l : Fin 8192) : View.canon (Val := Elt Ideal) (view16 arg28 (planes1 arg27 q k) 1) (ix2 n l)
    = k (ix2 (⟨(l : ℕ) / 512 + 16 * n, by omega⟩ : Fin 512) (⟨(l : ℕ) % 512, by omega⟩ : Fin 512)) :=
  view16_at ![q, k, k] arg28 (planes1 arg27 q k) 1 (fun _ hp => mem_planes1 ![q, k, k] arg27 hp) (plane_mem1 ![q, k, k] arg27) _ n l rfl

theorem view16_slot2 (n : Fin 32) (l : Fin 8192) : View.canon (Val := Elt Ideal) (view16 arg28 (planes2 arg27 q k v) 2) (ix2 n l)
    = v (ix2 (⟨(l : ℕ) / 512 + 16 * n, by omega⟩ : Fin 512) (⟨(l : ℕ) % 512, by omega⟩ : Fin 512)) :=
  view16_at ![q, k, v] arg28 (planes2 arg27 q k v) 2 (fun _ hp => mem_planes2 ![q, k, v] arg27 hp) (plane_mem2 ![q, k, v] arg27) _ n l rfl

end Slots

end Cert.Kernel4Ideal.Gen

end

end
-- ==== Proof.ProjRef.lean ====
module

public import proofs.«01_k».proof.Proof.Proj
public import proofs.«01_k».proof.Proof.Tile
public import proofs.«01_k».proof.Proof.Gen.Reference4Ideal.Read

@[expose] public section

set_option maxRecDepth 16384
set_option backward.proofsInPublic true

noncomputable section

open Idealize.ShloMosaic Idealize.ShloMosaic.TcCoe
open Cert.Attn (Mat)
open Cert.Proj (proj inv headNorm mate)

/-! # The reference's input projection, entry by entry -/

namespace Cert.Reference4Ideal.Read

variable (x0 : FVec Ideal (Mat 65536 1024) .f32) (x1 : FVec Ideal (Mat 1 1024) .f32) (x2 : FVec Ideal (Mat 1024 6272) .bf16)
  (x3 x4 : FVec Ideal (Mat 1 512) .f32)

/-- The projection of a row. -/
def row (r : Fin 65536) (c : Fin 6272) : EReal := proj (fun k => x0 (ix2 r k)) (fun k => x1 (ix2 0 k)) (fun k => x2 (ix2 k c))

theorem v13_at (r : Fin 65536) (c : Fin 6272) : val_main_v13 (F := Ideal) x0 x1 x2 (ix2 r c) = row x0 x1 x2 r c := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem v16_at (r : Fin 65536) (c : Fin 1024) :
    val_main_v16 (F := Ideal) x0 x1 x2 (ix2 r c) = row x0 x1 x2 r ⟨1024 + c, by omega⟩ := by
  refine Eq.trans ?_ (v13_at x0 x1 x2 r ⟨1024 + c, by omega⟩)
  generalize h : val_main_v13 (F := Ideal) x0 x1 x2 = w
  pointwise [val_main_v16, h]

theorem v60_at (r : Fin 65536) (c : Fin 1024) :
    val_main_v60 (F := Ideal) x0 x1 x2 (ix2 r c) = row x0 x1 x2 r ⟨1024 + c, by omega⟩ :=
  v16_at x0 x1 x2 r c

theorem v17_at (r : Fin 65536) (c : Fin 1024) :
    val_main_v17 (F := Ideal) x0 x1 x2 (ix2 r c) = row x0 x1 x2 r ⟨2048 + c, by omega⟩ := by
  refine Eq.trans ?_ (v13_at x0 x1 x2 r ⟨2048 + c, by omega⟩)
  generalize h : val_main_v13 (F := Ideal) x0 x1 x2 = w
  pointwise [val_main_v17, h]

theorem v61_at (r : Fin 65536) (c : Fin 1024) :
    val_main_v61 (F := Ideal) x0 x1 x2 (ix2 r c) = row x0 x1 x2 r ⟨2048 + c, by omega⟩ :=
  v17_at x0 x1 x2 r c

theorem v18_at (r : Fin 65536) (c : Fin 1024) :
    val_main_v18 (F := Ideal) x0 x1 x2 (ix2 r c) = row x0 x1 x2 r ⟨3072 + c, by omega⟩ := by
  refine Eq.trans ?_ (v13_at x0 x1 x2 r ⟨3072 + c, by omega⟩)
  generalize h : val_main_v13 (F := Ideal) x0 x1 x2 = w
  pointwise [val_main_v18, h]

theorem v62_at (r : Fin 65536) (c : Fin 1024) :
    val_main_v62 (F := Ideal) x0 x1 x2 (ix2 r c) = row x0 x1 x2 r ⟨3072 + c, by omega⟩ :=
  v18_at x0 x1 x2 r c

theorem v22_at (r : Fin 65536) (c : Fin 512) :
    val_main_v22 (F := Ideal) x0 x1 x2 (ix2 r c) = row x0 x1 x2 r ⟨5632 + c, by omega⟩ := by
  refine Eq.trans ?_ (v13_at x0 x1 x2 r ⟨5632 + c, by omega⟩)
  generalize h : val_main_v13 (F := Ideal) x0 x1 x2 = w
  pointwise [val_main_v22, h]

theorem v63_at (r : Fin 65536) (c : Fin 512) :
    val_main_v63 (F := Ideal) x0 x1 x2 (ix2 r c) = row x0 x1 x2 r ⟨5632 + c, by omega⟩ :=
  v22_at x0 x1 x2 r c

theorem v19_at (r : Fin 65536) (c : Fin 512) :
    val_main_v19 (F := Ideal) x0 x1 x2 (ix2 r c) = row x0 x1 x2 r ⟨4096 + c, by omega⟩ := by
  refine Eq.trans ?_ (v13_at x0 x1 x2 r ⟨4096 + c, by omega⟩)
  generalize h : val_main_v13 (F := Ideal) x0 x1 x2 = w
  pointwise [val_main_v19, h]

theorem v20_at (r : Fin 65536) (c : Fin 512) :
    val_main_v20 (F := Ideal) x0 x1 x2 (ix2 r c) = row x0 x1 x2 r ⟨4608 + c, by omega⟩ := by
  refine Eq.trans ?_ (v13_at x0 x1 x2 r ⟨4608 + c, by omega⟩)
  generalize h : val_main_v13 (F := Ideal) x0 x1 x2 = w
  pointwise [val_main_v20, h]

theorem v21_at (r : Fin 65536) (c : Fin 512) :
    val_main_v21 (F := Ideal) x0 x1 x2 (ix2 r c) = row x0 x1 x2 r ⟨5120 + c, by omega⟩ := by
  refine Eq.trans ?_ (v13_at x0 x1 x2 r ⟨5120 + c, by omega⟩)
  generalize h : val_main_v13 (F := Ideal) x0 x1 x2 = w
  pointwise [val_main_v21, h]

theorem v66_at (r : Fin 65536) (c : Fin 512) :
    val_main_v66 (F := Ideal) x0 x1 x2 (ix2 r c) = row x0 x1 x2 r ⟨5120 + c, by omega⟩ :=
  v21_at x0 x1 x2 r c

theorem v24_at (r : Fin 65536) (a : Fin 8) (b : Fin 64) :
    val_main_v24 (F := Ideal) x0 x1 x2 (ix3 r a b) = row x0 x1 x2 r ⟨4096 + (64 * a + b), by omega⟩ := by
  refine Eq.trans ?_ (v19_at x0 x1 x2 r ⟨64 * a + b, by omega⟩)
  show shapeCast _ (val_main_v19 (F := Ideal) x0 x1 x2) _ (ix3 r a b) = _
  exact shapeCast_apply _ _ _ _ (by rw [Shape.rowMajor_val_two, Shape.rowMajor_val_three]; simp; omega)

theorem v37_at (r : Fin 65536) (a : Fin 8) (b : Fin 64) :
    val_main_v37 (F := Ideal) x0 x1 x2 x3 (ix3 r a b)
      = headNorm (fun c => row x0 x1 x2 r ⟨4096 + c, by omega⟩) (x3 (ix2 0 ⟨64 * a + b, by omega⟩)) ⟨64 * a + b, by omega⟩ := by
  have e : val_main_v37 (F := Ideal) x0 x1 x2 x3 (ix3 r a b)
      = val_main_v24 (F := Ideal) x0 x1 x2 (ix3 r a b)
        * Ideal.rsqrt (Ideal.div (∑ x : Fin 64, val_main_v24 (F := Ideal) x0 x1 x2 (ix3 r a x) * val_main_v24 (F := Ideal) x0 x1 x2 (ix3 r a x))
            (Ideal.ofBits .f32 1115684864#32) + Ideal.ofBits .f32 897988541#32)
        * x3 (ix2 0 ⟨a * 64 + b, by omega⟩) := by
    generalize h : val_main_v24 (F := Ideal) x0 x1 x2 = w
    pointwise [val_main_v37, val_main_v36, val_main_v35, val_main_v34, val_main_v33, val_main_v32, val_main_v31, val_main_v30, val_main_v29, val_main_v28, val_main_v27, val_main_v26, val_main_v25, val_main_cst_2, val_main_cst_3, val_main_cst_4, h]
  rw [e]
  simp only [v24_at]
  unfold headNorm
  refine congrArg₂ (· * ·) (congrArg₂ (· * ·) rfl (congrArg Ideal.rsqrt (congrArg₂ (· + ·) (congrArg₂ Ideal.div
    (Finset.sum_congr rfl fun l _ => ?_) rfl) rfl))) (congrArg x3 (congrArg₂ ix2 rfl (Fin.ext (by show (a : ℕ) * 64 + b = 64 * a + b; omega))))
  have : mate ⟨64 * a + b, by omega⟩ l = (⟨64 * a + l, by omega⟩ : Fin 512) := Fin.ext (by
    show 64 * ((64 * (a : ℕ) + b) / 64) + l = 64 * a + l
    omega)
  rw [this]

/-- The queries. -/
theorem v38_at (r : Fin 65536) (c : Fin 512) : val_main_v38 (F := Ideal) x0 x1 x2 x3 (ix2 r c)
    = headNorm (fun c => row x0 x1 x2 r ⟨4096 + c, by omega⟩) (x3 (ix2 0 c)) c := by
  have e : (⟨64 * ((c : ℕ) / 64) + (c : ℕ) % 64, by omega⟩ : Fin 512) = c := Fin.ext (by show 64 * ((c : ℕ) / 64) + (c : ℕ) % 64 = c; omega)
  have e' := v37_at x0 x1 x2 x3 r ⟨c / 64, by omega⟩ ⟨c % 64, by omega⟩
  dsimp only at e'
  rw [e] at e'
  refine Eq.trans ?_ e'
  show shapeCast _ (val_main_v37 (F := Ideal) x0 x1 x2 x3) _ (ix2 r c) = _
  exact shapeCast_apply _ _ _ _ (by rw [Shape.rowMajor_val_two, Shape.rowMajor_val_three]; simp; omega)

theorem v64_at (r : Fin 65536) (c : Fin 512) : val_main_v64 (F := Ideal) x0 x1 x2 x3 (ix2 r c)
    = headNorm (fun c => row x0 x1 x2 r ⟨4096 + c, by omega⟩) (x3 (ix2 0 c)) c :=
  v38_at x0 x1 x2 x3 r c

theorem v39_at (r : Fin 65536) (a : Fin 8) (b : Fin 64) :
    val_main_v39 (F := Ideal) x0 x1 x2 (ix3 r a b) = row x0 x1 x2 r ⟨4608 + (64 * a + b), by omega⟩ := by
  refine Eq.trans ?_ (v20_at x0 x1 x2 r ⟨64 * a + b, by omega⟩)
  show shapeCast _ (val_main_v20 (F := Ideal) x0 x1 x2) _ (ix3 r a b) = _
  exact shapeCast_apply _ _ _ _ (by rw [Shape.rowMajor_val_two, Shape.rowMajor_val_three]; simp; omega)

theorem v52_at (r : Fin 65536) (a : Fin 8) (b : Fin 64) :
    val_main_v52 (F := Ideal) x0 x1 x2 x4 (ix3 r a b)
      = headNorm (fun c => row x0 x1 x2 r ⟨4608 + c, by omega⟩) (x4 (ix2 0 ⟨64 * a + b, by omega⟩)) ⟨64 * a + b, by omega⟩ := by
  have e : val_main_v52 (F := Ideal) x0 x1 x2 x4 (ix3 r a b)
      = val_main_v39 (F := Ideal) x0 x1 x2 (ix3 r a b)
        * Ideal.rsqrt (Ideal.div (∑ x : Fin 64, val_main_v39 (F := Ideal) x0 x1 x2 (ix3 r a x) * val_main_v39 (F := Ideal) x0 x1 x2 (ix3 r a x))
            (Ideal.ofBits .f32 1115684864#32) + Ideal.ofBits .f32 897988541#32)
        * x4 (ix2 0 ⟨a * 64 + b, by omega⟩) := by
    generalize h : val_main_v39 (F := Ideal) x0 x1 x2 = w
    pointwise [val_main_v52, val_main_v51, val_main_v50, val_main_v49, val_main_v48, val_main_v47, val_main_v46, val_main_v45, val_main_v44, val_main_v43, val_main_v42, val_main_v41, val_main_v40, val_main_cst_5, val_main_cst_6, val_main_cst_7, h]
  rw [e]
  simp only [v39_at]
  unfold headNorm
  refine congrArg₂ (· * ·) (congrArg₂ (· * ·) rfl (congrArg Ideal.rsqrt (congrArg₂ (· + ·) (congrArg₂ Ideal.div
    (Finset.sum_congr rfl fun l _ => ?_) rfl) rfl))) (congrArg x4 (congrArg₂ ix2 rfl (Fin.ext (by show (a : ℕ) * 64 + b = 64 * a + b; omega))))
  have : mate ⟨64 * a + b, by omega⟩ l = (⟨64 * a + l, by omega⟩ : Fin 512) := Fin.ext (by
    show 64 * ((64 * (a : ℕ) + b) / 64) + l = 64 * a + l
    omega)
  rw [this]

/-- The keys. -/
theorem v53_at (r : Fin 65536) (c : Fin 512) : val_main_v53 (F := Ideal) x0 x1 x2 x4 (ix2 r c)
    = headNorm (fun c => row x0 x1 x2 r ⟨4608 + c, by omega⟩) (x4 (ix2 0 c)) c := by
  have e : (⟨64 * ((c : ℕ) / 64) + (c : ℕ) % 64, by omega⟩ : Fin 512) = c := Fin.ext (by show 64 * ((c : ℕ) / 64) + (c : ℕ) % 64 = c; omega)
  have e' := v52_at x0 x1 x2 x4 r ⟨c / 64, by omega⟩ ⟨c % 64, by omega⟩
  dsimp only at e'
  rw [e] at e'
  refine Eq.trans ?_ e'
  show shapeCast _ (val_main_v52 (F := Ideal) x0 x1 x2 x4) _ (ix2 r c) = _
  exact shapeCast_apply _ _ _ _ (by rw [Shape.rowMajor_val_two, Shape.rowMajor_val_three]; simp; omega)

theorem v65_at (r : Fin 65536) (c : Fin 512) : val_main_v65 (F := Ideal) x0 x1 x2 x4 (ix2 r c)
    = headNorm (fun c => row x0 x1 x2 r ⟨4608 + c, by omega⟩) (x4 (ix2 0 c)) c :=
  v53_at x0 x1 x2 x4 r c

theorem v67_at (n : Fin 16384) (k : Fin 2048) : val_main_v67 (F := Ideal) x0 x1 x2 x3 (ix2 n k)
    = val_main_v64 (F := Ideal) x0 x1 x2 x3 (ix2 ⟨k / 512 + 4 * n, by omega⟩ ⟨k % 512, by omega⟩) := by
  show shapeCast _ (val_main_v38 (F := Ideal) x0 x1 x2 x3) _ (ix2 n k) = _
  exact shapeCast_apply _ _ _ _ (by rw [Shape.rowMajor_val_two, Shape.rowMajor_val_two]; simp; omega)

theorem v68_at (n : Fin 16384) (k : Fin 2048) : val_main_v68 (F := Ideal) x0 x1 x2 x4 (ix2 n k)
    = val_main_v65 (F := Ideal) x0 x1 x2 x4 (ix2 ⟨k / 512 + 4 * n, by omega⟩ ⟨k % 512, by omega⟩) := by
  show shapeCast _ (val_main_v53 (F := Ideal) x0 x1 x2 x4) _ (ix2 n k) = _
  exact shapeCast_apply _ _ _ _ (by rw [Shape.rowMajor_val_two, Shape.rowMajor_val_two]; simp; omega)

theorem v69_at (n : Fin 16384) (k : Fin 2048) : val_main_v69 (F := Ideal) x0 x1 x2 (ix2 n k)
    = val_main_v66 (F := Ideal) x0 x1 x2 (ix2 ⟨k / 512 + 4 * n, by omega⟩ ⟨k % 512, by omega⟩) := by
  show shapeCast _ (val_main_v21 (F := Ideal) x0 x1 x2) _ (ix2 n k) = _
  exact shapeCast_apply _ _ _ _ (by rw [Shape.rowMajor_val_two, Shape.rowMajor_val_two]; simp; omega)

theorem v70_at (n : Fin 4096) (k : Fin 8192) : val_main_v70 (F := Ideal) x0 x1 x2 x3 (ix2 n k)
    = val_main_v64 (F := Ideal) x0 x1 x2 x3 (ix2 ⟨k / 512 + 16 * n, by omega⟩ ⟨k % 512, by omega⟩) := by
  show shapeCast _ (val_main_v38 (F := Ideal) x0 x1 x2 x3) _ (ix2 n k) = _
  exact shapeCast_apply _ _ _ _ (by rw [Shape.rowMajor_val_two, Shape.rowMajor_val_two]; simp; omega)

theorem v71_at (n : Fin 4096) (k : Fin 8192) : val_main_v71 (F := Ideal) x0 x1 x2 x4 (ix2 n k)
    = val_main_v65 (F := Ideal) x0 x1 x2 x4 (ix2 ⟨k / 512 + 16 * n, by omega⟩ ⟨k % 512, by omega⟩) := by
  show shapeCast _ (val_main_v53 (F := Ideal) x0 x1 x2 x4) _ (ix2 n k) = _
  exact shapeCast_apply _ _ _ _ (by rw [Shape.rowMajor_val_two, Shape.rowMajor_val_two]; simp; omega)

theorem v72_at (n : Fin 4096) (k : Fin 8192) : val_main_v72 (F := Ideal) x0 x1 x2 (ix2 n k)
    = val_main_v66 (F := Ideal) x0 x1 x2 (ix2 ⟨k / 512 + 16 * n, by omega⟩ ⟨k % 512, by omega⟩) := by
  show shapeCast _ (val_main_v21 (F := Ideal) x0 x1 x2) _ (ix2 n k) = _
  exact shapeCast_apply _ _ _ _ (by rw [Shape.rowMajor_val_two, Shape.rowMajor_val_two]; simp; omega)

end Cert.Reference4Ideal.Read

end

end
-- ==== Proof.Parts.lean ====
module

public import proofs.«01_k».proof.Defs

@[expose] public section

set_option maxRecDepth 16384

noncomputable section

open Idealize.ShloMosaic

/-! # The part of an index: quotient and remainder as 32-bit words -/

namespace Cert.Parts

/-- The sign of a word: 0, 1 or -1. -/
def sgn (a : BitVec 32) : BitVec 32 := if a = 0 then 0 else if a.msb = true then -1 else 1

/-- The quotient rounded down, from the quotient rounded to zero. -/
def quot (a d : BitVec 32) : BitVec 32 :=
  Scalar.select (IntOp.andi (IntOp.cmpi .ne (sgn a) (sgn d)) (IntOp.cmpi .ne (IntOp.remsi .host a d) 0#32))
    (IntOp.subi (IntOp.divsi .host a d) 1#32) (IntOp.divsi .host a d)

/-- The remainder of the sign of its divisor. -/
def remain (a d : BitVec 32) : BitVec 32 :=
  Scalar.select
    (IntOp.andi
      (IntOp.cmpi .ne (IntOp.cmpi .slt (IntOp.remsi .host a (Scalar.select (IntOp.cmpi .eq d 0#32) 1#32 d)) 0#32)
        (IntOp.cmpi .slt (Scalar.select (IntOp.cmpi .eq d 0#32) 1#32 d) 0#32))
      (IntOp.cmpi .ne (IntOp.remsi .host a (Scalar.select (IntOp.cmpi .eq d 0#32) 1#32 d)) 0#32))
    (IntOp.addi (IntOp.remsi .host a (Scalar.select (IntOp.cmpi .eq d 0#32) 1#32 d)) (Scalar.select (IntOp.cmpi .eq d 0#32) 1#32 d))
    (IntOp.remsi .host a (Scalar.select (IntOp.cmpi .eq d 0#32) 1#32 d))

theorem quot_16 : ∀ x : Fin 128, quot (BitVec.ofNat 32 x) 16#32 = BitVec.ofNat 32 ((x : ℕ) / 16) := by decide +kernel

theorem rest_8 : ∀ x : Fin 128, remain (BitVec.ofNat 32 x) 8#32 = BitVec.ofNat 32 ((x : ℕ) % 8) := by decide +kernel

theorem quot_512 : ∀ k : Fin 1536, quot (BitVec.ofNat 32 k) 512#32 = BitVec.ofNat 32 ((k : ℕ) / 512) := by decide +kernel

theorem quot_rest : ∀ k : Fin 1536,
    quot (remain (BitVec.ofNat 32 k) 512#32) 64#32 = BitVec.ofNat 32 ((k : ℕ) % 512 / 64) := by decide +kernel

theorem quot_64 : ∀ k : Fin 256, quot (BitVec.ofNat 32 k) 64#32 = BitVec.ofNat 32 ((k : ℕ) / 64) := by decide +kernel

/-- Small words are equal exactly when their numbers are. -/
theorem eq_small {a b : ℕ} (ha : a < 2 ^ 32) (hb : b < 2 ^ 32) :
    IntOp.cmpi .eq (BitVec.ofNat 32 a) (BitVec.ofNat 32 b) = if a = b then 1#1 else 0#1 := by
  have h : BitVec.ofNat 32 a = BitVec.ofNat 32 b ↔ a = b := by
    constructor
    · intro h
      have := congrArg BitVec.toNat h
      rwa [BitVec.toNat_ofNat, BitVec.toNat_ofNat, Nat.mod_eq_of_lt ha, Nat.mod_eq_of_lt hb] at this
    · exact congrArg _
  by_cases hab : a = b
  · subst hab; simp [IntOp.cmpi]
  · rw [if_neg hab]
    have e : (BitVec.ofNat 32 a == BitVec.ofNat 32 b) = false := beq_eq_false_iff_ne.2 fun e => hab (h.1 e)
    show BitVec.ofBool (BitVec.ofNat 32 a == BitVec.ofNat 32 b) = 0#1
    rw [e]
    rfl

theorem small : ∀ x : Fin 128, IntOp.cmpi .slt (BitVec.ofNat 32 x) 48#32 = if (x : ℕ) < 48 then 1#1 else 0#1 := by
  decide +kernel

/-- The bit 1 as a number. -/
theorem one_bit : (FloatOps.uitofp .bf16 (1#1) : Ideal .bf16) = (1 : EReal) := by
  show ((((1#1 : BitVec 1).toNat : ℕ) : ℝ) : EReal) = 1
  simp

/-- The bit 0 as a number. -/
theorem zero_bit : (FloatOps.uitofp .bf16 (0#1) : Ideal .bf16) = (0 : EReal) := by
  show ((((0#1 : BitVec 1).toNat : ℕ) : ℝ) : EReal) = 0
  simp

end Cert.Parts

end

end
-- ==== Proof.ProjRunA.lean ====
module

public import proofs.«01_k».proof.Proof.ProjBody

@[expose] public section

set_option maxRecDepth 16384
set_option backward.proofsInPublic true

noncomputable section

open Idealize.ShloMosaic Idealize.ShloMosaic.TcCoe
open Cert.Attn (inb2 box)
open Cert.Out (load load_at readCov_of_pieces)

/-! # The body's stores, output by output: case A -/

namespace Cert.Kernel4Ideal.Gen

section Run

variable (c : Dev nD) (i : grid0.Coords)
  {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  {arg7 : Memref sig .tc .vmem S4x1024 .f32} (harg7 : arg7.IsWhole) {arg8 : Memref sig .tc .vmem S1x1024 .f32} (harg8 : arg8.IsWhole)
  {arg9 : Memref sig .tc .vmem S1x128 .f32} (harg9 : arg9.IsWhole) {arg10 : Memref sig .tc .vmem S256x256 .bf16} (harg10 : arg10.IsWhole)
  {arg11 : Memref sig .tc .vmem S512x512 .bf16} (harg11 : arg11.IsWhole) {arg12 : Memref sig .tc .vmem S512x1024 .bf16} (harg12 : arg12.IsWhole)
  {arg13 : Memref sig .tc .vmem S512x1024 .bf16} (harg13 : arg13.IsWhole) {arg14 : Memref sig .tc .vmem S512x1024 .bf16} (harg14 : arg14.IsWhole)
  {arg15 : Memref sig .tc .vmem S512x512 .bf16} (harg15 : arg15.IsWhole) {arg16 : Memref sig .tc .vmem S512x128 .f32} (harg16 : arg16.IsWhole)
  {arg17 : Memref sig .tc .vmem S2x4x128x256 .bf16} (harg17 : arg17.IsWhole) {arg18 : Memref sig .tc .vmem S512x512 .bf16} (harg18 : arg18.IsWhole)
  {arg19 : Memref sig .tc .vmem S512x512 .bf16} (harg19 : arg19.IsWhole) {arg20 : Memref sig .tc .vmem S512x512 .bf16} (harg20 : arg20.IsWhole)
  {arg21 : Memref sig .tc .vmem S128x2048 .bf16} (harg21 : arg21.IsWhole) {arg22 : Memref sig .tc .vmem S128x2048 .bf16} (harg22 : arg22.IsWhole)
  {arg23 : Memref sig .tc .vmem S128x2048 .bf16} (harg23 : arg23.IsWhole) {arg24 : Memref sig .tc .vmem S32x8192 .bf16} (harg24 : arg24.IsWhole)
  {arg25 : Memref sig .tc .vmem S32x8192 .bf16} (harg25 : arg25.IsWhole) {arg26 : Memref sig .tc .vmem S32x8192 .bf16} (harg26 : arg26.IsWhole)
  {arg27 : Memref sig .tc .vmem S3x4x512x128 .f32} (harg27 : arg27.IsWhole) {arg28 : Memref sig .tc .vmem S3x16x128x128 .f32} (harg28 : arg28.IsWhole)
  {arg29 : Memref sig .tc .vmem S520x1024 .f32} (harg29 : arg29.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32) (x6 : Vec Ideal S4x1024 .f32) (x7 : Vec Ideal S1x1024 .f32)
  (x8 : Vec Ideal S1x128 .f32) (x9 : Vec Ideal S256x256 .bf16) (xs2 : Vec Ideal S520x1024 .f32)

/-- The stores to output 11, case A. -/
theorem run_A_11 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.1
  = whole 1024 (k0_pay7 (F := Ideal) (load harg1 x0 512 1024 0 0 (by omega) (by omega)) (load harg2 x1 1 1024 0 0 (by omega) (by omega)) (cols harg3 x2 1024 1024 (by omega))) := rfl

/-- The stores to output 12, case A. -/
theorem run_A_12 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.1
  = whole 1024 (k0_pay38 (F := Ideal) (scaled harg1 harg2 x0 x1) (roots harg1 x0) (cols harg3 x2 1024 2048 (by omega))) := rfl

/-- The stores to output 13, case A. -/
theorem run_A_13 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.1
  = whole 1024 (k0_pay158 (F := Ideal) (scaled harg1 harg2 x0 x1) (roots harg1 x0) (cols harg3 x2 1024 3072 (by omega))) := rfl

/-- The stores to output 14, case A. -/
theorem run_A_14 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.1
  = whole 512 (k0_pay284 (F := Ideal) (scaled harg1 harg2 x0 x1) (roots harg1 x0) (cols harg3 x2 512 5632 (by omega))) := rfl

/-- The stores to output 17, case A. -/
theorem run_A_17 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.1
  = whole 512 (k0_pay40 (F := Ideal) (scaled harg1 harg2 x0 x1) (roots harg1 x0) (cols harg3 x2 512 4096 (by omega)) (load harg4 x3 256 256 0 0 (by omega) (by omega)) (load harg5 x4 1 512 0 0 (by omega) (by omega))) := rfl

/-- The stores to output 18, case A. -/
theorem run_A_18 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.1
  = whole 512 (k0_pay162 (F := Ideal) (k0_pay159 (F := Ideal) (scaled harg1 harg2 x0 x1) (roots harg1 x0) (cols harg3 x2 512 4608 (by omega))) (k0_pay160 (F := Ideal) (scaled harg1 harg2 x0 x1) (roots harg1 x0) (cols harg3 x2 512 4608 (by omega))) (load harg4 x3 256 256 0 0 (by omega) (by omega)) (load harg6 x5 1 512 0 0 (by omega) (by omega))) := rfl

/-- The stores to output 19, case A. -/
theorem run_A_19 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.1
  = whole 512 (k0_pay286 (F := Ideal) (scaled harg1 harg2 x0 x1) (roots harg1 x0) (cols harg3 x2 512 5120 (by omega))) := rfl

/-- The stores to output 20, case A. -/
theorem run_A_20 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.1
  = view4 arg27 (slabs0 (blkQ harg1 harg2 harg3 harg4 harg5 x0 x1 x2 x3 x4)) 0 := rfl

/-- The stores to output 21, case A. -/
theorem run_A_21 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.2.1
  = view4 arg27 (slabs1 (blkQ harg1 harg2 harg3 harg4 harg5 x0 x1 x2 x3 x4) (blkK harg1 harg2 harg3 harg4 harg6 x0 x1 x2 x3 x5)) 1 := rfl

/-- The stores to output 22, case A. -/
theorem run_A_22 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.2.2.1
  = view4 arg27 (slabs2 (blkQ harg1 harg2 harg3 harg4 harg5 x0 x1 x2 x3 x4) (blkK harg1 harg2 harg3 harg4 harg6 x0 x1 x2 x3 x5) (blkV harg1 harg2 harg3 x0 x1 x2)) 2 := rfl

end Run

end Cert.Kernel4Ideal.Gen

end

end
-- ==== Proof.ProjRunB.lean ====
module

public import proofs.«01_k».proof.Proof.ProjBody

@[expose] public section

set_option maxRecDepth 16384
set_option backward.proofsInPublic true

noncomputable section

open Idealize.ShloMosaic Idealize.ShloMosaic.TcCoe
open Cert.Attn (inb2 box)
open Cert.Out (load load_at readCov_of_pieces)

/-! # The body's stores, output by output: case B -/

namespace Cert.Kernel4Ideal.Gen

section Run

variable (c : Dev nD) (i : grid0.Coords)
  {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  {arg7 : Memref sig .tc .vmem S4x1024 .f32} (harg7 : arg7.IsWhole) {arg8 : Memref sig .tc .vmem S1x1024 .f32} (harg8 : arg8.IsWhole)
  {arg9 : Memref sig .tc .vmem S1x128 .f32} (harg9 : arg9.IsWhole) {arg10 : Memref sig .tc .vmem S256x256 .bf16} (harg10 : arg10.IsWhole)
  {arg11 : Memref sig .tc .vmem S512x512 .bf16} (harg11 : arg11.IsWhole) {arg12 : Memref sig .tc .vmem S512x1024 .bf16} (harg12 : arg12.IsWhole)
  {arg13 : Memref sig .tc .vmem S512x1024 .bf16} (harg13 : arg13.IsWhole) {arg14 : Memref sig .tc .vmem S512x1024 .bf16} (harg14 : arg14.IsWhole)
  {arg15 : Memref sig .tc .vmem S512x512 .bf16} (harg15 : arg15.IsWhole) {arg16 : Memref sig .tc .vmem S512x128 .f32} (harg16 : arg16.IsWhole)
  {arg17 : Memref sig .tc .vmem S2x4x128x256 .bf16} (harg17 : arg17.IsWhole) {arg18 : Memref sig .tc .vmem S512x512 .bf16} (harg18 : arg18.IsWhole)
  {arg19 : Memref sig .tc .vmem S512x512 .bf16} (harg19 : arg19.IsWhole) {arg20 : Memref sig .tc .vmem S512x512 .bf16} (harg20 : arg20.IsWhole)
  {arg21 : Memref sig .tc .vmem S128x2048 .bf16} (harg21 : arg21.IsWhole) {arg22 : Memref sig .tc .vmem S128x2048 .bf16} (harg22 : arg22.IsWhole)
  {arg23 : Memref sig .tc .vmem S128x2048 .bf16} (harg23 : arg23.IsWhole) {arg24 : Memref sig .tc .vmem S32x8192 .bf16} (harg24 : arg24.IsWhole)
  {arg25 : Memref sig .tc .vmem S32x8192 .bf16} (harg25 : arg25.IsWhole) {arg26 : Memref sig .tc .vmem S32x8192 .bf16} (harg26 : arg26.IsWhole)
  {arg27 : Memref sig .tc .vmem S3x4x512x128 .f32} (harg27 : arg27.IsWhole) {arg28 : Memref sig .tc .vmem S3x16x128x128 .f32} (harg28 : arg28.IsWhole)
  {arg29 : Memref sig .tc .vmem S520x1024 .f32} (harg29 : arg29.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32) (x6 : Vec Ideal S4x1024 .f32) (x7 : Vec Ideal S1x1024 .f32)
  (x8 : Vec Ideal S1x128 .f32) (x9 : Vec Ideal S256x256 .bf16) (xs2 : Vec Ideal S520x1024 .f32)

/-- The stores to output 11, case B. -/
theorem run_B_11 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.1
  = whole 1024 (k0_pay7 (F := Ideal) (load harg1 x0 512 1024 0 0 (by omega) (by omega)) (load harg2 x1 1 1024 0 0 (by omega) (by omega)) (cols harg3 x2 1024 1024 (by omega))) := rfl

/-- The stores to output 12, case B. -/
theorem run_B_12 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.1
  = whole 1024 (k0_pay38 (F := Ideal) (scaled harg1 harg2 x0 x1) (roots harg1 x0) (cols harg3 x2 1024 2048 (by omega))) := rfl

/-- The stores to output 13, case B. -/
theorem run_B_13 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.1
  = whole 1024 (k0_pay158 (F := Ideal) (scaled harg1 harg2 x0 x1) (roots harg1 x0) (cols harg3 x2 1024 3072 (by omega))) := rfl

/-- The stores to output 14, case B. -/
theorem run_B_14 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.1
  = whole 512 (k0_pay284 (F := Ideal) (scaled harg1 harg2 x0 x1) (roots harg1 x0) (cols harg3 x2 512 5632 (by omega))) := rfl

/-- The stores to output 17, case B. -/
theorem run_B_17 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.1
  = whole 512 (k0_pay40 (F := Ideal) (scaled harg1 harg2 x0 x1) (roots harg1 x0) (cols harg3 x2 512 4096 (by omega)) (load harg4 x3 256 256 0 0 (by omega) (by omega)) (load harg5 x4 1 512 0 0 (by omega) (by omega))) := rfl

/-- The stores to output 18, case B. -/
theorem run_B_18 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.1
  = whole 512 (k0_pay162 (F := Ideal) (k0_pay159 (F := Ideal) (scaled harg1 harg2 x0 x1) (roots harg1 x0) (cols harg3 x2 512 4608 (by omega))) (k0_pay160 (F := Ideal) (scaled harg1 harg2 x0 x1) (roots harg1 x0) (cols harg3 x2 512 4608 (by omega))) (load harg4 x3 256 256 0 0 (by omega) (by omega)) (load harg6 x5 1 512 0 0 (by omega) (by omega))) := rfl

/-- The stores to output 19, case B. -/
theorem run_B_19 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.1
  = whole 512 (k0_pay286 (F := Ideal) (scaled harg1 harg2 x0 x1) (roots harg1 x0) (cols harg3 x2 512 5120 (by omega))) := rfl

/-- The stores to output 20, case B. -/
theorem run_B_20 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.1
  = view4 arg27 (slabs0 (blkQ harg1 harg2 harg3 harg4 harg5 x0 x1 x2 x3 x4)) 0 := rfl

/-- The stores to output 21, case B. -/
theorem run_B_21 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.2.1
  = view4 arg27 (slabs1 (blkQ harg1 harg2 harg3 harg4 harg5 x0 x1 x2 x3 x4) (blkK harg1 harg2 harg3 harg4 harg6 x0 x1 x2 x3 x5)) 1 := rfl

/-- The stores to output 22, case B. -/
theorem run_B_22 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.2.2.1
  = view4 arg27 (slabs2 (blkQ harg1 harg2 harg3 harg4 harg5 x0 x1 x2 x3 x4) (blkK harg1 harg2 harg3 harg4 harg6 x0 x1 x2 x3 x5) (blkV harg1 harg2 harg3 x0 x1 x2)) 2 := rfl

end Run

end Cert.Kernel4Ideal.Gen

end

end
-- ==== Proof.ProjRunSixteenA.lean ====
module

public import proofs.«01_k».proof.Proof.ProjBody

@[expose] public section

set_option maxRecDepth 16384
set_option backward.proofsInPublic true

noncomputable section

open Idealize.ShloMosaic Idealize.ShloMosaic.TcCoe
open Cert.Attn (inb2 box)
open Cert.Out (load load_at readCov_of_pieces)

/-! # The body's stores to the views with every sixteenth row: case A -/

namespace Cert.Kernel4Ideal.Gen

section Run

variable (c : Dev nD) (i : grid0.Coords)
  {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  {arg7 : Memref sig .tc .vmem S4x1024 .f32} (harg7 : arg7.IsWhole) {arg8 : Memref sig .tc .vmem S1x1024 .f32} (harg8 : arg8.IsWhole)
  {arg9 : Memref sig .tc .vmem S1x128 .f32} (harg9 : arg9.IsWhole) {arg10 : Memref sig .tc .vmem S256x256 .bf16} (harg10 : arg10.IsWhole)
  {arg11 : Memref sig .tc .vmem S512x512 .bf16} (harg11 : arg11.IsWhole) {arg12 : Memref sig .tc .vmem S512x1024 .bf16} (harg12 : arg12.IsWhole)
  {arg13 : Memref sig .tc .vmem S512x1024 .bf16} (harg13 : arg13.IsWhole) {arg14 : Memref sig .tc .vmem S512x1024 .bf16} (harg14 : arg14.IsWhole)
  {arg15 : Memref sig .tc .vmem S512x512 .bf16} (harg15 : arg15.IsWhole) {arg16 : Memref sig .tc .vmem S512x128 .f32} (harg16 : arg16.IsWhole)
  {arg17 : Memref sig .tc .vmem S2x4x128x256 .bf16} (harg17 : arg17.IsWhole) {arg18 : Memref sig .tc .vmem S512x512 .bf16} (harg18 : arg18.IsWhole)
  {arg19 : Memref sig .tc .vmem S512x512 .bf16} (harg19 : arg19.IsWhole) {arg20 : Memref sig .tc .vmem S512x512 .bf16} (harg20 : arg20.IsWhole)
  {arg21 : Memref sig .tc .vmem S128x2048 .bf16} (harg21 : arg21.IsWhole) {arg22 : Memref sig .tc .vmem S128x2048 .bf16} (harg22 : arg22.IsWhole)
  {arg23 : Memref sig .tc .vmem S128x2048 .bf16} (harg23 : arg23.IsWhole) {arg24 : Memref sig .tc .vmem S32x8192 .bf16} (harg24 : arg24.IsWhole)
  {arg25 : Memref sig .tc .vmem S32x8192 .bf16} (harg25 : arg25.IsWhole) {arg26 : Memref sig .tc .vmem S32x8192 .bf16} (harg26 : arg26.IsWhole)
  {arg27 : Memref sig .tc .vmem S3x4x512x128 .f32} (harg27 : arg27.IsWhole) {arg28 : Memref sig .tc .vmem S3x16x128x128 .f32} (harg28 : arg28.IsWhole)
  {arg29 : Memref sig .tc .vmem S520x1024 .f32} (harg29 : arg29.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32) (x6 : Vec Ideal S4x1024 .f32) (x7 : Vec Ideal S1x1024 .f32)
  (x8 : Vec Ideal S1x128 .f32) (x9 : Vec Ideal S256x256 .bf16) (xs2 : Vec Ideal S520x1024 .f32)

/-- The planes stored before output 23's reads, case A. -/
theorem planes_A_23 : (kernelRun0_A.sl.HS1_16 (F := Ideal) c arg1 harg1 arg2 harg2 arg3 harg3 arg4 harg4 arg5 harg5 arg27 x0 x1 x2 x3 x4)
  = planes0 arg27 (blkQ harg1 harg2 harg3 harg4 harg5 x0 x1 x2 x3 x4) := rfl

/-- The stores to output 23, case A. -/
theorem run_A_23 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.2.2.2.1
  = view16 arg28 (planes0 arg27 (blkQ harg1 harg2 harg3 harg4 harg5 x0 x1 x2 x3 x4)) 0 := by
  refine Eq.trans (b := view16 arg28 (kernelRun0_A.sl.HS1_16 (F := Ideal) c arg1 harg1 arg2 harg2 arg3 harg3 arg4 harg4 arg5 harg5 arg27 x0 x1 x2 x3 x4) 0) rfl ?_
  rw [planes_A_23]

/-- The planes stored before output 24's reads, case A. -/
theorem planes_A_24 : (kernelRun0_A.sl.HS1_32 (F := Ideal) c arg1 harg1 arg2 harg2 arg3 harg3 arg4 harg4 arg5 harg5 arg6 harg6 arg27 x0 x1 x2 x3 x4 x5)
  = planes1 arg27 (blkQ harg1 harg2 harg3 harg4 harg5 x0 x1 x2 x3 x4) (blkK harg1 harg2 harg3 harg4 harg6 x0 x1 x2 x3 x5) := rfl

/-- The stores to output 24, case A. -/
theorem run_A_24 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.2.2.2.2.1
  = view16 arg28 (planes1 arg27 (blkQ harg1 harg2 harg3 harg4 harg5 x0 x1 x2 x3 x4) (blkK harg1 harg2 harg3 harg4 harg6 x0 x1 x2 x3 x5)) 1 := by
  refine Eq.trans (b := view16 arg28 (kernelRun0_A.sl.HS1_32 (F := Ideal) c arg1 harg1 arg2 harg2 arg3 harg3 arg4 harg4 arg5 harg5 arg6 harg6 arg27 x0 x1 x2 x3 x4 x5) 1) rfl ?_
  rw [planes_A_24]

/-- The planes stored before output 25's reads, case A. -/
theorem planes_A_25 : (kernelRun0_A.sl.HS1_48 (F := Ideal) c arg1 harg1 arg2 harg2 arg3 harg3 arg4 harg4 arg5 harg5 arg6 harg6 arg27 x0 x1 x2 x3 x4 x5)
  = planes2 arg27 (blkQ harg1 harg2 harg3 harg4 harg5 x0 x1 x2 x3 x4) (blkK harg1 harg2 harg3 harg4 harg6 x0 x1 x2 x3 x5) (blkV harg1 harg2 harg3 x0 x1 x2) := rfl

/-- The stores to output 25, case A. -/
theorem run_A_25 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9).2.2.2.2.2.2.2.2.2.2.2.2.2.2.2.1
  = view16 arg28 (planes2 arg27 (blkQ harg1 harg2 harg3 harg4 harg5 x0 x1 x2 x3 x4) (blkK harg1 harg2 harg3 harg4 harg6 x0 x1 x2 x3 x5) (blkV harg1 harg2 harg3 x0 x1 x2)) 2 := by
  refine Eq.trans (b := view16 arg28 (kernelRun0_A.sl.HS1_48 (F := Ideal) c arg1 harg1 arg2 harg2 arg3 harg3 arg4 harg4 arg5 harg5 arg6 harg6 arg27 x0 x1 x2 x3 x4 x5) 2) rfl ?_
  rw [planes_A_25]

end Run

end Cert.Kernel4Ideal.Gen

end

end
-- ==== Proof.ProjRunSixteenB.lean ====
module

public import proofs.«01_k».proof.Proof.ProjBody

@[expose] public section

set_option maxRecDepth 16384
set_option backward.proofsInPublic true

noncomputable section

open Idealize.ShloMosaic Idealize.ShloMosaic.TcCoe
open Cert.Attn (inb2 box)
open Cert.Out (load load_at readCov_of_pieces)

/-! # The body's stores to the views with every sixteenth row: case B -/

namespace Cert.Kernel4Ideal.Gen

section Run

variable (c : Dev nD) (i : grid0.Coords)
  {arg1 : Memref sig .tc .vmem S512x1024 .f32} (harg1 : arg1.IsWhole) {arg2 : Memref sig .tc .vmem S1x1024 .f32} (harg2 : arg2.IsWhole)
  {arg3 : Memref sig .tc .vmem S1024x6272 .bf16} (harg3 : arg3.IsWhole) {arg4 : Memref sig .tc .vmem S256x256 .bf16} (harg4 : arg4.IsWhole)
  {arg5 : Memref sig .tc .vmem S1x512 .f32} (harg5 : arg5.IsWhole) {arg6 : Memref sig .tc .vmem S1x512 .f32} (harg6 : arg6.IsWhole)
  {arg7 : Memref sig .tc .vmem S4x1024 .f32} (harg7 : arg7.IsWhole) {arg8 : Memref sig .tc .vmem S1x1024 .f32} (harg8 : arg8.IsWhole)
  {arg9 : Memref sig .tc .vmem S1x128 .f32} (harg9 : arg9.IsWhole) {arg10 : Memref sig .tc .vmem S256x256 .bf16} (harg10 : arg10.IsWhole)
  {arg11 : Memref sig .tc .vmem S512x512 .bf16} (harg11 : arg11.IsWhole) {arg12 : Memref sig .tc .vmem S512x1024 .bf16} (harg12 : arg12.IsWhole)
  {arg13 : Memref sig .tc .vmem S512x1024 .bf16} (harg13 : arg13.IsWhole) {arg14 : Memref sig .tc .vmem S512x1024 .bf16} (harg14 : arg14.IsWhole)
  {arg15 : Memref sig .tc .vmem S512x512 .bf16} (harg15 : arg15.IsWhole) {arg16 : Memref sig .tc .vmem S512x128 .f32} (harg16 : arg16.IsWhole)
  {arg17 : Memref sig .tc .vmem S2x4x128x256 .bf16} (harg17 : arg17.IsWhole) {arg18 : Memref sig .tc .vmem S512x512 .bf16} (harg18 : arg18.IsWhole)
  {arg19 : Memref sig .tc .vmem S512x512 .bf16} (harg19 : arg19.IsWhole) {arg20 : Memref sig .tc .vmem S512x512 .bf16} (harg20 : arg20.IsWhole)
  {arg21 : Memref sig .tc .vmem S128x2048 .bf16} (harg21 : arg21.IsWhole) {arg22 : Memref sig .tc .vmem S128x2048 .bf16} (harg22 : arg22.IsWhole)
  {arg23 : Memref sig .tc .vmem S128x2048 .bf16} (harg23 : arg23.IsWhole) {arg24 : Memref sig .tc .vmem S32x8192 .bf16} (harg24 : arg24.IsWhole)
  {arg25 : Memref sig .tc .vmem S32x8192 .bf16} (harg25 : arg25.IsWhole) {arg26 : Memref sig .tc .vmem S32x8192 .bf16} (harg26 : arg26.IsWhole)
  {arg27 : Memref sig .tc .vmem S3x4x512x128 .f32} (harg27 : arg27.IsWhole) {arg28 : Memref sig .tc .vmem S3x16x128x128 .f32} (harg28 : arg28.IsWhole)
  {arg29 : Memref sig .tc .vmem S520x1024 .f32} (harg29 : arg29.IsWhole)
  (x0 : Vec Ideal S512x1024 .f32) (x1 : Vec Ideal S1x1024 .f32) (x2 : Vec Ideal S1024x6272 .bf16) (x3 : Vec Ideal S256x256 .bf16)
  (x4 : Vec Ideal S1x512 .f32) (x5 : Vec Ideal S1x512 .f32) (x6 : Vec Ideal S4x1024 .f32) (x7 : Vec Ideal S1x1024 .f32)
  (x8 : Vec Ideal S1x128 .f32) (x9 : Vec Ideal S256x256 .bf16) (xs2 : Vec Ideal S520x1024 .f32)

/-- The planes stored before output 23's reads, case B. -/
theorem planes_B_23 : (kernelRun0_B.sl.HS1_16 (F := Ideal) c arg1 harg1 arg2 harg2 arg3 harg3 arg4 harg4 arg5 harg5 arg27 x0 x1 x2 x3 x4)
  = planes0 arg27 (blkQ harg1 harg2 harg3 harg4 harg5 x0 x1 x2 x3 x4) := rfl

/-- The stores to output 23, case B. -/
theorem run_B_23 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.2.2.2.1
  = view16 arg28 (planes0 arg27 (blkQ harg1 harg2 harg3 harg4 harg5 x0 x1 x2 x3 x4)) 0 := by
  refine Eq.trans (b := view16 arg28 (kernelRun0_B.sl.HS1_16 (F := Ideal) c arg1 harg1 arg2 harg2 arg3 harg3 arg4 harg4 arg5 harg5 arg27 x0 x1 x2 x3 x4) 0) rfl ?_
  rw [planes_B_23]

/-- The planes stored before output 24's reads, case B. -/
theorem planes_B_24 : (kernelRun0_B.sl.HS1_32 (F := Ideal) c arg1 harg1 arg2 harg2 arg3 harg3 arg4 harg4 arg5 harg5 arg6 harg6 arg27 x0 x1 x2 x3 x4 x5)
  = planes1 arg27 (blkQ harg1 harg2 harg3 harg4 harg5 x0 x1 x2 x3 x4) (blkK harg1 harg2 harg3 harg4 harg6 x0 x1 x2 x3 x5) := rfl

/-- The stores to output 24, case B. -/
theorem run_B_24 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.2.2.2.2.1
  = view16 arg28 (planes1 arg27 (blkQ harg1 harg2 harg3 harg4 harg5 x0 x1 x2 x3 x4) (blkK harg1 harg2 harg3 harg4 harg6 x0 x1 x2 x3 x5)) 1 := by
  refine Eq.trans (b := view16 arg28 (kernelRun0_B.sl.HS1_32 (F := Ideal) c arg1 harg1 arg2 harg2 arg3 harg3 arg4 harg4 arg5 harg5 arg6 harg6 arg27 x0 x1 x2 x3 x4 x5) 1) rfl ?_
  rw [planes_B_24]

/-- The planes stored before output 25's reads, case B. -/
theorem planes_B_25 : (kernelRun0_B.sl.HS1_48 (F := Ideal) c arg1 harg1 arg2 harg2 arg3 harg3 arg4 harg4 arg5 harg5 arg6 harg6 arg27 x0 x1 x2 x3 x4 x5)
  = planes2 arg27 (blkQ harg1 harg2 harg3 harg4 harg5 x0 x1 x2 x3 x4) (blkK harg1 harg2 harg3 harg4 harg6 x0 x1 x2 x3 x5) (blkV harg1 harg2 harg3 x0 x1 x2) := rfl

/-- The stores to output 25, case B. -/
theorem run_B_25 (hc0 : ¬cond0_0 i) (hc1 : cond0_1 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 hc1
    x0 x1 x2 x3 x4 x5 x6 x7 x8 x9 xs2).2.2.2.2.2.2.2.2.2.2.2.2.2.2.2.1
  = view16 arg28 (planes2 arg27 (blkQ harg1 harg2 harg3 harg4 harg5 x0 x1 x2 x3 x4) (blkK harg1 harg2 harg3 harg4 harg6 x0 x1 x2 x3 x5) (blkV harg1 harg2 harg3 x0 x1 x2)) 2 := by
  refine Eq.trans (b := view16 arg28 (kernelRun0_B.sl.HS1_48 (F := Ideal) c arg1 harg1 arg2 harg2 arg3 harg3 arg4 harg4 arg5 harg5 arg6 harg6 arg27 x0 x1 x2 x3 x4 x5) 2) rfl ?_
  rw [planes_B_25]

end Run

end Cert.Kernel4Ideal.Gen

end

end
-- ==== Proof.ProjRows.lean ====
module

public import proofs.«01_k».proof.Proof.ProjBlock
public import proofs.«01_k».proof.Proof.ProjRef
public import proofs.«01_k».proof.Proof.Parts
public import proofs.«01_k».proof.Proof.ProjRunA
public import proofs.«01_k».proof.Proof.ProjRunB
public import proofs.«01_k».proof.Proof.ProjRunSixteenA
public import proofs.«01_k».proof.Proof.ProjRunSixteenB

@[expose] public section

set_option maxRecDepth 16384
set_option backward.proofsInPublic true

noncomputable section

open Idealize.ShloMosaic Idealize.ShloMosaic.TcCoe
open Cert.Proj (proj inv headNorm)
open Cert.Parts (quot quot_64 eq_small one_bit zero_bit)

/-! # The input projection's blocks and the reference's rows -/

namespace Cert.Kernel4Ideal.Gen

variable (m : (ℓ : Loc nD τ sig) → Buf (Elt Ideal) ℓ) (c : Dev nD)

theorem idx : ∀ t : Fin cfg0.N,
    win0_0.index t = ![(t : ℕ), 0] ∧ win0_1.index t = ![0, 0] ∧ win0_2.index t = ![0, 0]
    ∧ win0_3.index t = ![0, 0] ∧ win0_4.index t = ![0, 0] ∧ win0_5.index t = ![0, 0]
    ∧ win0_11.index t = ![(t : ℕ), 0] ∧ win0_12.index t = ![(t : ℕ), 0] ∧ win0_13.index t = ![(t : ℕ), 0] ∧ win0_14.index t = ![(t : ℕ), 0]
    ∧ win0_17.index t = ![(t : ℕ), 0] ∧ win0_18.index t = ![(t : ℕ), 0] ∧ win0_19.index t = ![(t : ℕ), 0] ∧ win0_20.index t = ![(t : ℕ), 0]
    ∧ win0_21.index t = ![(t : ℕ), 0] ∧ win0_22.index t = ![(t : ℕ), 0] ∧ win0_23.index t = ![(t : ℕ), 0] ∧ win0_24.index t = ![(t : ℕ), 0]
    ∧ win0_25.index t = ![(t : ℕ), 0] :=
  (by decide +kernel : ∀ t : Fin grid0.N, _)

/-- The matrix of the heads: ones where two columns belong to one head. -/
theorem heads_entry (x y : Fin 256) : V m c main_v8 (ix2 x y) = if (x : ℕ) / 64 = (y : ℕ) / 64 then (1 : EReal) else 0 := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  simp only [StableHlo.TRef.ofBuf, StableHlo.TRef.toBuf, cast_eq, id]
  refine Eq.trans (b := (FloatOps.uitofp .bf16
      (IntOp.cmpi .eq (quot (BitVec.ofNat 32 x) 64#32) (quot (BitVec.ofNat 32 y) 64#32)) : Ideal .bf16)) ?_ ?_
  · pointwise []
    rfl
  · have hx := x.isLt
    have hy := y.isLt
    rw [quot_64, quot_64, eq_small (by omega) (by omega)]
    by_cases h : (x : ℕ) / 64 = y / 64
    · rw [if_pos h, if_pos h]
      exact one_bit
    · rw [if_neg h, if_neg h]
      exact zero_bit

theorem blk_0 (t : Fin cfg0.N) (r : Fin 512) (k : Fin 1024) :
    iblk m c 0 t (ix2 r k) = m ((c : Thread nD τ).loc main_arg0) (ix2 ⟨512 * t + r, by have : (t : ℕ) < 128 := t.isLt; omega⟩ k) := by
  refine Eq.trans ?_ (congrFun (V_main_arg0 m c) _)
  blk_ext [iblk, idx t]

theorem blk_1 (t : Fin cfg0.N) (k : Fin 1024) : iblk m c 1 t (ix2 0 k) = m ((c : Thread nD τ).loc main_arg1) (ix2 0 k) := by
  refine Eq.trans ?_ (congrFun (V_main_arg1 m c) _)
  blk_ext [iblk, idx t]

theorem blk_2 (t : Fin cfg0.N) (k : Fin 1024) (l : Fin 6272) :
    iblk m c 2 t (ix2 k l) = m ((c : Thread nD τ).loc main_arg2) (ix2 k l) := by
  refine Eq.trans ?_ (congrFun (V_main_arg2 m c) _)
  blk_ext [iblk, idx t]

theorem blk_3 (t : Fin cfg0.N) (x y : Fin 256) :
    iblk m c 3 t (ix2 x y) = if (x : ℕ) / 64 = (y : ℕ) / 64 then (1 : EReal) else 0 := by
  refine Eq.trans ?_ (heads_entry m c x y)
  blk_ext [iblk, idx t]

theorem blk_4 (t : Fin cfg0.N) (l : Fin 512) : iblk m c 4 t (ix2 0 l) = m ((c : Thread nD τ).loc main_arg3) (ix2 0 l) := by
  refine Eq.trans ?_ (congrFun (V_main_arg3 m c) _)
  blk_ext [iblk, idx t]

theorem blk_5 (t : Fin cfg0.N) (l : Fin 512) : iblk m c 5 t (ix2 0 l) = m ((c : Thread nD τ).loc main_arg4) (ix2 0 l) := by
  refine Eq.trans ?_ (congrFun (V_main_arg4 m c) _)
  blk_ext [iblk, idx t]

/-- A row of a block is the reference's row. -/
theorem row_blk (t : Fin cfg0.N) (r : Fin 512) (l : Fin 6272) (R : Fin 65536) (hR : (R : ℕ) = 512 * t + r) :
    row (iblk m c 0 t) (iblk m c 1 t) (iblk m c 2 t) r l = Cert.Reference4Ideal.Read.row (m ((c : Thread nD τ).loc main_arg0)) (m ((c : Thread nD τ).loc main_arg1)) (m ((c : Thread nD τ).loc main_arg2)) R l := by
  have ht : (t : ℕ) < 128 := t.isLt
  have hb : 512 * (t : ℕ) + r < 65536 := by omega
  have e : R = ⟨512 * t + r, hb⟩ := Fin.ext hR
  subst e
  unfold row Cert.Reference4Ideal.Read.row
  rw [show (fun k => iblk m c 0 t (ix2 r k)) = _ from funext fun k => blk_0 m c t r k,
    show (fun k => iblk m c 1 t (ix2 0 k)) = _ from funext fun k => blk_1 m c t k,
    show (fun k => iblk m c 2 t (ix2 k l)) = _ from funext fun k => blk_2 m c t k l]

/-- The block's queries, keys and values. -/
def vals (t : Fin cfg0.N) : Fin 3 → FVec Ideal S512x512 .f32 :=
  ![blkQ (hs0_0 t) (hs0_1 t) (hs0_2 t) (hs0_3 t) (hs0_4 t) (iblk m c 0 t) (iblk m c 1 t) (iblk m c 2 t) (iblk m c 3 t) (iblk m c 4 t),
    blkK (hs0_0 t) (hs0_1 t) (hs0_2 t) (hs0_3 t) (hs0_5 t) (iblk m c 0 t) (iblk m c 1 t) (iblk m c 2 t) (iblk m c 3 t) (iblk m c 5 t),
    blkV (hs0_0 t) (hs0_1 t) (hs0_2 t) (iblk m c 0 t) (iblk m c 1 t) (iblk m c 2 t)]

theorem vals_0 (t : Fin cfg0.N) (r l : Fin 512) (R : Fin 65536) (hR : (R : ℕ) = 512 * t + r) :
    vals m c t 0 (ix2 r l) = Cert.Reference4Ideal.Read.val_main_v64 (F := Ideal) (m ((c : Thread nD τ).loc main_arg0)) (m ((c : Thread nD τ).loc main_arg1)) (m ((c : Thread nD τ).loc main_arg2)) (m ((c : Thread nD τ).loc main_arg3)) (ix2 R l) := by
  refine (blkQ_at _ _ _ _ _ _ _ _ _ _ (blk_3 m c t) r l).trans (Eq.trans ?_ (Cert.Reference4Ideal.Read.v64_at _ _ _ _ R l).symm)
  exact congrArg₂ (headNorm · · l) (funext fun l => row_blk m c t r _ R hR) (blk_4 m c t l)

theorem vals_1 (t : Fin cfg0.N) (r l : Fin 512) (R : Fin 65536) (hR : (R : ℕ) = 512 * t + r) :
    vals m c t 1 (ix2 r l) = Cert.Reference4Ideal.Read.val_main_v65 (F := Ideal) (m ((c : Thread nD τ).loc main_arg0)) (m ((c : Thread nD τ).loc main_arg1)) (m ((c : Thread nD τ).loc main_arg2)) (m ((c : Thread nD τ).loc main_arg4)) (ix2 R l) := by
  refine (blkK_at _ _ _ _ _ _ _ _ _ _ (blk_3 m c t) r l).trans (Eq.trans ?_ (Cert.Reference4Ideal.Read.v65_at _ _ _ _ R l).symm)
  exact congrArg₂ (headNorm · · l) (funext fun l => row_blk m c t r _ R hR) (blk_5 m c t l)

theorem vals_2 (t : Fin cfg0.N) (r l : Fin 512) (R : Fin 65536) (hR : (R : ℕ) = 512 * t + r) :
    vals m c t 2 (ix2 r l) = Cert.Reference4Ideal.Read.val_main_v66 (F := Ideal) (m ((c : Thread nD τ).loc main_arg0)) (m ((c : Thread nD τ).loc main_arg1)) (m ((c : Thread nD τ).loc main_arg2)) (ix2 R l) :=
  (blkV_at _ _ _ _ _ _ r l).trans ((row_blk m c t r _ R hR).trans (Cert.Reference4Ideal.Read.v66_at _ _ _ R l).symm)

end Cert.Kernel4Ideal.Gen

end

end
-- ==== Proof.ProjArr.lean ====
module

public import proofs.«01_k».proof.Proof.ProjRows

@[expose] public section

set_option maxRecDepth 16384
set_option backward.proofsInPublic true

noncomputable section

open Idealize.ShloMosaic Idealize.ShloMosaic.TcCoe
open Cert.Proj (proj inv headNorm)

/-! # The input projection's arrays -/

namespace Cert.Kernel4Ideal.Gen

variable (m : (ℓ : Loc nD τ sig) → Buf (Elt Ideal) ℓ) (c : Dev nD)

/-- The body leaves the reference's entries in output 11's buffer. -/
theorem out_at_11 (t : Fin cfg0.N) (r : Fin 512) (l : Fin 1024) : (outsAt0 m c t.val t.isLt).2.1 (ix2 r l)
    = Cert.Reference4Ideal.Read.val_main_v60 (F := Ideal) (m ((c : Thread nD τ).loc main_arg0)) (m ((c : Thread nD τ).loc main_arg1)) (m ((c : Thread nD τ).loc main_arg2))
        (ix2 ⟨512 * t + r, by have : (t : ℕ) < 128 := t.isLt; omega⟩ l) := by
  by_cases h : t.val % 8 = 0
  · rw [outsAt0_A m c t h (not_not.2 h)]
    dsimp only
    rw [out0_A_11, View.read_writes_junk_eq_canon, run_A_11]
    rw [whole_canon]
    exact (gate_at _ _ _ _ _ _ r l).trans ((row_blk m c t r _ ⟨512 * t + r, by have : (t : ℕ) < 128 := t.isLt; omega⟩ rfl).trans (Cert.Reference4Ideal.Read.v60_at _ _ _ _ l).symm)
  · rw [outsAt0_B m c t h h]
    dsimp only
    rw [out0_B_11, View.read_writes_junk_eq_canon, run_B_11]
    rw [whole_canon]
    exact (gate_at _ _ _ _ _ _ r l).trans ((row_blk m c t r _ ⟨512 * t + r, by have : (t : ℕ) < 128 := t.isLt; omega⟩ rfl).trans (Cert.Reference4Ideal.Read.v60_at _ _ _ _ l).symm)

/-- Output 11's array is the reference's. -/
theorem final_11 : (dats m 0 c).arrAt 11 cfg0.N
    = Cert.Reference4Ideal.Read.val_main_v60 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  have h0 : (y 0).val < 512 := (y 0).isLt
  have h1 : (y 1).val < 1024 := (y 1).isLt
  blk_simp
  rw [after0_11]
  have e : y = ix2 (⟨(y 0).val, h0⟩ : Fin 512) (⟨(y 1).val, h1⟩ : Fin 1024) := by
    funext a; fin_cases a <;> rfl
  rw [e]
  refine (out_at_11 m c t _ _).trans ?_
  blk_ext [idx t]

/-- The body leaves the reference's entries in output 12's buffer. -/
theorem out_at_12 (t : Fin cfg0.N) (r : Fin 512) (l : Fin 1024) : (outsAt0 m c t.val t.isLt).2.2.1 (ix2 r l)
    = Cert.Reference4Ideal.Read.val_main_v61 (F := Ideal) (m ((c : Thread nD τ).loc main_arg0)) (m ((c : Thread nD τ).loc main_arg1)) (m ((c : Thread nD τ).loc main_arg2))
        (ix2 ⟨512 * t + r, by have : (t : ℕ) < 128 := t.isLt; omega⟩ l) := by
  by_cases h : t.val % 8 = 0
  · rw [outsAt0_A m c t h (not_not.2 h)]
    dsimp only
    rw [out0_A_12, View.read_writes_junk_eq_canon, run_A_12]
    rw [whole_canon]
    exact (pay38_at _ _ _ r l).trans ((row_of _ _ _ _ _ _ 1024 2048 (by omega) r l).trans ((row_blk m c t r _ ⟨512 * t + r, by have : (t : ℕ) < 128 := t.isLt; omega⟩ rfl).trans (Cert.Reference4Ideal.Read.v61_at _ _ _ _ l).symm))
  · rw [outsAt0_B m c t h h]
    dsimp only
    rw [out0_B_12, View.read_writes_junk_eq_canon, run_B_12]
    rw [whole_canon]
    exact (pay38_at _ _ _ r l).trans ((row_of _ _ _ _ _ _ 1024 2048 (by omega) r l).trans ((row_blk m c t r _ ⟨512 * t + r, by have : (t : ℕ) < 128 := t.isLt; omega⟩ rfl).trans (Cert.Reference4Ideal.Read.v61_at _ _ _ _ l).symm))

/-- Output 12's array is the reference's. -/
theorem final_12 : (dats m 0 c).arrAt 12 cfg0.N
    = Cert.Reference4Ideal.Read.val_main_v61 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  have h0 : (y 0).val < 512 := (y 0).isLt
  have h1 : (y 1).val < 1024 := (y 1).isLt
  blk_simp
  rw [after0_12]
  have e : y = ix2 (⟨(y 0).val, h0⟩ : Fin 512) (⟨(y 1).val, h1⟩ : Fin 1024) := by
    funext a; fin_cases a <;> rfl
  rw [e]
  refine (out_at_12 m c t _ _).trans ?_
  blk_ext [idx t]

/-- The body leaves the reference's entries in output 13's buffer. -/
theorem out_at_13 (t : Fin cfg0.N) (r : Fin 512) (l : Fin 1024) : (outsAt0 m c t.val t.isLt).2.2.2.1 (ix2 r l)
    = Cert.Reference4Ideal.Read.val_main_v62 (F := Ideal) (m ((c : Thread nD τ).loc main_arg0)) (m ((c : Thread nD τ).loc main_arg1)) (m ((c : Thread nD τ).loc main_arg2))
        (ix2 ⟨512 * t + r, by have : (t : ℕ) < 128 := t.isLt; omega⟩ l) := by
  by_cases h : t.val % 8 = 0
  · rw [outsAt0_A m c t h (not_not.2 h)]
    dsimp only
    rw [out0_A_13, View.read_writes_junk_eq_canon, run_A_13]
    rw [whole_canon]
    exact (pay158_at _ _ _ r l).trans ((row_of _ _ _ _ _ _ 1024 3072 (by omega) r l).trans ((row_blk m c t r _ ⟨512 * t + r, by have : (t : ℕ) < 128 := t.isLt; omega⟩ rfl).trans (Cert.Reference4Ideal.Read.v62_at _ _ _ _ l).symm))
  · rw [outsAt0_B m c t h h]
    dsimp only
    rw [out0_B_13, View.read_writes_junk_eq_canon, run_B_13]
    rw [whole_canon]
    exact (pay158_at _ _ _ r l).trans ((row_of _ _ _ _ _ _ 1024 3072 (by omega) r l).trans ((row_blk m c t r _ ⟨512 * t + r, by have : (t : ℕ) < 128 := t.isLt; omega⟩ rfl).trans (Cert.Reference4Ideal.Read.v62_at _ _ _ _ l).symm))

/-- Output 13's array is the reference's. -/
theorem final_13 : (dats m 0 c).arrAt 13 cfg0.N
    = Cert.Reference4Ideal.Read.val_main_v62 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  have h0 : (y 0).val < 512 := (y 0).isLt
  have h1 : (y 1).val < 1024 := (y 1).isLt
  blk_simp
  rw [after0_13]
  have e : y = ix2 (⟨(y 0).val, h0⟩ : Fin 512) (⟨(y 1).val, h1⟩ : Fin 1024) := by
    funext a; fin_cases a <;> rfl
  rw [e]
  refine (out_at_13 m c t _ _).trans ?_
  blk_ext [idx t]

/-- The body leaves the reference's entries in output 14's buffer. -/
theorem out_at_14 (t : Fin cfg0.N) (r : Fin 512) (l : Fin 512) : (outsAt0 m c t.val t.isLt).2.2.2.2.1 (ix2 r l)
    = Cert.Reference4Ideal.Read.val_main_v63 (F := Ideal) (m ((c : Thread nD τ).loc main_arg0)) (m ((c : Thread nD τ).loc main_arg1)) (m ((c : Thread nD τ).loc main_arg2))
        (ix2 ⟨512 * t + r, by have : (t : ℕ) < 128 := t.isLt; omega⟩ l) := by
  by_cases h : t.val % 8 = 0
  · rw [outsAt0_A m c t h (not_not.2 h)]
    dsimp only
    rw [out0_A_14, View.read_writes_junk_eq_canon, run_A_14]
    rw [whole_canon]
    exact (pay284_at _ _ _ r l).trans ((row_of _ _ _ _ _ _ 512 5632 (by omega) r l).trans ((row_blk m c t r _ ⟨512 * t + r, by have : (t : ℕ) < 128 := t.isLt; omega⟩ rfl).trans (Cert.Reference4Ideal.Read.v63_at _ _ _ _ l).symm))
  · rw [outsAt0_B m c t h h]
    dsimp only
    rw [out0_B_14, View.read_writes_junk_eq_canon, run_B_14]
    rw [whole_canon]
    exact (pay284_at _ _ _ r l).trans ((row_of _ _ _ _ _ _ 512 5632 (by omega) r l).trans ((row_blk m c t r _ ⟨512 * t + r, by have : (t : ℕ) < 128 := t.isLt; omega⟩ rfl).trans (Cert.Reference4Ideal.Read.v63_at _ _ _ _ l).symm))

/-- Output 14's array is the reference's. -/
theorem final_14 : (dats m 0 c).arrAt 14 cfg0.N
    = Cert.Reference4Ideal.Read.val_main_v63 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  have h0 : (y 0).val < 512 := (y 0).isLt
  have h1 : (y 1).val < 512 := (y 1).isLt
  blk_simp
  rw [after0_14]
  have e : y = ix2 (⟨(y 0).val, h0⟩ : Fin 512) (⟨(y 1).val, h1⟩ : Fin 512) := by
    funext a; fin_cases a <;> rfl
  rw [e]
  refine (out_at_14 m c t _ _).trans ?_
  blk_ext [idx t]

/-- The body leaves the reference's entries in output 17's buffer. -/
theorem out_at_17 (t : Fin cfg0.N) (r : Fin 512) (l : Fin 512) : (outsAt0 m c t.val t.isLt).2.2.2.2.2.2.2.1 (ix2 r l)
    = Cert.Reference4Ideal.Read.val_main_v64 (F := Ideal) (m ((c : Thread nD τ).loc main_arg0)) (m ((c : Thread nD τ).loc main_arg1)) (m ((c : Thread nD τ).loc main_arg2)) (m ((c : Thread nD τ).loc main_arg3))
        (ix2 ⟨512 * t + r, by have : (t : ℕ) < 128 := t.isLt; omega⟩ l) := by
  by_cases h : t.val % 8 = 0
  · rw [outsAt0_A m c t h (not_not.2 h)]
    dsimp only
    rw [out0_A_17, View.read_writes_junk_eq_canon, run_A_17]
    rw [whole_canon]
    exact vals_0 m c t r l ⟨512 * t + r, by have : (t : ℕ) < 128 := t.isLt; omega⟩ rfl
  · rw [outsAt0_B m c t h h]
    dsimp only
    rw [out0_B_17, View.read_writes_junk_eq_canon, run_B_17]
    rw [whole_canon]
    exact vals_0 m c t r l ⟨512 * t + r, by have : (t : ℕ) < 128 := t.isLt; omega⟩ rfl

/-- Output 17's array is the reference's. -/
theorem final_17 : (dats m 0 c).arrAt 17 cfg0.N
    = Cert.Reference4Ideal.Read.val_main_v64 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t _ y => ?_
  have h0 : (y 0).val < 512 := (y 0).isLt
  have h1 : (y 1).val < 512 := (y 1).isLt
  blk_simp
  rw [after0_17]
  have e : y = ix2 (⟨(y 0).val, h0⟩ : Fin 512) (⟨(y 1).val, h1⟩ : Fin 512) := by
    funext a; fin_cases a <;> rfl
  rw [e]
  refine (out_at_17 m c t _ _).trans ?_
  blk_ext [idx t]

/-- The body leaves the reference's entries in output 18's buffer. -/
theorem out_at_18 (t : Fin cfg0.N) (r : Fin 512) (l : Fin 512) : (outsAt0 m c t.val t.isLt).2.2.2.2.2.2.2.2.1 (ix2 r l)
    = Cert.Reference4Ideal.Read.val_main_v65 (F := Ideal) (m ((c : Thread nD τ).loc main_arg0)) (m ((c : Thread nD τ).loc main_arg1)) (m ((c : Thread nD τ).loc main_arg2)) (m ((c : Thread nD τ).loc main_arg4))
        (ix2 ⟨512 * t + r, by have : (t : ℕ) < 128 := t.isLt; omega⟩ l) := by
  by_cases h : t.val % 8 = 0
  · rw [outsAt0_A m c t h (not_not.2 h)]
    dsimp only
    rw [out0_A_18, View.read_writes_junk_eq_canon, run_A_18]
    rw [whole_canon]
    exact vals_1 m c t r l ⟨512 * t + r, by have : (t : ℕ) < 128 := t.isLt; omega⟩ rfl
  · rw [outsAt0_B m c t h h]
    dsimp only
    rw [out0_B_18, View.read_writes_junk_eq_canon, run_B_18]
    rw [whole_canon]
    exact vals_1 m c t r l ⟨512 * t + r, by have : (t : ℕ) < 128 := t.isLt; omega⟩ rfl

/-- Output 18's array is the reference's. -/
theorem final_18 : (dats m 0 c).arrAt 18 cfg0.N
    = Cert.Reference4Ideal.Read.val_main_v65 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 18 _ (by decide +kernel) fun t _ y => ?_
  have h0 : (y 0).val < 512 := (y 0).isLt
  have h1 : (y 1).val < 512 := (y 1).isLt
  blk_simp
  rw [after0_18]
  have e : y = ix2 (⟨(y 0).val, h0⟩ : Fin 512) (⟨(y 1).val, h1⟩ : Fin 512) := by
    funext a; fin_cases a <;> rfl
  rw [e]
  refine (out_at_18 m c t _ _).trans ?_
  blk_ext [idx t]

/-- The body leaves the reference's entries in output 19's buffer. -/
theorem out_at_19 (t : Fin cfg0.N) (r : Fin 512) (l : Fin 512) : (outsAt0 m c t.val t.isLt).2.2.2.2.2.2.2.2.2.1 (ix2 r l)
    = Cert.Reference4Ideal.Read.val_main_v66 (F := Ideal) (m ((c : Thread nD τ).loc main_arg0)) (m ((c : Thread nD τ).loc main_arg1)) (m ((c : Thread nD τ).loc main_arg2))
        (ix2 ⟨512 * t + r, by have : (t : ℕ) < 128 := t.isLt; omega⟩ l) := by
  by_cases h : t.val % 8 = 0
  · rw [outsAt0_A m c t h (not_not.2 h)]
    dsimp only
    rw [out0_A_19, View.read_writes_junk_eq_canon, run_A_19]
    rw [whole_canon]
    exact vals_2 m c t r l ⟨512 * t + r, by have : (t : ℕ) < 128 := t.isLt; omega⟩ rfl
  · rw [outsAt0_B m c t h h]
    dsimp only
    rw [out0_B_19, View.read_writes_junk_eq_canon, run_B_19]
    rw [whole_canon]
    exact vals_2 m c t r l ⟨512 * t + r, by have : (t : ℕ) < 128 := t.isLt; omega⟩ rfl

/-- Output 19's array is the reference's. -/
theorem final_19 : (dats m 0 c).arrAt 19 cfg0.N
    = Cert.Reference4Ideal.Read.val_main_v66 (F := Ideal) (m ((c : Thread nD τ).loc main_arg0)) (m ((c : Thread nD τ).loc main_arg1)) (m ((c : Thread nD τ).loc main_arg2)) := by
  refine (dats m 0 c).arrAt_eq_of_covers 19 _ (by decide +kernel) fun t _ y => ?_
  have h0 : (y 0).val < 512 := (y 0).isLt
  have h1 : (y 1).val < 512 := (y 1).isLt
  blk_simp
  rw [after0_19]
  have e : y = ix2 (⟨(y 0).val, h0⟩ : Fin 512) (⟨(y 1).val, h1⟩ : Fin 512) := by
    funext a; fin_cases a <;> rfl
  rw [e]
  refine (out_at_19 m c t _ _).trans ?_
  blk_ext [idx t]

end Cert.Kernel4Ideal.Gen

end

end
-- ==== Proof.ProjArrFour.lean ====
module

public import proofs.«01_k».proof.Proof.ProjRows

@[expose] public section

set_option maxRecDepth 16384
set_option backward.proofsInPublic true

noncomputable section

open Idealize.ShloMosaic Idealize.ShloMosaic.TcCoe
open Cert.Proj (proj inv headNorm)

/-! # The arrays of the views with every fourth row -/

namespace Cert.Kernel4Ideal.Gen

variable (m : (ℓ : Loc nD τ sig) → Buf (Elt Ideal) ℓ) (c : Dev nD)

/-- The body leaves the reference's entries in output 20's buffer. -/
theorem out_at_20 (t : Fin cfg0.N) (r : Fin 128) (l : Fin 2048) : (outsAt0 m c t.val t.isLt).2.2.2.2.2.2.2.2.2.2.1 (ix2 r l)
    = Cert.Reference4Ideal.Read.val_main_v67 (F := Ideal) (m ((c : Thread nD τ).loc main_arg0)) (m ((c : Thread nD τ).loc main_arg1)) (m ((c : Thread nD τ).loc main_arg2)) (m ((c : Thread nD τ).loc main_arg3))
        (ix2 ⟨128 * t + r, by have : (t : ℕ) < 128 := t.isLt; omega⟩ l) := by
  by_cases h : t.val % 8 = 0
  · rw [outsAt0_A m c t h (not_not.2 h)]
    dsimp only
    rw [out0_A_20, View.read_writes_junk_eq_canon, run_A_20]
    have ht : (t : ℕ) < 128 := t.isLt
    refine (view4_slot0 _ _ r l).trans ?_
    refine (vals_0 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v67_at (m ((c : Thread nD τ).loc main_arg0)) (m ((c : Thread nD τ).loc main_arg1)) (m ((c : Thread nD τ).loc main_arg2)) (m ((c : Thread nD τ).loc main_arg3)) (⟨128 * (t : ℕ) + r, by omega⟩ : Fin 16384) l).symm
  · rw [outsAt0_B m c t h h]
    dsimp only
    rw [out0_B_20, View.read_writes_junk_eq_canon, run_B_20]
    have ht : (t : ℕ) < 128 := t.isLt
    refine (view4_slot0 _ _ r l).trans ?_
    refine (vals_0 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v67_at (m ((c : Thread nD τ).loc main_arg0)) (m ((c : Thread nD τ).loc main_arg1)) (m ((c : Thread nD τ).loc main_arg2)) (m ((c : Thread nD τ).loc main_arg3)) (⟨128 * (t : ℕ) + r, by omega⟩ : Fin 16384) l).symm

/-- Output 20's array is the reference's. -/
theorem final_20 : (dats m 0 c).arrAt 20 cfg0.N
    = Cert.Reference4Ideal.Read.val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 20 _ (by decide +kernel) fun t _ y => ?_
  have h0 : (y 0).val < 128 := (y 0).isLt
  have h1 : (y 1).val < 2048 := (y 1).isLt
  blk_simp
  rw [after0_20]
  have e : y = ix2 (⟨(y 0).val, h0⟩ : Fin 128) (⟨(y 1).val, h1⟩ : Fin 2048) := by
    funext a; fin_cases a <;> rfl
  rw [e]
  refine (out_at_20 m c t _ _).trans ?_
  blk_ext [idx t]

/-- The body leaves the reference's entries in output 21's buffer. -/
theorem out_at_21 (t : Fin cfg0.N) (r : Fin 128) (l : Fin 2048) : (outsAt0 m c t.val t.isLt).2.2.2.2.2.2.2.2.2.2.2.1 (ix2 r l)
    = Cert.Reference4Ideal.Read.val_main_v68 (F := Ideal) (m ((c : Thread nD τ).loc main_arg0)) (m ((c : Thread nD τ).loc main_arg1)) (m ((c : Thread nD τ).loc main_arg2)) (m ((c : Thread nD τ).loc main_arg4))
        (ix2 ⟨128 * t + r, by have : (t : ℕ) < 128 := t.isLt; omega⟩ l) := by
  by_cases h : t.val % 8 = 0
  · rw [outsAt0_A m c t h (not_not.2 h)]
    dsimp only
    rw [out0_A_21, View.read_writes_junk_eq_canon, run_A_21]
    have ht : (t : ℕ) < 128 := t.isLt
    refine (view4_slot1 _ _ _ r l).trans ?_
    refine (vals_1 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v68_at (m ((c : Thread nD τ).loc main_arg0)) (m ((c : Thread nD τ).loc main_arg1)) (m ((c : Thread nD τ).loc main_arg2)) (m ((c : Thread nD τ).loc main_arg4)) (⟨128 * (t : ℕ) + r, by omega⟩ : Fin 16384) l).symm
  · rw [outsAt0_B m c t h h]
    dsimp only
    rw [out0_B_21, View.read_writes_junk_eq_canon, run_B_21]
    have ht : (t : ℕ) < 128 := t.isLt
    refine (view4_slot1 _ _ _ r l).trans ?_
    refine (vals_1 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v68_at (m ((c : Thread nD τ).loc main_arg0)) (m ((c : Thread nD τ).loc main_arg1)) (m ((c : Thread nD τ).loc main_arg2)) (m ((c : Thread nD τ).loc main_arg4)) (⟨128 * (t : ℕ) + r, by omega⟩ : Fin 16384) l).symm

/-- Output 21's array is the reference's. -/
theorem final_21 : (dats m 0 c).arrAt 21 cfg0.N
    = Cert.Reference4Ideal.Read.val_main_v68 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 21 _ (by decide +kernel) fun t _ y => ?_
  have h0 : (y 0).val < 128 := (y 0).isLt
  have h1 : (y 1).val < 2048 := (y 1).isLt
  blk_simp
  rw [after0_21]
  have e : y = ix2 (⟨(y 0).val, h0⟩ : Fin 128) (⟨(y 1).val, h1⟩ : Fin 2048) := by
    funext a; fin_cases a <;> rfl
  rw [e]
  refine (out_at_21 m c t _ _).trans ?_
  blk_ext [idx t]

/-- The body leaves the reference's entries in output 22's buffer. -/
theorem out_at_22 (t : Fin cfg0.N) (r : Fin 128) (l : Fin 2048) : (outsAt0 m c t.val t.isLt).2.2.2.2.2.2.2.2.2.2.2.2.1 (ix2 r l)
    = Cert.Reference4Ideal.Read.val_main_v69 (F := Ideal) (m ((c : Thread nD τ).loc main_arg0)) (m ((c : Thread nD τ).loc main_arg1)) (m ((c : Thread nD τ).loc main_arg2))
        (ix2 ⟨128 * t + r, by have : (t : ℕ) < 128 := t.isLt; omega⟩ l) := by
  by_cases h : t.val % 8 = 0
  · rw [outsAt0_A m c t h (not_not.2 h)]
    dsimp only
    rw [out0_A_22, View.read_writes_junk_eq_canon, run_A_22]
    have ht : (t : ℕ) < 128 := t.isLt
    refine (view4_slot2 _ _ _ _ r l).trans ?_
    refine (vals_2 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v69_at (m ((c : Thread nD τ).loc main_arg0)) (m ((c : Thread nD τ).loc main_arg1)) (m ((c : Thread nD τ).loc main_arg2)) (⟨128 * (t : ℕ) + r, by omega⟩ : Fin 16384) l).symm
  · rw [outsAt0_B m c t h h]
    dsimp only
    rw [out0_B_22, View.read_writes_junk_eq_canon, run_B_22]
    have ht : (t : ℕ) < 128 := t.isLt
    refine (view4_slot2 _ _ _ _ r l).trans ?_
    refine (vals_2 m c t (⟨(l : ℕ) / 512 + 4 * (r : ℕ), by omega⟩ : Fin 512) (⟨(l : ℕ) % 512, by omega⟩ : Fin 512)
      (⟨(l : ℕ) / 512 + 4 * (128 * (t : ℕ) + r), by omega⟩ : Fin 65536)
      (by show (l : ℕ) / 512 + 4 * (128 * (t : ℕ) + r) = 512 * (t : ℕ) + ((l : ℕ) / 512 + 4 * r); omega)).trans ?_
    exact (Cert.Reference4Ideal.Read.v69_at (m ((c : Thread nD τ).loc main_arg0)) (m ((c : Thread nD τ).loc main_arg1)) (m ((c : Thread nD τ).loc main_arg2)) (⟨128 * (t : ℕ) + r, by omega⟩ : Fin 16384) l).symm

/-- Output 22's array is the reference's. -/
theorem final_22 : (dats m 0 c).arrAt 22 cfg0.N
    = Cert.Reference4Ideal.Read.val_main_v69 (F := Ideal) (m ((c : Thread nD τ).loc main_arg0)) (m ((c : Thread nD τ).loc main_arg1)) (m ((c : Thread nD τ).loc main_arg2)) := by
  refine (dats m 0 c).arrAt_eq_of_covers 22 _ (by decide +kernel) fun t _ y => ?_
  have h0 : (y 0).val < 128 := (y 0).isLt
  have h1 : (y 1).val < 2048 := (y 1).isLt
  blk_simp
  rw [after0_22]
  have e : y = ix2 (⟨(y 0).val, h0⟩ : Fin 128) (⟨(y 1).val, h1⟩ : Fin 2048) := by
    funext a; fin_cases a <;> rfl
  rw [e]
  refine (out_at_22 m c t _ _).trans ?_
  blk_ext [idx t]

end Cert.Kernel4Ideal.Gen

end

end
-- ==== Proof.ProjArrSixteen.lean ====
module

public import proofs.«01_k».proof.Proof.ProjRows

@[expose] public section

set_option maxRecDepth 16384
set_option backward.proofsInPublic true

noncomputable section

open Idealize.ShloMosaic Idealize.ShloMosaic.TcCoe
open Cert.Proj (proj inv headNorm)

/-! # The arrays of the views with every sixteenth row -/

namespace Cert.Kernel4Ideal.Gen

variable (m : (ℓ : Loc nD τ sig) → Buf (Elt Ideal) ℓ) (c : Dev nD)

/-- The body leaves the reference's entries in output 23's buffer. -/
theorem out_at_23 (t : Fin cfg0.N) (r : Fin 32) (l : Fin 8192) : (outsAt0 m c t.val t.isLt).2.2.2.2.2.2.2.2.2.2.2.2.2.1 (ix2 r l)
    = Cert.Reference4Ideal.Read.val_main_v70 (F := Ideal) (m ((c : Thread nD τ).loc main_arg0)) (m ((c : Thread nD τ).loc main_arg1)) (m ((c : Thread nD τ).loc main_arg2)) (m ((c : Thread nD τ).loc main_arg3))
        (ix2 ⟨32 * t + r, by have : (t : ℕ) < 128 := t.isLt; omega⟩ l) := by
  by_cases h : t.val % 8 = 0
  · rw [outsAt0_A m c t h (not_not.2 h)]
    dsimp only
    rw [out0_A_23, View.read_writes_junk_eq_canon, run_A_23]
    have ht : (t : ℕ) < 128 := t.isLt
    refine (view16_slot0 _ _ _ r l).trans ?_
    refine (vals_0 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v70_at (m ((c : Thread nD τ).loc main_arg0)) (m ((c : Thread nD τ).loc main_arg1)) (m ((c : Thread nD τ).loc main_arg2)) (m ((c : Thread nD τ).loc main_arg3)) (⟨32 * (t : ℕ) + r, by omega⟩ : Fin 4096) l).symm
  · rw [outsAt0_B m c t h h]
    dsimp only
    rw [out0_B_23, View.read_writes_junk_eq_canon, run_B_23]
    have ht : (t : ℕ) < 128 := t.isLt
    refine (view16_slot0 _ _ _ r l).trans ?_
    refine (vals_0 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v70_at (m ((c : Thread nD τ).loc main_arg0)) (m ((c : Thread nD τ).loc main_arg1)) (m ((c : Thread nD τ).loc main_arg2)) (m ((c : Thread nD τ).loc main_arg3)) (⟨32 * (t : ℕ) + r, by omega⟩ : Fin 4096) l).symm

/-- Output 23's array is the reference's. -/
theorem final_23 : (dats m 0 c).arrAt 23 cfg0.N
    = Cert.Reference4Ideal.Read.val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 23 _ (by decide +kernel) fun t _ y => ?_
  have h0 : (y 0).val < 32 := (y 0).isLt
  have h1 : (y 1).val < 8192 := (y 1).isLt
  blk_simp
  rw [after0_23]
  have e : y = ix2 (⟨(y 0).val, h0⟩ : Fin 32) (⟨(y 1).val, h1⟩ : Fin 8192) := by
    funext a; fin_cases a <;> rfl
  rw [e]
  refine (out_at_23 m c t _ _).trans ?_
  blk_ext [idx t]

/-- The body leaves the reference's entries in output 24's buffer. -/
theorem out_at_24 (t : Fin cfg0.N) (r : Fin 32) (l : Fin 8192) : (outsAt0 m c t.val t.isLt).2.2.2.2.2.2.2.2.2.2.2.2.2.2.1 (ix2 r l)
    = Cert.Reference4Ideal.Read.val_main_v71 (F := Ideal) (m ((c : Thread nD τ).loc main_arg0)) (m ((c : Thread nD τ).loc main_arg1)) (m ((c : Thread nD τ).loc main_arg2)) (m ((c : Thread nD τ).loc main_arg4))
        (ix2 ⟨32 * t + r, by have : (t : ℕ) < 128 := t.isLt; omega⟩ l) := by
  by_cases h : t.val % 8 = 0
  · rw [outsAt0_A m c t h (not_not.2 h)]
    dsimp only
    rw [out0_A_24, View.read_writes_junk_eq_canon, run_A_24]
    have ht : (t : ℕ) < 128 := t.isLt
    refine (view16_slot1 _ _ _ _ r l).trans ?_
    refine (vals_1 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v71_at (m ((c : Thread nD τ).loc main_arg0)) (m ((c : Thread nD τ).loc main_arg1)) (m ((c : Thread nD τ).loc main_arg2)) (m ((c : Thread nD τ).loc main_arg4)) (⟨32 * (t : ℕ) + r, by omega⟩ : Fin 4096) l).symm
  · rw [outsAt0_B m c t h h]
    dsimp only
    rw [out0_B_24, View.read_writes_junk_eq_canon, run_B_24]
    have ht : (t : ℕ) < 128 := t.isLt
    refine (view16_slot1 _ _ _ _ r l).trans ?_
    refine (vals_1 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v71_at (m ((c : Thread nD τ).loc main_arg0)) (m ((c : Thread nD τ).loc main_arg1)) (m ((c : Thread nD τ).loc main_arg2)) (m ((c : Thread nD τ).loc main_arg4)) (⟨32 * (t : ℕ) + r, by omega⟩ : Fin 4096) l).symm

/-- Output 24's array is the reference's. -/
theorem final_24 : (dats m 0 c).arrAt 24 cfg0.N
    = Cert.Reference4Ideal.Read.val_main_v71 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 24 _ (by decide +kernel) fun t _ y => ?_
  have h0 : (y 0).val < 32 := (y 0).isLt
  have h1 : (y 1).val < 8192 := (y 1).isLt
  blk_simp
  rw [after0_24]
  have e : y = ix2 (⟨(y 0).val, h0⟩ : Fin 32) (⟨(y 1).val, h1⟩ : Fin 8192) := by
    funext a; fin_cases a <;> rfl
  rw [e]
  refine (out_at_24 m c t _ _).trans ?_
  blk_ext [idx t]

/-- The body leaves the reference's entries in output 25's buffer. -/
theorem out_at_25 (t : Fin cfg0.N) (r : Fin 32) (l : Fin 8192) : (outsAt0 m c t.val t.isLt).2.2.2.2.2.2.2.2.2.2.2.2.2.2.2.1 (ix2 r l)
    = Cert.Reference4Ideal.Read.val_main_v72 (F := Ideal) (m ((c : Thread nD τ).loc main_arg0)) (m ((c : Thread nD τ).loc main_arg1)) (m ((c : Thread nD τ).loc main_arg2))
        (ix2 ⟨32 * t + r, by have : (t : ℕ) < 128 := t.isLt; omega⟩ l) := by
  by_cases h : t.val % 8 = 0
  · rw [outsAt0_A m c t h (not_not.2 h)]
    dsimp only
    rw [out0_A_25, View.read_writes_junk_eq_canon, run_A_25]
    have ht : (t : ℕ) < 128 := t.isLt
    refine (view16_slot2 _ _ _ _ _ r l).trans ?_
    refine (vals_2 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v72_at (m ((c : Thread nD τ).loc main_arg0)) (m ((c : Thread nD τ).loc main_arg1)) (m ((c : Thread nD τ).loc main_arg2)) (⟨32 * (t : ℕ) + r, by omega⟩ : Fin 4096) l).symm
  · rw [outsAt0_B m c t h h]
    dsimp only
    rw [out0_B_25, View.read_writes_junk_eq_canon, run_B_25]
    have ht : (t : ℕ) < 128 := t.isLt
    refine (view16_slot2 _ _ _ _ _ r l).trans ?_
    refine (vals_2 m c t (⟨(l : ℕ) / 512 + 16 * (r : ℕ), by omega⟩ : Fin 512) (⟨(l : ℕ) % 512, by omega⟩ : Fin 512)
      (⟨(l : ℕ) / 512 + 16 * (32 * (t : ℕ) + r), by omega⟩ : Fin 65536)
      (by show (l : ℕ) / 512 + 16 * (32 * (t : ℕ) + r) = 512 * (t : ℕ) + ((l : ℕ) / 512 + 16 * r); omega)).trans ?_
    exact (Cert.Reference4Ideal.Read.v72_at (m ((c : Thread nD τ).loc main_arg0)) (m ((c : Thread nD τ).loc main_arg1)) (m ((c : Thread nD τ).loc main_arg2)) (⟨32 * (t : ℕ) + r, by omega⟩ : Fin 4096) l).symm

/-- Output 25's array is the reference's. -/
theorem final_25 : (dats m 0 c).arrAt 25 cfg0.N
    = Cert.Reference4Ideal.Read.val_main_v72 (F := Ideal) (m ((c : Thread nD τ).loc main_arg0)) (m ((c : Thread nD τ).loc main_arg1)) (m ((c : Thread nD τ).loc main_arg2)) := by
  refine (dats m 0 c).arrAt_eq_of_covers 25 _ (by decide +kernel) fun t _ y => ?_
  have h0 : (y 0).val < 32 := (y 0).isLt
  have h1 : (y 1).val < 8192 := (y 1).isLt
  blk_simp
  rw [after0_25]
  have e : y = ix2 (⟨(y 0).val, h0⟩ : Fin 32) (⟨(y 1).val, h1⟩ : Fin 8192) := by
    funext a; fin_cases a <;> rfl
  rw [e]
  refine (out_at_25 m c t _ _).trans ?_
  blk_ext [idx t]

end Cert.Kernel4Ideal.Gen

end

end
-- ==== Proof.ProjClaim.lean ====
module

public import proofs.«01_k».proof.Defs
public import proofs.«01_k».proof.Proof.Gen.Kernel4.Frame
public import proofs.«01_k».proof.Proof.Gen.Reference4Ideal.Run
public import proofs.«01_k».proof.Proof.ProjArr
public import proofs.«01_k».proof.Proof.ProjArrFour
public import proofs.«01_k».proof.Proof.ProjArrSixteen
public import Idealize.ShloMosaic.Lib.Claim
public import Idealize.ShloMosaic.Adequacy
public import Idealize.ShloMosaic.Init

@[expose] public section

noncomputable section

namespace Cert.Proof

open Idealize.ShloMosaic Idealize.ShloMosaic.TcCoe

set_option maxHeartbeats 2000000 in
/-- The input projection: the kernel's thirteen arrays are the reference's. -/
theorem inproj : Cert.algebraic_Kernel4Ideal_Reference4Ideal := by
  intro m g m' g' _ hagree
  refine ⟨fun c => Cert.Reference4Ideal.Read.val_main_v60 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v61 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v62 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v63 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v64 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Read.val_main_v65 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)),
    fun c => Cert.Reference4Ideal.Read.val_main_v66 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v67 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Read.val_main_v68 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)),
    fun c => Cert.Reference4Ideal.Read.val_main_v69 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v70 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Read.val_main_v71 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg4)),
    fun c => Cert.Reference4Ideal.Read.val_main_v72 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · refine (θ_run Cert.Kernel4Ideal.defs _ _).mono (fun r h c => ?_)
      (θ_run_and (Cert.Kernel4Ideal.Gen.run_main m g) (Cert.Kernel4Ideal.Gen.unchanged m g))
    exact ⟨((h.1 c).1 11).trans (Cert.Kernel4Ideal.Gen.final_11 m c),
      ((h.1 c).1 12).trans (Cert.Kernel4Ideal.Gen.final_12 m c),
      ((h.1 c).1 13).trans (Cert.Kernel4Ideal.Gen.final_13 m c),
      ((h.1 c).1 14).trans (Cert.Kernel4Ideal.Gen.final_14 m c),
      ((h.1 c).1 17).trans (Cert.Kernel4Ideal.Gen.final_17 m c),
      ((h.1 c).1 18).trans (Cert.Kernel4Ideal.Gen.final_18 m c),
      ((h.1 c).1 19).trans (Cert.Kernel4Ideal.Gen.final_19 m c),
      ((h.1 c).1 20).trans (Cert.Kernel4Ideal.Gen.final_20 m c),
      ((h.1 c).1 21).trans (Cert.Kernel4Ideal.Gen.final_21 m c),
      ((h.1 c).1 22).trans (Cert.Kernel4Ideal.Gen.final_22 m c),
      ((h.1 c).1 23).trans (Cert.Kernel4Ideal.Gen.final_23 m c),
      ((h.1 c).1 24).trans (Cert.Kernel4Ideal.Gen.final_24 m c),
      ((h.1 c).1 25).trans (Cert.Kernel4Ideal.Gen.final_25 m c), h.2 c⟩
  · refine (θ_run Cert.Reference4Ideal.defs _ _).mono (fun r h c => ?_) (Cert.Reference4Ideal.Value.run m' g')
    obtain ⟨h60, h61, h62, h63, h64, h65, h66, h67, h68, h69, h70, h71, h72, hargs⟩ := h c
    refine ⟨h60.trans ?_, h61.trans ?_, h62.trans ?_, h63.trans ?_, h64.trans ?_, h65.trans ?_, h66.trans ?_, h67.trans ?_, h68.trans ?_, h69.trans ?_, h70.trans ?_, h71.trans ?_, h72.trans ?_, hargs⟩
    · rw [Cert.Reference4Ideal.Read.val_main_v60_eq, (hagree c).1, (hagree c).2.1, (hagree c).2.2.1]
    · rw [Cert.Reference4Ideal.Read.val_main_v61_eq, (hagree c).1, (hagree c).2.1, (hagree c).2.2.1]
    · rw [Cert.Reference4Ideal.Read.val_main_v62_eq, (hagree c).1, (hagree c).2.1, (hagree c).2.2.1]
    · rw [Cert.Reference4Ideal.Read.val_main_v63_eq, (hagree c).1, (hagree c).2.1, (hagree c).2.2.1]
    · rw [Cert.Reference4Ideal.Read.val_main_v64_eq, (hagree c).1, (hagree c).2.1, (hagree c).2.2.1, (hagree c).2.2.2.1]
    · rw [Cert.Reference4Ideal.Read.val_main_v65_eq, (hagree c).1, (hagree c).2.1, (hagree c).2.2.1, (hagree c).2.2.2.2.1]
    · rw [Cert.Reference4Ideal.Read.val_main_v66_eq, (hagree c).1, (hagree c).2.1, (hagree c).2.2.1]
    · rw [Cert.Reference4Ideal.Read.val_main_v67_eq, (hagree c).1, (hagree c).2.1, (hagree c).2.2.1, (hagree c).2.2.2.1]
    · rw [Cert.Reference4Ideal.Read.val_main_v68_eq, (hagree c).1, (hagree c).2.1, (hagree c).2.2.1, (hagree c).2.2.2.2.1]
    · rw [Cert.Reference4Ideal.Read.val_main_v69_eq, (hagree c).1, (hagree c).2.1, (hagree c).2.2.1]
    · rw [Cert.Reference4Ideal.Read.val_main_v70_eq, (hagree c).1, (hagree c).2.1, (hagree c).2.2.1, (hagree c).2.2.2.1]
    · rw [Cert.Reference4Ideal.Read.val_main_v71_eq, (hagree c).1, (hagree c).2.1, (hagree c).2.2.1, (hagree c).2.2.2.2.1]
    · rw [Cert.Reference4Ideal.Read.val_main_v72_eq, (hagree c).1, (hagree c).2.1, (hagree c).2.2.1]

end Cert.Proof

end

end
-- ==== Proof.Out.lean ====
module

public import proofs.«01_k».proof.Proof.Pieces

@[expose] public section

set_option maxRecDepth 16384
set_option backward.proofsInPublic true

noncomputable section

open Idealize.ShloMosaic

/-! # Three patterns weighed by their log-sums

The weights of three patterns are a softmax of three log-sums.  A weight is never plus infinity, so a weight plus its
difference to itself is the weight again: this is why the kernel may carry each weight as two parts.  The parts of the
three weights of eight heads stand in 48 of 128 lanes; a product with a matrix of zeros and ones brings each weight to
the 64 columns of its head. -/

namespace Cert.Out

open Cert.Attn (Mat exp2_eq ln2)

/-- The greatest of three. -/
def top3 (l : Fin 3 → EReal) : EReal := max (max (l 0) (l 1)) (l 2)

/-- The softmax weight of a pattern. -/
def weight (l : Fin 3 → EReal) (n : Fin 3) : EReal :=
  Ideal.div (Ideal.exp (l n - top3 l))
    (Ideal.exp (l 0 - top3 l) + Ideal.exp (l 1 - top3 l) + Ideal.exp (l 2 - top3 l))

theorem sub_nonpos {a b : EReal} (h : a ≤ b) : a - b ≤ 0 := by
  induction b with
  | bot => rw [le_bot_iff.1 h]; simp
  | top => simp [sub_eq_add_neg]
  | coe r =>
    induction a with
    | bot => simp
    | top => exact absurd h (by simp)
    | coe s => rw [← EReal.coe_sub]; exact EReal.coe_nonpos.2 (by have := EReal.coe_le_coe_iff.1 h; linarith)

theorem exp_real {x : EReal} (h : x ≤ 0) : ∃ r : ℝ, 0 ≤ r ∧ Ideal.exp x = r := by
  induction x with
  | bot => exact ⟨0, le_rfl, rfl⟩
  | top => exact absurd h (by simp)
  | coe s => exact ⟨Real.exp s, (Real.exp_pos s).le, rfl⟩

theorem le_top3 (l : Fin 3 → EReal) (n : Fin 3) : l n ≤ top3 l := by
  fin_cases n
  · exact le_max_of_le_left (le_max_left _ _)
  · exact le_max_of_le_left (le_max_right _ _)
  · exact le_max_right _ _

/-- A weight is not plus infinity. -/
theorem weight_ne_top (l : Fin 3 → EReal) (n : Fin 3) : weight l n ≠ ⊤ := by
  obtain ⟨a, ha, ea⟩ := exp_real (sub_nonpos (le_top3 l 0))
  obtain ⟨b, hb, eb⟩ := exp_real (sub_nonpos (le_top3 l 1))
  obtain ⟨d, hd, ed⟩ := exp_real (sub_nonpos (le_top3 l 2))
  obtain ⟨e, he, ee⟩ := exp_real (sub_nonpos (le_top3 l n))
  have hle : e ≤ a + b + d := by
    fin_cases n
    · have : e = a := EReal.coe_eq_coe_iff.1 (ee.symm.trans ea)
      linarith
    · have : e = b := EReal.coe_eq_coe_iff.1 (ee.symm.trans eb)
      linarith
    · have : e = d := EReal.coe_eq_coe_iff.1 (ee.symm.trans ed)
      linarith
  rw [weight, ea, eb, ed, ee, ← EReal.coe_add, ← EReal.coe_add, Ideal.div]
  by_cases h : a + b + d = 0
  · have : e = 0 := by linarith
    rw [if_pos (by rw [h]; rfl), if_neg (by rw [this]; simp)]
    exact bot_ne_top
  · rw [if_neg (by rw [← EReal.coe_zero, EReal.coe_eq_coe_iff]; exact h), ← EReal.coe_inv, ← EReal.coe_mul]
    exact EReal.coe_ne_top _

/-- A weight and what is left of it give the weight. -/
theorem add_sub_self {w : EReal} (h : w ≠ ⊤) : w + (w - w) = w := by
  induction w with
  | bot => simp
  | top => exact absurd rfl h
  | coe r => rw [← EReal.coe_sub, ← EReal.coe_add]; simp

/-- Two to the power of minus `x` over `ln 2` is e to the power of minus `x`. -/
theorem exp2_minus (x : EReal) : Ideal.exp2 (x * ((-(Real.log 2)⁻¹ : ℝ) : EReal)) = Ideal.exp (-x) := by
  rw [exp2_eq, mul_assoc, ← EReal.coe_mul, neg_mul, inv_mul_cancel₀ Cert.Attn.ln2_pos.ne']
  congr 1
  rw [EReal.coe_neg, EReal.coe_one, mul_neg, mul_one]

end Cert.Out

end

end
-- ==== Proof.OutTile.lean ====
module

public import proofs.«01_k».proof.Proof.Out
public import proofs.«01_k».proof.Proof.Gen.Kernel5Ideal.Skeleton

@[expose] public section

set_option maxRecDepth 16384
set_option backward.proofsInPublic true

noncomputable section

open Idealize.ShloMosaic Idealize.ShloMosaic.TcCoe
open Cert.Out (weight top3 weight_ne_top add_sub_self exp2_minus)

/-! # The values computed in a block of the output projection -/

namespace Cert.Kernel5Ideal.Gen

/-- The weights of a pattern, for every row and lane. -/
def weights (a b d l : FVec Ideal S1024x128 .f32) : FVec Ideal S1024x128 .f32 :=
  divf (exp (subf l (maximumf (maximumf a b) d)))
    (addf (addf (exp (subf a (maximumf (maximumf a b) d))) (exp (subf b (maximumf (maximumf a b) d))))
      (exp (subf d (maximumf (maximumf a b) d))))

/-- The log-sums of the three patterns at a row and lane. -/
def three {ι : Type} (a b d : ι → EReal) (i : ι) (n : Fin 3) : EReal := ![a i, b i, d i] n

theorem weights_at (a b d : FVec Ideal S1024x128 .f32) (n : Fin 3) (r : Fin 1024) (l : Fin 128) :
    weights a b d (![a, b, d] n) (ix2 r l) = weight (three a b d (ix2 r l)) n := by
  fin_cases n <;> · simp only [Fin.zero_eta, Fin.mk_one, Fin.reduceFinMk]; pointwise [weights]; rfl

/-- A slot's lanes from its offset on, the earlier lanes as they were. -/
def slot (s : BitVec 32) (before part : FVec Ideal S1024x128 .f32) : FVec Ideal S1024x128 .f32 :=
  select (cmpi .slt (iota .tc S1024x128 32 [1] iota_S1024x128_d1_w32) (broadcast S1024x128 s)) before
    (dynamicRotate 1 s none part rotates_S1024x128_d1)

/-- What the rounding leaves of a weight. -/
def rest (w : FVec Ideal S1024x128 .f32) : FVec Ideal S1024x128 .f32 :=
  subf w (extf .f32 (truncf .bf16 w bitsLt_bf16_f32) bitsLt_bf16_f32)

/-- The three weights in two parts each, eight lanes a part. -/
def pack (u v w : FVec Ideal S1024x128 .f32) : FVec Ideal S1024x128 .bf16 :=
  truncf .bf16 (slot 40#32 (slot 32#32 (slot 24#32 (slot 16#32 (slot 8#32
      (extf .f32 (truncf .bf16 u bitsLt_bf16_f32) bitsLt_bf16_f32) (rest u))
      (extf .f32 (truncf .bf16 v bitsLt_bf16_f32) bitsLt_bf16_f32)) (rest v))
      (extf .f32 (truncf .bf16 w bitsLt_bf16_f32) bitsLt_bf16_f32)) (rest w)) bitsLt_bf16_f32

theorem pack_eq (a b d : FVec Ideal S1024x128 .f32) :
    k0_pay113 (F := Ideal) a b d = pack (weights a b d a) (weights a b d b) (weights a b d d) := rfl

theorem slot_at (s : ℕ) (hs : s < 128) (x y : FVec Ideal S1024x128 .f32) (r : Fin 1024) (l : Fin 128) :
    slot (BitVec.ofNat 32 s) x y (ix2 r l) = if (l : ℕ) < s then x (ix2 r l) else y (ix2 r ⟨l - s, by omega⟩) := by
  pointwise [slot]
  have h1 : (BitVec.ofNat 32 (l : ℕ)).toInt = (l : ℕ) := by
    rw [BitVec.toInt_eq_toNat_cond, BitVec.toNat_ofNat, Nat.mod_eq_of_lt (by omega), if_pos (by omega)]
  have h2 : (BitVec.ofNat 32 s).toInt = s := by
    rw [BitVec.toInt_eq_toNat_cond, BitVec.toNat_ofNat, Nat.mod_eq_of_lt (by omega), if_pos (by omega)]
  have e : (IntOp.cmpi CmpIPredicate.slt (BitVec.ofNat 32 (l : ℕ)) (BitVec.ofNat 32 s)) = BitVec.ofBool (decide ((l : ℕ) < s)) := by
    simp [IntOp.cmpi, BitVec.slt, h1, h2]
  have e' : (BitVec.ofNat 32 s).toNat % 128 = s := by
    rw [BitVec.toNat_ofNat]; omega
  by_cases h : (l : ℕ) < s
  · rw [e, if_pos h]; simp [Scalar.select, h]
  · have : (⟨((l : ℕ) + 128 - (BitVec.ofNat 32 s).toNat % 128) % 128, by omega⟩ : Fin 128) = ⟨l - s, by omega⟩ :=
      Fin.ext (by simp only [e']; omega)
    rw [e, if_neg h, this]; simp [Scalar.select, h]

theorem rest_at (w : FVec Ideal S1024x128 .f32) (i : S1024x128.Idx) : rest w i = w i - w i := rfl

/-- The packed weights, lane by lane. -/
theorem pack_at (u v w : FVec Ideal S1024x128 .f32) (r : Fin 1024) (l : Fin 128) :
    pack u v w (ix2 r l) =
      if (l : ℕ) < 40 then
        if (l : ℕ) < 32 then
          if (l : ℕ) < 24 then
            if (l : ℕ) < 16 then
              if (l : ℕ) < 8 then u (ix2 r l) else rest u (ix2 r ⟨l - 8, by omega⟩)
            else v (ix2 r ⟨l - 16, by omega⟩)
          else rest v (ix2 r ⟨l - 24, by omega⟩)
        else w (ix2 r ⟨l - 32, by omega⟩)
      else rest w (ix2 r ⟨l - 40, by omega⟩) := by
  show slot (BitVec.ofNat 32 40) _ _ (ix2 r l) = _
  rw [slot_at 40 (by decide)]
  refine if_congr Iff.rfl ?_ rfl
  show slot (BitVec.ofNat 32 32) _ _ (ix2 r l) = _
  rw [slot_at 32 (by decide)]
  refine if_congr Iff.rfl ?_ rfl
  show slot (BitVec.ofNat 32 24) _ _ (ix2 r l) = _
  rw [slot_at 24 (by decide)]
  refine if_congr Iff.rfl ?_ rfl
  show slot (BitVec.ofNat 32 16) _ _ (ix2 r l) = _
  rw [slot_at 16 (by decide)]
  refine if_congr Iff.rfl ?_ rfl
  show slot (BitVec.ofNat 32 8) _ _ (ix2 r l) = _
  rw [slot_at 8 (by decide)]
  rfl

/-- A packed weight and its rest, head by head. -/
theorem pack_two (w : Fin 3 → FVec Ideal S1024x128 .f32) (n : Fin 3) (r : Fin 1024) (h : Fin 8) :
    pack (w 0) (w 1) (w 2) (ix2 r ⟨16 * n + h, by omega⟩) = w n (ix2 r ⟨h, by omega⟩)
      ∧ pack (w 0) (w 1) (w 2) (ix2 r ⟨16 * n + 8 + h, by omega⟩) = rest (w n) (ix2 r ⟨h, by omega⟩) := by
  rw [pack_at, pack_at]
  have hh := h.isLt
  fin_cases n
  · have a1 : 16 * 0 + (h : ℕ) < 40 := by omega
    have a2 : 16 * 0 + (h : ℕ) < 32 := by omega
    have a3 : 16 * 0 + (h : ℕ) < 24 := by omega
    have a4 : 16 * 0 + (h : ℕ) < 16 := by omega
    have a5 : 16 * 0 + (h : ℕ) < 8 := by omega
    have b1 : 16 * 0 + 8 + (h : ℕ) < 40 := by omega
    have b2 : 16 * 0 + 8 + (h : ℕ) < 32 := by omega
    have b3 : 16 * 0 + 8 + (h : ℕ) < 24 := by omega
    have b4 : 16 * 0 + 8 + (h : ℕ) < 16 := by omega
    have b5 : ¬ 16 * 0 + 8 + (h : ℕ) < 8 := by omega
    constructor
    · exact (if_pos a1).trans ((if_pos a2).trans ((if_pos a3).trans ((if_pos a4).trans ((if_pos a5).trans (congrArg (fun k => w 0 (ix2 r k)) (Fin.ext (show 16 * 0 + (h : ℕ) = h by omega)))))))
    · exact (if_pos b1).trans ((if_pos b2).trans ((if_pos b3).trans ((if_pos b4).trans ((if_neg b5).trans (congrArg (fun k => rest (w 0) (ix2 r k)) (Fin.ext (show 16 * 0 + 8 + (h : ℕ) - 8 = h by omega)))))))
  · have a1 : 16 * 1 + (h : ℕ) < 40 := by omega
    have a2 : 16 * 1 + (h : ℕ) < 32 := by omega
    have a3 : 16 * 1 + (h : ℕ) < 24 := by omega
    have a4 : ¬ 16 * 1 + (h : ℕ) < 16 := by omega
    have b1 : 16 * 1 + 8 + (h : ℕ) < 40 := by omega
    have b2 : 16 * 1 + 8 + (h : ℕ) < 32 := by omega
    have b3 : ¬ 16 * 1 + 8 + (h : ℕ) < 24 := by omega
    constructor
    · exact (if_pos a1).trans ((if_pos a2).trans ((if_pos a3).trans ((if_neg a4).trans (congrArg (fun k => w 1 (ix2 r k)) (Fin.ext (show 16 * 1 + (h : ℕ) - 16 = h by omega))))))
    · exact (if_pos b1).trans ((if_pos b2).trans ((if_neg b3).trans (congrArg (fun k => rest (w 1) (ix2 r k)) (Fin.ext (show 16 * 1 + 8 + (h : ℕ) - 24 = h by omega)))))
  · have a1 : 16 * 2 + (h : ℕ) < 40 := by omega
    have a2 : ¬ 16 * 2 + (h : ℕ) < 32 := by omega
    have b1 : ¬ 16 * 2 + 8 + (h : ℕ) < 40 := by omega
    constructor
    · exact (if_pos a1).trans ((if_neg a2).trans (congrArg (fun k => w 2 (ix2 r k)) (Fin.ext (show 16 * 2 + (h : ℕ) - 32 = h by omega))))
    · exact (if_neg b1).trans (congrArg (fun k => rest (w 2) (ix2 r k)) (Fin.ext (show 16 * 2 + 8 + (h : ℕ) - 40 = h by omega)))

/-- A matrix of zeros and ones that picks two lanes brings their sum. -/
theorem sum_two (f e : Fin 128 → EReal) (n : Fin 3) (h : Fin 8)
    (he : ∀ x : Fin 128, e x = if (x : ℕ) / 16 = n ∧ (x : ℕ) % 8 = h then 1 else 0) :
    ∑ x, f x * e x = f ⟨16 * n + h, by omega⟩ + f ⟨16 * n + 8 + h, by omega⟩ := by
  have : ∀ x, f x * e x = if (x : ℕ) / 16 = n ∧ (x : ℕ) % 8 = h then f x else 0 := fun x => by
    rw [he x]; split <;> simp
  simp only [this]
  have hs : (Finset.univ.filter fun x : Fin 128 => (x : ℕ) / 16 = n ∧ (x : ℕ) % 8 = h)
      = {⟨16 * n + h, by omega⟩, ⟨16 * n + 8 + h, by omega⟩} := by
    ext x
    simp only [Finset.mem_filter, Finset.mem_univ, true_and, Finset.mem_insert, Finset.mem_singleton, Fin.ext_iff]
    have := h.isLt
    omega
  rw [← Finset.sum_filter, hs, Finset.sum_pair (by simp [Fin.ext_iff])]

/-- The expanded weights: each of 64 columns of a head and pattern gets the head's weight for the pattern. -/
theorem expand_at (a b d : FVec Ideal S1024x128 .f32) (ex : Vec Ideal S128x1536 .bf16)
    (hex : ∀ (x : Fin 128) (c : Fin 1536),
      ex (ix2 x c) = if (x : ℕ) / 16 = c / 512 ∧ (x : ℕ) % 8 = c % 512 / 64 then 1 else 0)
    (r : Fin 1024) (n : Fin 3) (c : Fin 512) (hc : 512 * (n : ℕ) + c < 1536) :
    k0_pay114 (F := Ideal) (k0_pay113 (F := Ideal) a b d) ex (ix2 r ⟨512 * n + c, hc⟩)
      = weight (three a b d (ix2 r ⟨(c : ℕ) / 64, by omega⟩)) n := by
  have e : k0_pay114 (F := Ideal) (k0_pay113 (F := Ideal) a b d) ex (ix2 r ⟨512 * n + c, hc⟩)
      = ∑ x : Fin 128, k0_pay113 (F := Ideal) a b d (ix2 r x) * ex (ix2 x ⟨512 * n + c, hc⟩) := by
    generalize k0_pay113 (F := Ideal) a b d = p
    pointwise [k0_pay114]
  rw [e, sum_two (fun x => k0_pay113 (F := Ideal) a b d (ix2 r x)) _ n ⟨(c : ℕ) / 64, by omega⟩ fun x => by
    rw [hex]
    refine if_congr (and_congr ?_ ?_) rfl rfl
    · rw [show (512 * (n : ℕ) + c) / 512 = n by omega]
    · rw [show (512 * (n : ℕ) + c) % 512 = c by omega]]
  have p := pack_two (fun n => weights a b d (![a, b, d] n)) n r ⟨(c : ℕ) / 64, by omega⟩
  have p1 := p.1
  have p2 := p.2
  rw [pack_eq]
  refine (congrArg₂ (· + ·) p1 p2).trans ?_
  rw [rest_at, weights_at, add_sub_self (weight_ne_top _ _)]

/-- The three patterns' outputs, weighted and gated. -/
def mixed (w : FVec Ideal S1024x1536 .f32) (s : Fin 4) (o z : Vec Ideal S1024x128 .bf16) (p q : Vec Ideal S1x1024x128 .f32)
    (r : Fin 1024) (l : Fin 128) : EReal :=
  (w (ix2 r ⟨128 * s + l, by omega⟩) * o (ix2 r l) + w (ix2 r ⟨512 + 128 * s + l, by omega⟩) * p (ix3 0 r l)
      + w (ix2 r ⟨1024 + 128 * s + l, by omega⟩) * q (ix3 0 r l))
    * (z (ix2 r l) * Ideal.div 1 (1 + Ideal.exp (-z (ix2 r l))))

theorem log2e : (Named.named (F := Ideal) (φ := .f32) κ "minus_log2e" 0xBFB8AA3B#32 : EReal) = ((-(Real.log 2)⁻¹ : ℝ) : EReal) :=
  IdealRules.named_const.ideal_named_scalar _ _ _ _ rfl

/-- What the kernel stores of the heads' outputs, 128 columns at a time. -/
def slab (k : FVec Ideal S1024x128 .bf16) (e : Vec Ideal S128x1536 .bf16) : (s : Fin 4) → (o z : Vec Ideal S1024x128 .bf16) →
    (p q : Vec Ideal S1x1024x128 .f32) → FVec Ideal S1024x128 .bf16
  | 0 => fun o z p q => k0_pay115 (F := Ideal) k e o p q z
  | 1 => fun o z p q => k0_pay118 (F := Ideal) (k0_pay114 k e) (k0_pay116 o) (k0_pay117 p) q z
  | 2 => fun o z p q => k0_pay120 (F := Ideal) (k0_pay119 (k0_pay114 k e) o p q) z
  | 3 => fun o z p q => k0_pay1 (F := Ideal) (k0_pay121 (k0_pay114 k e) o p q z)

theorem slab_at (k : FVec Ideal S1024x128 .bf16) (e : Vec Ideal S128x1536 .bf16) (s : Fin 4)
    (o z : Vec Ideal S1024x128 .bf16) (p q : Vec Ideal S1x1024x128 .f32) (r : Fin 1024) (l : Fin 128) :
    slab k e s o z p q (ix2 r l) = mixed (k0_pay114 k e) s o z p q r l := by
  rw [mixed, ← exp2_minus, ← log2e, ← Ideal.ofBits_one_f32]
  fin_cases s
  · show k0_pay115 (F := Ideal) k e o p q z (ix2 r l) = _
    simp only [k0_pay115]
    generalize k0_pay114 (F := Ideal) k e = w
    pointwise []
    rfl
  · show k0_pay118 (F := Ideal) (k0_pay114 k e) (k0_pay116 o) (k0_pay117 p) q z (ix2 r l) = _
    generalize k0_pay114 (F := Ideal) k e = w
    pointwise [k0_pay118, k0_pay116, k0_pay117]
    rfl
  · show k0_pay120 (F := Ideal) (k0_pay119 (k0_pay114 k e) o p q) z (ix2 r l) = _
    generalize k0_pay114 (F := Ideal) k e = w
    pointwise [k0_pay120, k0_pay119]
    rfl
  · show k0_pay1 (F := Ideal) (k0_pay121 (k0_pay114 k e) o p q z) (ix2 r l) = _
    generalize k0_pay114 (F := Ideal) k e = w
    pointwise [k0_pay1, k0_pay121]
    rfl

end Cert.Kernel5Ideal.Gen

end

end
-- ==== Proof.OutBlock.lean ====
module

public import proofs.«01_k».proof.Proof.OutTile
public import proofs.«01_k».proof.Proof.OutRead
public import proofs.«01_k».proof.Proof.Gen.Kernel5Ideal.Value

@[expose] public section

set_option maxRecDepth 16384
set_option backward.proofsInPublic true

noncomputable section

open Idealize.ShloMosaic Idealize.ShloMosaic.TcCoe
open Cert.Attn (inb2 box)
open Cert.Out (weight load load_at entry entry_of slabRows slab_read lseRows lse_read readCov_of_pieces)
open Idealize.ShloMosaic.StridedRows (Plane)

/-! # One block of the output projection -/

namespace Cert.Kernel5Ideal.Gen

section Run

variable (c : Dev nD) (i : grid0.Coords)
  {arg1 : Memref sig .tc .vmem S1024x1024 .f32} (harg1 : arg1.IsWhole) {arg2 : Memref sig .tc .vmem S1024x1024 .bf16} (harg2 : arg2.IsWhole)
  {arg3 : Memref sig .tc .vmem S1024x512 .bf16} (harg3 : arg3.IsWhole) {arg4 : Memref sig .tc .vmem S256x2048 .bf16} (harg4 : arg4.IsWhole)
  {arg5 : Memref sig .tc .vmem S64x8192 .bf16} (harg5 : arg5.IsWhole) {arg6 : Memref sig .tc .vmem S1024x128 .f32} (harg6 : arg6.IsWhole)
  {arg7 : Memref sig .tc .vmem S256x512 .f32} (harg7 : arg7.IsWhole) {arg8 : Memref sig .tc .vmem S64x2048 .f32} (harg8 : arg8.IsWhole)
  {arg9 : Memref sig .tc .vmem S1024x512 .bf16} (harg9 : arg9.IsWhole) {arg10 : Memref sig .tc .vmem S1536x1024 .bf16} (harg10 : arg10.IsWhole)
  {arg11 : Memref sig .tc .vmem S128x1536 .bf16} (harg11 : arg11.IsWhole) {arg12 : Memref sig .tc .vmem S1024x1024 .f32} (harg12 : arg12.IsWhole)
  {arg13 : Memref sig .tc .vmem S4x1024x128 .f32} (harg13 : arg13.IsWhole) {arg14 : Memref sig .tc .vmem S4x1024x128 .f32} (harg14 : arg14.IsWhole)
  {arg15 : Memref sig .tc .vmem S1024x128 .f32} (harg15 : arg15.IsWhole) {arg16 : Memref sig .tc .vmem S1024x128 .f32} (harg16 : arg16.IsWhole)
  {arg17 : Memref sig .tc .vmem S1024x512 .bf16} (harg17 : arg17.IsWhole)
  (x0 : Vec Ideal S1024x1024 .f32) (x1 : Vec Ideal S1024x1024 .bf16) (x2 : Vec Ideal S1024x512 .bf16) (x3 : Vec Ideal S256x2048 .bf16)
  (x4 : Vec Ideal S64x8192 .bf16) (x5 : Vec Ideal S1024x128 .f32) (x6 : Vec Ideal S256x512 .f32) (x7 : Vec Ideal S64x2048 .f32)
  (x8 : Vec Ideal S1024x512 .bf16) (x9 : Vec Ideal S1536x1024 .bf16) (x10 : Vec Ideal S128x1536 .bf16)

/-- The log-sums of pattern 4, row by row. -/
def lse4 (arg15 : Memref sig .tc .vmem S1024x128 .f32) : FVec Ideal S1024x128 .f32 :=
  arg15.view.readCov (Val := Elt Ideal) (([3, 2, 1, 0] : List (Fin 4)).map (lseRows (N := 256) (D := 4) harg7 x6))
    (Rect.unit (s := S1024x128) ![0, 0] S1024x128.size inb_S1024x128_S1024x128_0_0).toLoadRect

/-- The log-sums of pattern 16, row by row. -/
def lse16 (arg16 : Memref sig .tc .vmem S1024x128 .f32) : FVec Ideal S1024x128 .f32 :=
  arg16.view.readCov (Val := Elt Ideal) (([15, 14, 13, 12, 11, 10, 9, 8, 7, 6, 5, 4, 3, 2, 1, 0] : List (Fin 16)).map
    (lseRows (N := 64) (D := 16) harg8 x7))
    (Rect.unit (s := S1024x128) ![0, 0] S1024x128.size inb_S1024x128_S1024x128_0_0).toLoadRect

theorem slabInb (s : Fin 4) (a : Fin 3) : (![(s : ℕ), 0, 0] : Fin 3 → ℕ) a + S1x1024x128.size a ≤ S4x1024x128.size a := by
  match a with
  | ⟨0, _⟩ => exact s.isLt
  | ⟨1, _⟩ => exact le_rfl
  | ⟨2, _⟩ => exact le_rfl

/-- A slab of pattern 4's output, row by row. -/
def out4 (arg13 : Memref sig .tc .vmem S4x1024x128 .f32) (s : Fin 4) : Vec Ideal S1x1024x128 .f32 :=
  arg13.view.readCov (Val := Elt Ideal) (([3, 2, 1, 0] : List (Fin 4)).flatMap fun r => ([3, 2, 1, 0] : List (Fin 4)).map
      (slabRows (N := 256) (D := 4) harg4 x3 r))
    (Rect.unit (s := S4x1024x128) ![(s : ℕ), 0, 0] S1x1024x128.size (slabInb s)).toLoadRect

/-- A slab of pattern 16's output, row by row. -/
def out16 (arg14 : Memref sig .tc .vmem S4x1024x128 .f32) (s : Fin 4) : Vec Ideal S1x1024x128 .f32 :=
  arg14.view.readCov (Val := Elt Ideal) (([15, 14, 13, 12, 11, 10, 9, 8, 7, 6, 5, 4, 3, 2, 1, 0] : List (Fin 16)).flatMap fun r =>
      ([3, 2, 1, 0] : List (Fin 4)).map (slabRows (N := 64) (D := 16) harg5 x4 r))
    (Rect.unit (s := S4x1024x128) ![(s : ℕ), 0, 0] S1x1024x128.size (slabInb s)).toLoadRect

/-- The store of one slab of the heads' gated output. -/
def headPiece (arg13 arg14 : Memref sig .tc .vmem S4x1024x128 .f32) (arg15 arg16 : Memref sig .tc .vmem S1024x128 .f32) (s : Fin 4) :
    View.Piece (Elt Ideal) S1024x512 .bf16 :=
  ⟨box (m := 1024) (n := 512) 1024 128 0 (128 * s) (by omega) (by omega),
    slab (k0_pay113 (F := Ideal) (load harg6 x5 1024 128 0 0 (by omega) (by omega)) (lse4 harg7 x6 arg15) (lse16 harg8 x7 arg16))
      (load harg11 x10 128 1536 0 0 (by omega) (by omega)) s
      (load harg3 x2 1024 128 0 (128 * s) (by omega) (by omega)) (load harg9 x8 1024 128 0 (128 * s) (by omega) (by omega))
      (out4 harg4 x3 arg13 s) (out16 harg5 x4 arg14 s)⟩

/-- The residual and the mLSTM heads' product. -/
def firstSum : FVec Ideal S1024x1024 .f32 :=
  k0_pay3 (F := Ideal) (load harg1 x0 1024 1024 0 0 (by omega) (by omega)) (load harg2 x1 1024 1024 0 0 (by omega) (by omega))
    (load harg10 x9 1024 1024 0 0 (by omega) (by omega))

/-- The gated output of the attention heads, as it is read back. -/
def headRead (arg13 arg14 : Memref sig .tc .vmem S4x1024x128 .f32) (arg15 arg16 : Memref sig .tc .vmem S1024x128 .f32)
    (arg17 : Memref sig .tc .vmem S1024x512 .bf16) : Vec Ideal S1024x512 .bf16 :=
  arg17.view.readCov (Val := Elt Ideal)
    (([3, 2, 1, 0] : List (Fin 4)).map (headPiece harg3 harg4 harg5 harg6 harg7 harg8 harg9 harg11 x2 x3 x4 x5 x6 x7 x8 x10 arg13 arg14 arg15 arg16))
    (Rect.unit (s := S1024x512) ![0, 0] S1024x512.size inb_S1024x512_S1024x512_0_0).toLoadRect

/-- The body's stores to the output. -/
theorem run_out : (kernelRun0_A c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      x0 x1 x2 x3 x4 x5 x6 x7 x8 x9 x10).1
    = [⟨Rect.unit (s := S1024x1024) ![0, 0] S1024x1024.size inb_S1024x1024_S1024x1024_0_0,
        k0_pay2 (F := Ideal) (arg12.view.readCov (Val := Elt Ideal)
            [⟨Rect.unit (s := S1024x1024) ![0, 0] S1024x1024.size inb_S1024x1024_S1024x1024_0_0, firstSum harg1 harg2 harg10 x0 x1 x9⟩]
            (Rect.unit (s := S1024x1024) ![0, 0] S1024x1024.size inb_S1024x1024_S1024x1024_0_0).toLoadRect)
          (headRead harg3 harg4 harg5 harg6 harg7 harg8 harg9 harg11 x2 x3 x4 x5 x6 x7 x8 x10 arg13 arg14 arg15 arg16 arg17)
          (load harg10 x9 512 1024 1024 0 (by omega) (by omega))⟩,
       ⟨Rect.unit (s := S1024x1024) ![0, 0] S1024x1024.size inb_S1024x1024_S1024x1024_0_0, firstSum harg1 harg2 harg10 x0 x1 x9⟩] := rfl

/-- The three log-sums of a row's head. -/
def sums (r k : ℕ) : Fin 3 → EReal :=
  ![entry x5 r (k / 64), entry x6 (r / 4) (128 * (r % 4) + k / 64), entry x7 (r / 16) (128 * (r % 16) + k / 64)]

/-- The gated, weighted output of the heads at a row and column. -/
def headAt (r k : ℕ) : EReal :=
  (weight (sums x5 x6 x7 r k) 0 * entry x2 r k + weight (sums x5 x6 x7 r k) 1 * entry x3 (r / 4) (512 * (r % 4) + k)
      + weight (sums x5 x6 x7 r k) 2 * entry x4 (r / 16) (512 * (r % 16) + k))
    * (entry x8 r k * Ideal.div 1 (1 + Ideal.exp (-entry x8 r k)))

theorem lse4_at (arg15 : Memref sig .tc .vmem S1024x128 .f32) (r : Fin 1024) (l : Fin 128) :
    lse4 harg7 x6 arg15 (ix2 r l) = entry x6 (r / 4) (128 * (r % 4) + l) :=
  lse_read (N := 256) (D := 4) harg7 x6 (arg' := arg15) _ (by decide) inb_S1024x128_S1024x128_0_0 (by decide) r l

theorem lse16_at (arg16 : Memref sig .tc .vmem S1024x128 .f32) (r : Fin 1024) (l : Fin 128) :
    lse16 harg8 x7 arg16 (ix2 r l) = entry x7 (r / 16) (128 * (r % 16) + l) :=
  lse_read (N := 64) (D := 16) harg8 x7 (arg' := arg16) _ (by decide) inb_S1024x128_S1024x128_0_0 (by decide) r l

theorem out4_at (arg13 : Memref sig .tc .vmem S4x1024x128 .f32) (s : Fin 4) (r : Fin 1024) (l : Fin 128) :
    out4 harg4 x3 arg13 s (ix3 0 r l) = entry x3 (r / 4) (512 * (r % 4) + 128 * s + l) :=
  slab_read (N := 256) (D := 4) harg4 x3 (arg' := arg13) _ _ (by decide) (by decide) s (slabInb s) (by decide) r l

theorem out16_at (arg14 : Memref sig .tc .vmem S4x1024x128 .f32) (s : Fin 4) (r : Fin 1024) (l : Fin 128) :
    out16 harg5 x4 arg14 s (ix3 0 r l) = entry x4 (r / 16) (512 * (r % 16) + 128 * s + l) :=
  slab_read (N := 64) (D := 16) harg5 x4 (arg' := arg14) _ _ (by decide) (by decide) s (slabInb s) (by decide) r l

variable (hex : ∀ (x : Fin 128) (c : Fin 1536),
  x10 (ix2 x c) = if (x : ℕ) / 16 = c / 512 ∧ (x : ℕ) % 8 = c % 512 / 64 then 1 else 0)

include hex in
theorem headPiece_at (arg13 arg14 : Memref sig .tc .vmem S4x1024x128 .f32) (arg15 arg16 : Memref sig .tc .vmem S1024x128 .f32)
    (s : Fin 4) (r : Fin 1024) (l : Fin 128) :
    (headPiece harg3 harg4 harg5 harg6 harg7 harg8 harg9 harg11 x2 x3 x4 x5 x6 x7 x8 x10 arg13 arg14 arg15 arg16 s).2 (ix2 r l)
      = headAt x2 x3 x4 x5 x6 x7 x8 r (128 * s + l) := by
  have hl := l.isLt
  have hs := s.isLt
  have hr := r.isLt
  have hw : ∀ n : Fin 3, three (load harg6 x5 1024 128 0 0 (by omega) (by omega)) (lse4 harg7 x6 arg15) (lse16 harg8 x7 arg16)
      (ix2 r ⟨(128 * (s : ℕ) + l) / 64, by omega⟩) n = sums x5 x6 x7 r (128 * s + l) n := by
    intro n
    fin_cases n
    · refine (load_at ..).trans ((entry_of x5 _ _).symm.trans ?_)
      exact congrArg₂ (entry x5) (Nat.zero_add _) (Nat.zero_add _)
    · exact lse4_at harg7 x6 arg15 _ _
    · exact lse16_at harg8 x7 arg16 _ _
  have hx : ∀ (x : Fin 128) (c : Fin 1536), load harg11 x10 128 1536 0 0 (by omega) (by omega) (ix2 x c)
      = if (x : ℕ) / 16 = c / 512 ∧ (x : ℕ) % 8 = c % 512 / 64 then 1 else 0 := fun x c => by
    rw [← hex x c, load_at]
    exact congrArg x10 (by congr 1 <;> exact Fin.ext (Nat.zero_add _))
  have he : ∀ (n : Fin 3) (k : ℕ) (hk : k < 1536), k = 512 * n + 128 * s + l →
      k0_pay114 (F := Ideal) (k0_pay113 (F := Ideal) (load harg6 x5 1024 128 0 0 (by omega) (by omega)) (lse4 harg7 x6 arg15)
        (lse16 harg8 x7 arg16)) (load harg11 x10 128 1536 0 0 (by omega) (by omega)) (ix2 r ⟨k, hk⟩)
        = weight (sums x5 x6 x7 r (128 * s + l)) n := by
    intro n k hk e
    subst e
    have := expand_at (load harg6 x5 1024 128 0 0 (by omega) (by omega)) (lse4 harg7 x6 arg15) (lse16 harg8 x7 arg16) _ hx r n
      ⟨128 * s + l, by omega⟩ (by show 512 * (n : ℕ) + (128 * (s : ℕ) + l) < 1536; omega)
    refine (congrArg (fun j => k0_pay114 (F := Ideal) _ _ (ix2 r j)) (Fin.ext ?_)).trans (this.trans ?_)
    · show 512 * (n : ℕ) + 128 * s + l = 512 * n + (128 * s + l); omega
    · exact congrArg (fun f => weight f n) (funext hw)
  refine (slab_at _ _ s _ _ _ _ r l).trans ?_
  rw [mixed, out4_at, out16_at, headAt, he 0 _ (by omega) (by simp), he 1 _ (by omega) (by simp), he 2 _ (by omega) (by simp)]
  have ho : load harg3 x2 1024 128 0 (128 * s) (by omega) (by omega) (ix2 r l) = entry x2 r (128 * s + l) :=
    (load_at ..).trans ((entry_of x2 _ _).symm.trans (congrArg₂ (entry x2) (Nat.zero_add _) rfl))
  have hz : load harg9 x8 1024 128 0 (128 * s) (by omega) (by omega) (ix2 r l) = entry x8 r (128 * s + l) :=
    (load_at ..).trans ((entry_of x8 _ _).symm.trans (congrArg₂ (entry x8) (Nat.zero_add _) rfl))
  rw [ho, hz, Nat.add_assoc, Nat.add_assoc]

include hex in
theorem headRead_at (r : Fin 1024) (k : Fin 512) :
    headRead harg3 harg4 harg5 harg6 harg7 harg8 harg9 harg11 x2 x3 x4 x5 x6 x7 x8 x10 arg13 arg14 arg15 arg16 arg17 (ix2 r k)
      = headAt x2 x3 x4 x5 x6 x7 x8 r k := by
  refine (readCov_of_pieces arg17.view (fun y : S1024x512.Idx => headAt x2 x3 x4 x5 x6 x7 x8 (y 0).val (y 1).val) _ ?_ _ _ ?_).trans ?_
  · intro p hp y
    obtain ⟨s, _, rfl⟩ := List.mem_map.1 hp
    have hy : ∃ (n : Fin 1024) (l : Fin 128), y = ix2 n l :=
      ⟨y 0, y 1, by funext a; match a with | ⟨0, _⟩ => rfl | ⟨1, _⟩ => rfl⟩
    obtain ⟨n, l, rfl⟩ := hy
    refine (headPiece_at harg3 harg4 harg5 harg6 harg7 harg8 harg9 harg11 x2 x3 x4 x5 x6 x7 x8 x10 hex arg13 arg14 arg15 arg16 s n l).trans ?_
    refine congrArg₂ (headAt x2 x3 x4 x5 x6 x7 x8) ?_ ?_
    · show (n : ℕ) = 0 + 1 * (n : ℕ); omega
    · show 128 * (s : ℕ) + (l : ℕ) = 128 * (s : ℕ) + 1 * (l : ℕ); omega
  · refine ⟨_, List.mem_map.2 ⟨⟨(k : ℕ) / 128, by omega⟩, ?_, rfl⟩, ?_⟩
    · exact (by decide : ∀ s : Fin 4, s ∈ ([3, 2, 1, 0] : List (Fin 4))) _
    · rw [LoadRect.mem_set]
      intro a
      match a with
      | ⟨0, _⟩ => exact ⟨r, r.isLt, rfl⟩
      | ⟨1, _⟩ =>
        refine ⟨(k : ℕ) % 128, Nat.mod_lt _ (by decide), ?_⟩
        show 0 + 1 * (k : ℕ) = 128 * ((k : ℕ) / 128) + 1 * ((k : ℕ) % 128)
        omega
  · refine congrArg₂ (headAt x2 x3 x4 x5 x6 x7 x8) ?_ ?_
    · show 0 + 1 * (r : ℕ) = r; omega
    · show 0 + 1 * (k : ℕ) = k; omega

include hex in
/-- The body leaves in the output's buffer the residual with both products added. -/
theorem block_at (r : Fin 1024) (k : Fin 1024) :
    View.canon (kernelRun0_A c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      x0 x1 x2 x3 x4 x5 x6 x7 x8 x9 x10).1 (ix2 r k)
    = x0 (ix2 r k) + ∑ j : Fin 1024, x1 (ix2 r j) * x9 (ix2 ⟨j, by omega⟩ k)
      + ∑ j : Fin 512, headAt x2 x3 x4 x5 x6 x7 x8 r j * x9 (ix2 ⟨1024 + j, by omega⟩ k) := by
  have h0 : ∀ a, (![0, 0] : Fin 2 → ℕ) a = 0 := by decide
  rw [run_out]
  rw [View.canon_cons_unit_lit (Val := Elt Ideal) _ _ _ h0, View.readCov_unit_lit (Val := Elt Ideal) _ _ _ h0]
  pointwise [k0_pay2, firstSum, k0_pay3]
  refine congrArg₂ (· + ·) (congrArg₂ (· + ·) ?_ (Finset.sum_congr rfl fun j _ => congrArg₂ (· * ·) ?_ ?_))
    (Finset.sum_congr rfl fun j _ => congrArg₂ (· * ·) (headRead_at harg3 harg4 harg5 harg6 harg7 harg8 harg9 harg11
      x2 x3 x4 x5 x6 x7 x8 x10 hex r j) ?_)
  · exact (load_at ..).trans (congrArg x0 (by congr 1 <;> exact Fin.ext (Nat.zero_add _)))
  · exact (load_at ..).trans (congrArg x1 (by congr 1 <;> exact Fin.ext (Nat.zero_add _)))
  · exact (load_at ..).trans (congrArg x9 (by congr 1 <;> exact Fin.ext (Nat.zero_add _)))
  · exact (load_at ..).trans (congrArg x9 (by congr 1; exact Fin.ext (Nat.zero_add _)))

end Run

end Cert.Kernel5Ideal.Gen

end

end
-- ==== Proof.OutRef.lean ====
module

public import proofs.«01_k».proof.Proof.Out
public import proofs.«01_k».proof.Proof.OutRead
public import proofs.«01_k».proof.Proof.Gen.Reference5Ideal.Read

@[expose] public section

set_option maxRecDepth 16384
set_option backward.proofsInPublic true

noncomputable section

open Idealize.ShloMosaic Idealize.ShloMosaic.TcCoe
open Cert.Attn (Mat)
open Cert.Out (weight top3 entry entry_of)

/-! # The reference's output projection, entry by entry -/

namespace Cert.Reference5Ideal.Read

theorem v1_at (x : FVec Ideal (Mat 65536 512) .bf16) (r : Fin 65536) (h : Fin 8) (l : Fin 64) :
    val_main_v1 (F := Ideal) x (ix3 r h l) = entry x r (64 * h + l) := by
  show shapeCast _ (extf (F := Ideal) (φ := .bf16) .f32 x _) _ (ix3 r h l) = _
  rw [shapeCast_apply _ _ _ (ix2 r (⟨64 * h + l, by omega⟩ : Fin 512)) (by
    rw [Shape.rowMajor_val_two, Shape.rowMajor_val_three]; simp; omega)]
  exact (entry_of x _ _).symm

theorem v3_at (x : FVec Ideal (Mat 16384 2048) .bf16) (r : Fin 65536) (h : Fin 8) (l : Fin 64) :
    val_main_v3 (F := Ideal) x (ix3 r h l) = entry x (r / 4) (512 * (r % 4) + (64 * h + l)) := by
  show shapeCast _ (extf (F := Ideal) (φ := .bf16) .f32 x _) _ (ix3 r h l) = _
  rw [shapeCast_apply _ _ _ (ix2 (⟨r / 4, by omega⟩ : Fin 16384) (⟨512 * (r % 4) + (64 * h + l), by omega⟩ : Fin 2048)) (by
    rw [Shape.rowMajor_val_two, Shape.rowMajor_val_three]; simp; omega)]
  exact (entry_of x _ _).symm

theorem v5_at (x : FVec Ideal (Mat 4096 8192) .bf16) (r : Fin 65536) (h : Fin 8) (l : Fin 64) :
    val_main_v5 (F := Ideal) x (ix3 r h l) = entry x (r / 16) (512 * (r % 16) + (64 * h + l)) := by
  show shapeCast _ (extf (F := Ideal) (φ := .bf16) .f32 x _) _ (ix3 r h l) = _
  rw [shapeCast_apply _ _ _ (ix2 (⟨r / 16, by omega⟩ : Fin 4096) (⟨512 * (r % 16) + (64 * h + l), by omega⟩ : Fin 8192)) (by
    rw [Shape.rowMajor_val_two, Shape.rowMajor_val_three]; simp; omega)]
  exact (entry_of x _ _).symm

theorem v10_at (x : FVec Ideal (Mat 65536 128) .f32) (r : Fin 65536) (h : Fin 8) :
    val_main_v10 (F := Ideal) x (ix2 r h) = entry x r h := by
  pointwise [val_main_v10]
  exact (entry_of x _ _).symm

theorem v12_at (x : FVec Ideal (Mat 16384 512) .f32) (r : Fin 65536) (h : Fin 8) :
    val_main_v12 (F := Ideal) x (ix2 r h) = entry x (r / 4) (128 * (r % 4) + h) := by
  pointwise [val_main_v12]
  show shapeCast _ x _ (ix2 r (⟨h, _⟩ : Fin 128)) = _
  rw [shapeCast_apply _ _ _ (ix2 (⟨r / 4, by omega⟩ : Fin 16384) (⟨128 * (r % 4) + h, by omega⟩ : Fin 512)) (by
    rw [Shape.rowMajor_val_two, Shape.rowMajor_val_two]; simp; omega)]
  exact (entry_of x _ _).symm

theorem v14_at (x : FVec Ideal (Mat 4096 2048) .f32) (r : Fin 65536) (h : Fin 8) :
    val_main_v14 (F := Ideal) x (ix2 r h) = entry x (r / 16) (128 * (r % 16) + h) := by
  pointwise [val_main_v14]
  show shapeCast _ x _ (ix2 r (⟨h, _⟩ : Fin 128)) = _
  rw [shapeCast_apply _ _ _ (ix2 (⟨r / 16, by omega⟩ : Fin 4096) (⟨128 * (r % 16) + h, by omega⟩ : Fin 2048)) (by
    rw [Shape.rowMajor_val_two, Shape.rowMajor_val_two]; simp; omega)]
  exact (entry_of x _ _).symm

section Weights

variable (x5 : FVec Ideal (Mat 65536 128) .f32) (x6 : FVec Ideal (Mat 16384 512) .f32) (x7 : FVec Ideal (Mat 4096 2048) .f32)

/-- The three log-sums of a row and head. -/
def sums (r h : ℕ) : Fin 3 → EReal :=
  ![entry x5 r h, entry x6 (r / 4) (128 * (r % 4) + h), entry x7 (r / 16) (128 * (r % 16) + h)]

theorem v18_at (n : Fin 3) (r : Fin 65536) (h : Fin 8) :
    val_main_v18 (F := Ideal) x5 x6 x7 (ix3 n r h) = sums x5 x6 x7 r h n := by
  have e : val_main_v18 (F := Ideal) x5 x6 x7 (ix3 n r h)
      = ![val_main_v10 (F := Ideal) x5 (ix2 r h), val_main_v12 (F := Ideal) x6 (ix2 r h), val_main_v14 (F := Ideal) x7 (ix2 r h)] n := by
    generalize h12 : val_main_v12 (F := Ideal) x6 = a
    generalize h14 : val_main_v14 (F := Ideal) x7 = b
    generalize h10 : val_main_v10 (F := Ideal) x5 = d
    pointwise [val_main_v18, val_main_v15, val_main_v16, val_main_v17, h10, h12, h14]
    fin_cases n <;> simp
  rw [e, v10_at, v12_at, v14_at, sums]

theorem bot_bits : Ideal.ofBits .f32 0xFF800000#32 = ⊥ := by
  simp [Ideal.ofBits, Ideal.ieee, -EReal.coe_mul]

theorem fold_three (f : Fin 3 → EReal) : max ⊥ (Finset.fold max ⊥ f Finset.univ) = top3 f := by
  have : (Finset.univ : Finset (Fin 3)) = {0, 1, 2} := by decide
  rw [this, Finset.fold_insert (by decide), Finset.fold_insert (by decide), Finset.fold_singleton, top3]
  simp [max_assoc]

theorem v21_at (r : Fin 65536) (h : Fin 8) :
    val_main_v21 (F := Ideal) x5 x6 x7 (ix2 r h) = top3 (sums x5 x6 x7 r h) := by
  have e : val_main_v21 (F := Ideal) x5 x6 x7 (ix2 r h) = max (Ideal.ofBits .f32 0xFF800000#32)
      (Finset.fold max (Ideal.ofBits .f32 0xFF800000#32) (fun n : Fin 3 => val_main_v18 (F := Ideal) x5 x6 x7 (ix3 n r h)) Finset.univ) := by
    generalize h18 : val_main_v18 (F := Ideal) x5 x6 x7 = w
    pointwise [val_main_v21, val_main_v20, val_main_v19, val_main_cst, val_main_cst_0, h18]
  rw [e, bot_bits]
  simp only [v18_at]
  generalize sums x5 x6 x7 r h = f
  exact fold_three f

theorem v25_at (n : Fin 3) (r : Fin 65536) (h : Fin 8) :
    val_main_v25 (F := Ideal) x5 x6 x7 (ix3 n r h) = Ideal.exp (sums x5 x6 x7 r h n - top3 (sums x5 x6 x7 r h)) := by
  have e : val_main_v25 (F := Ideal) x5 x6 x7 (ix3 n r h)
      = Ideal.exp (val_main_v18 (F := Ideal) x5 x6 x7 (ix3 n r h) - val_main_v21 (F := Ideal) x5 x6 x7 (ix2 r h)) := by
    generalize h18 : val_main_v18 (F := Ideal) x5 x6 x7 = w
    generalize h21 : val_main_v21 (F := Ideal) x5 x6 x7 = u
    pointwise [val_main_v25, val_main_v24, val_main_v23, val_main_v22, h18, h21]
  rw [e, v18_at, v21_at]

theorem v29_at (n : Fin 3) (r : Fin 65536) (h : Fin 8) :
    val_main_v29 (F := Ideal) x5 x6 x7 (ix3 n r h) = weight (sums x5 x6 x7 r h) n := by
  have e : val_main_v29 (F := Ideal) x5 x6 x7 (ix3 n r h) = Ideal.div (val_main_v25 (F := Ideal) x5 x6 x7 (ix3 n r h))
      (Ideal.ofBits .f32 0x00000000#32 + ∑ k : Fin 3, val_main_v25 (F := Ideal) x5 x6 x7 (ix3 k r h)) := by
    generalize h25 : val_main_v25 (F := Ideal) x5 x6 x7 = w
    pointwise [val_main_v29, val_main_v28, val_main_v27, val_main_v26, val_main_cst_1, h25]
  rw [e, Ideal.ofBits_zero_f32, zero_add, Fin.sum_univ_three]
  simp only [v25_at]
  rfl

end Weights

section Heads

variable (x2 : FVec Ideal (Mat 65536 512) .bf16) (x3 : FVec Ideal (Mat 16384 2048) .bf16) (x4 : FVec Ideal (Mat 4096 8192) .bf16)
  (x5 : FVec Ideal (Mat 65536 128) .f32) (x6 : FVec Ideal (Mat 16384 512) .f32) (x7 : FVec Ideal (Mat 4096 2048) .f32)

/-- The weighted sum of the three patterns' outputs. -/
theorem v33_at (r : Fin 65536) (h : Fin 8) (l : Fin 64) : val_main_v33 (F := Ideal) x2 x3 x4 x5 x6 x7 (ix3 r h l)
    = weight (sums x5 x6 x7 r h) 0 * entry x2 r (64 * h + l)
      + weight (sums x5 x6 x7 r h) 1 * entry x3 (r / 4) (512 * (r % 4) + (64 * h + l))
      + weight (sums x5 x6 x7 r h) 2 * entry x4 (r / 16) (512 * (r % 16) + (64 * h + l)) := by
  have e : val_main_v33 (F := Ideal) x2 x3 x4 x5 x6 x7 (ix3 r h l) = Ideal.ofBits .f32 0x00000000#32
      + ∑ n : Fin 3, val_main_v29 (F := Ideal) x5 x6 x7 (ix3 n r h) * ![val_main_v1 (F := Ideal) x2 (ix3 r h l),
        val_main_v3 (F := Ideal) x3 (ix3 r h l), val_main_v5 (F := Ideal) x4 (ix3 r h l)] n := by
    generalize h1 : val_main_v1 (F := Ideal) x2 = a
    generalize h3 : val_main_v3 (F := Ideal) x3 = b
    generalize h5 : val_main_v5 (F := Ideal) x4 = d
    generalize h29 : val_main_v29 (F := Ideal) x5 x6 x7 = w
    pointwise [val_main_v33, val_main_v32, val_main_v31, val_main_v30, val_main_v9, val_main_v8, val_main_v7, val_main_v6,
      val_main_cst_2, h1, h3, h5, h29]
    refine Finset.sum_congr rfl fun n _ => congrArg (w (ix3 n r h) * ·) ?_
    fin_cases n <;> simp
  rw [e, Ideal.ofBits_zero_f32, zero_add, Fin.sum_univ_three, v29_at, v29_at, v29_at, ← v1_at, ← v3_at, ← v5_at]
  simp only [Matrix.cons_val_zero, Matrix.cons_val_one, Matrix.cons_val]

theorem v34_at (r : Fin 65536) (k : Fin 512) : val_main_v34 (F := Ideal) x2 x3 x4 x5 x6 x7 (ix2 r k)
    = weight (sums x5 x6 x7 r (k / 64)) 0 * entry x2 r k
      + weight (sums x5 x6 x7 r (k / 64)) 1 * entry x3 (r / 4) (512 * (r % 4) + k)
      + weight (sums x5 x6 x7 r (k / 64)) 2 * entry x4 (r / 16) (512 * (r % 16) + k) := by
  show shapeCast _ (val_main_v33 (F := Ideal) x2 x3 x4 x5 x6 x7) _ (ix2 r k) = _
  rw [shapeCast_apply _ _ _ (ix3 r (⟨k / 64, by omega⟩ : Fin 8) (⟨k % 64, by omega⟩ : Fin 64)) (by
    rw [Shape.rowMajor_val_two, Shape.rowMajor_val_three]; simp; omega)]
  refine (v33_at ..).trans ?_
  have : 64 * ((⟨k / 64, by omega⟩ : Fin 8) : ℕ) + ((⟨k % 64, by omega⟩ : Fin 64) : ℕ) = k := by
    show 64 * ((k : ℕ) / 64) + (k : ℕ) % 64 = k; omega
  rw [this]

variable (x8 : FVec Ideal (Mat 65536 512) .bf16)

theorem v36_at (r : Fin 65536) (k : Fin 512) : val_main_v36 (F := Ideal) x8 (ix2 r k)
    = entry x8 r k * Ideal.div 1 (1 + Ideal.exp (-entry x8 r k)) := by
  rw [entry_of x8 r.isLt k.isLt, ← Ideal.ofBits_one_f32]
  pointwise [val_main_v36, val_main_v35, val_main_call0_v5, val_main_call0_v4, val_main_call0_v3, val_main_call0_v2, val_main_call0_v1,
    val_main_call0_v0, val_main_call0_cst, val_main_call0_cst_0]

variable (x0 : FVec Ideal (Mat 65536 1024) .f32) (x1 : FVec Ideal (Mat 65536 1024) .bf16) (x9 : FVec Ideal (Mat 1536 1024) .bf16)

theorem v42_at (r : Fin 65536) (k : Fin 1024) : val_main_v42 (F := Ideal) x0 x1 x2 x3 x4 x5 x6 x7 x8 x9 (ix2 r k)
    = x0 (ix2 r k) + (∑ j : Fin 1024, x1 (ix2 r j) * x9 (ix2 ⟨j, by omega⟩ k)
      + ∑ j : Fin 512, val_main_v34 (F := Ideal) x2 x3 x4 x5 x6 x7 (ix2 r j) * val_main_v36 (F := Ideal) x8 (ix2 r j)
        * x9 (ix2 ⟨1024 + j, by omega⟩ k)) := by
  generalize h34 : val_main_v34 (F := Ideal) x2 x3 x4 x5 x6 x7 = a
  generalize h36 : val_main_v36 (F := Ideal) x8 = b
  pointwise [val_main_v42, val_main_v41, val_main_v40, val_main_v39, val_main_v38, val_main_v37, h34, h36]

end Heads

end Cert.Reference5Ideal.Read

end

end
-- ==== Proof.OutArr.lean ====
module

public import proofs.«01_k».proof.Proof.OutBlock
public import proofs.«01_k».proof.Proof.OutRef
public import proofs.«01_k».proof.Proof.Parts

@[expose] public section

set_option maxRecDepth 16384
set_option backward.proofsInPublic true

noncomputable section

open Idealize.ShloMosaic Idealize.ShloMosaic.TcCoe
open Cert.Out (weight entry entry_of)
open Cert.Parts

/-! # The output projection's array and the reference's -/

namespace Cert.Kernel5Ideal.Gen

variable (m : (ℓ : Loc nD τ sig) → Buf (Elt Ideal) ℓ) (c : Dev nD)

theorem idx : ∀ t : Fin cfg0.N,
    win0_0.index t = ![(t : ℕ), 0] ∧ win0_1.index t = ![(t : ℕ), 0] ∧ win0_2.index t = ![(t : ℕ), 0]
    ∧ win0_3.index t = ![(t : ℕ), 0] ∧ win0_4.index t = ![(t : ℕ), 0] ∧ win0_5.index t = ![(t : ℕ), 0]
    ∧ win0_6.index t = ![(t : ℕ), 0] ∧ win0_7.index t = ![(t : ℕ), 0] ∧ win0_8.index t = ![(t : ℕ), 0]
    ∧ win0_9.index t = ![0, 0] ∧ win0_10.index t = ![0, 0] ∧ win0_11.index t = ![(t : ℕ), 0] :=
  (by decide +kernel : ∀ t : Fin grid0.N, _)

theorem expand_entry (x : Fin 128) (k : Fin 1536) : V m c main_v36 (ix2 x k)
    = if (x : ℕ) / 16 = k / 512 ∧ (x : ℕ) % 8 = k % 512 / 64 then (1 : EReal) else 0 := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  simp only [StableHlo.TRef.ofBuf, StableHlo.TRef.toBuf, cast_eq, id]
  refine Eq.trans (b := (FloatOps.uitofp .bf16 (IntOp.andi
      (IntOp.andi (IntOp.cmpi .eq (quot (BitVec.ofNat 32 x) 16#32) (quot (BitVec.ofNat 32 k) 512#32))
        (IntOp.cmpi .eq (remain (BitVec.ofNat 32 x) 8#32) (quot (remain (BitVec.ofNat 32 k) 512#32) 64#32)))
      (IntOp.cmpi .slt (BitVec.ofNat 32 x) 48#32)) : Ideal .bf16)) ?_ ?_
  · pointwise []
    rfl
  · have hx := x.isLt
    have hk := k.isLt
    rw [quot_16, quot_512, rest_8, quot_rest, small, eq_small (by omega) (by omega), eq_small (by omega) (by omega)]
    by_cases h1 : (x : ℕ) / 16 = k / 512
    · have h3 : (x : ℕ) < 48 := by omega
      by_cases h2 : (x : ℕ) % 8 = k % 512 / 64
      · rw [if_pos h1, if_pos h2, if_pos h3, if_pos ⟨h1, h2⟩]
        exact one_bit
      · rw [if_pos h1, if_neg h2, if_pos h3, if_neg fun h => h2 h.2]
        exact zero_bit
    · by_cases h2 : (x : ℕ) % 8 = k % 512 / 64 <;> by_cases h3 : (x : ℕ) < 48 <;>
        simp only [h1, h2, h3, if_true, if_false, false_and] <;> exact zero_bit

/-! ## The blocks -/

theorem blk_2 (t : Fin cfg0.N) (i j : ℕ) (hi : i < 1024) (hj : j < 512) :
    entry (m := 1024) (n := 512) (iblk m c 2 t) i j
      = entry (m := 65536) (n := 512) (m ((c : Thread nD τ).loc main_arg2)) (1024 * t + i) j := by
  have ht : (t : ℕ) < 64 := t.isLt
  refine (entry_of _ hi hj).trans (Eq.trans ?_ (entry_of _ (by omega : 1024 * (t : ℕ) + i < 65536) hj).symm)
  refine Eq.trans ?_ (congrFun (V_main_arg2 m c) _)
  blk_ext [iblk, idx t]

theorem blk_3 (t : Fin cfg0.N) (i j : ℕ) (hi : i < 256) (hj : j < 2048) :
    entry (m := 256) (n := 2048) (iblk m c 3 t) i j
      = entry (m := 16384) (n := 2048) (m ((c : Thread nD τ).loc main_arg3)) (256 * t + i) j := by
  have ht : (t : ℕ) < 64 := t.isLt
  refine (entry_of _ hi hj).trans (Eq.trans ?_ (entry_of _ (by omega : 256 * (t : ℕ) + i < 16384) hj).symm)
  refine Eq.trans ?_ (congrFun (V_main_arg3 m c) _)
  blk_ext [iblk, idx t]

theorem blk_4 (t : Fin cfg0.N) (i j : ℕ) (hi : i < 64) (hj : j < 8192) :
    entry (m := 64) (n := 8192) (iblk m c 4 t) i j
      = entry (m := 4096) (n := 8192) (m ((c : Thread nD τ).loc main_arg4)) (64 * t + i) j := by
  have ht : (t : ℕ) < 64 := t.isLt
  refine (entry_of _ hi hj).trans (Eq.trans ?_ (entry_of _ (by omega : 64 * (t : ℕ) + i < 4096) hj).symm)
  refine Eq.trans ?_ (congrFun (V_main_arg4 m c) _)
  blk_ext [iblk, idx t]

theorem blk_5 (t : Fin cfg0.N) (i j : ℕ) (hi : i < 1024) (hj : j < 128) :
    entry (m := 1024) (n := 128) (iblk m c 5 t) i j
      = entry (m := 65536) (n := 128) (m ((c : Thread nD τ).loc main_arg5)) (1024 * t + i) j := by
  have ht : (t : ℕ) < 64 := t.isLt
  refine (entry_of _ hi hj).trans (Eq.trans ?_ (entry_of _ (by omega : 1024 * (t : ℕ) + i < 65536) hj).symm)
  refine Eq.trans ?_ (congrFun (V_main_arg5 m c) _)
  blk_ext [iblk, idx t]

theorem blk_6 (t : Fin cfg0.N) (i j : ℕ) (hi : i < 256) (hj : j < 512) :
    entry (m := 256) (n := 512) (iblk m c 6 t) i j
      = entry (m := 16384) (n := 512) (m ((c : Thread nD τ).loc main_arg6)) (256 * t + i) j := by
  have ht : (t : ℕ) < 64 := t.isLt
  refine (entry_of _ hi hj).trans (Eq.trans ?_ (entry_of _ (by omega : 256 * (t : ℕ) + i < 16384) hj).symm)
  refine Eq.trans ?_ (congrFun (V_main_arg6 m c) _)
  blk_ext [iblk, idx t]

theorem blk_7 (t : Fin cfg0.N) (i j : ℕ) (hi : i < 64) (hj : j < 2048) :
    entry (m := 64) (n := 2048) (iblk m c 7 t) i j
      = entry (m := 4096) (n := 2048) (m ((c : Thread nD τ).loc main_arg7)) (64 * t + i) j := by
  have ht : (t : ℕ) < 64 := t.isLt
  refine (entry_of _ hi hj).trans (Eq.trans ?_ (entry_of _ (by omega : 64 * (t : ℕ) + i < 4096) hj).symm)
  refine Eq.trans ?_ (congrFun (V_main_arg7 m c) _)
  blk_ext [iblk, idx t]

theorem blk_8 (t : Fin cfg0.N) (i j : ℕ) (hi : i < 1024) (hj : j < 512) :
    entry (m := 1024) (n := 512) (iblk m c 8 t) i j
      = entry (m := 65536) (n := 512) (m ((c : Thread nD τ).loc main_arg8)) (1024 * t + i) j := by
  have ht : (t : ℕ) < 64 := t.isLt
  refine (entry_of _ hi hj).trans (Eq.trans ?_ (entry_of _ (by omega : 1024 * (t : ℕ) + i < 65536) hj).symm)
  refine Eq.trans ?_ (congrFun (V_main_arg8 m c) _)
  blk_ext [iblk, idx t]

theorem blk_0 (t : Fin cfg0.N) (r k : Fin 1024) :
    iblk m c 0 t (ix2 r k) = m ((c : Thread nD τ).loc main_arg0) (ix2 ⟨1024 * t + r, by have : (t : ℕ) < 64 := t.isLt; omega⟩ k) := by
  refine Eq.trans ?_ (congrFun (V_main_arg0 m c) _)
  blk_ext [iblk, idx t]

theorem blk_1 (t : Fin cfg0.N) (r k : Fin 1024) :
    iblk m c 1 t (ix2 r k) = m ((c : Thread nD τ).loc main_arg1) (ix2 ⟨1024 * t + r, by have : (t : ℕ) < 64 := t.isLt; omega⟩ k) := by
  refine Eq.trans ?_ (congrFun (V_main_arg1 m c) _)
  blk_ext [iblk, idx t]

theorem blk_9 (t : Fin cfg0.N) (r : Fin 1536) (k : Fin 1024) :
    iblk m c 9 t (ix2 r k) = m ((c : Thread nD τ).loc main_arg9) (ix2 r k) := by
  refine Eq.trans ?_ (congrFun (V_main_arg9 m c) _)
  blk_ext [iblk, idx t]

theorem blk_10 (t : Fin cfg0.N) (x : Fin 128) (k : Fin 1536) :
    iblk m c 10 t (ix2 x k) = if (x : ℕ) / 16 = k / 512 ∧ (x : ℕ) % 8 = k % 512 / 64 then (1 : EReal) else 0 := by
  refine Eq.trans ?_ (expand_entry m c x k)
  blk_ext [iblk, idx t]

/-- The heads of a block are the reference's at the block's rows. -/
theorem head_blk (t : Fin cfg0.N) (r : Fin 1024) (j : Fin 512) :
    headAt (iblk m c 2 t) (iblk m c 3 t) (iblk m c 4 t) (iblk m c 5 t) (iblk m c 6 t) (iblk m c 7 t) (iblk m c 8 t) r j
    = Cert.Reference5Ideal.Read.val_main_v34 (F := Ideal) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (ix2 ⟨1024 * t + r, by have : (t : ℕ) < 64 := t.isLt; omega⟩ j)
      * Cert.Reference5Ideal.Read.val_main_v36 (F := Ideal) (m ((c : Thread nD τ).loc main_arg8))
        (ix2 ⟨1024 * t + r, by have : (t : ℕ) < 64 := t.isLt; omega⟩ j) := by
  have hr := r.isLt
  have hj := j.isLt
  have h4 : (1024 * (t : ℕ) + r) / 4 = 256 * t + r / 4 := by omega
  have h4' : (1024 * (t : ℕ) + r) % 4 = r % 4 := by omega
  have h16 : (1024 * (t : ℕ) + r) / 16 = 64 * t + r / 16 := by omega
  have h16' : (1024 * (t : ℕ) + r) % 16 = r % 16 := by omega
  rw [Cert.Reference5Ideal.Read.v34_at, Cert.Reference5Ideal.Read.v36_at]
  unfold headAt Cert.Reference5Ideal.Read.sums sums
  dsimp only
  rw [h4, h4', h16, h16', blk_2 m c t _ _ hr hj, blk_3 m c t _ _ (by omega) (by omega), blk_4 m c t _ _ (by omega) (by omega),
    blk_5 m c t _ _ hr (by omega), blk_6 m c t _ _ (by omega) (by omega), blk_7 m c t _ _ (by omega) (by omega), blk_8 m c t _ _ hr hj]

/-- The body leaves the reference's rows in the output's buffer. -/
theorem out_at (t : Fin cfg0.N) (r k : Fin 1024) : outsAt0 m c t (ix2 r k)
    = Cert.Reference5Ideal.Read.val_main_v42 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (ix2 ⟨1024 * t + r, by have : (t : ℕ) < 64 := t.isLt; omega⟩ k) := by
  rw [outsAt0, out0_A_11, View.read_writes_junk_eq_canon]
  refine (block_at (hex := blk_10 m c t) ..).trans ?_
  rw [Cert.Reference5Ideal.Read.v42_at, add_assoc]
  exact congrArg₂ (· + ·) (blk_0 m c t r k) (congrArg₂ (· + ·)
    (Finset.sum_congr rfl fun j _ => congrArg₂ (· * ·) (blk_1 m c t r j) (blk_9 m c t _ k))
    (Finset.sum_congr rfl fun j _ => congrArg₂ (· * ·) (head_blk m c t r j) (blk_9 m c t _ k)))

/-- The output's array is the reference's. -/
theorem final_out : (dats m 0 c).arrAt 11 cfg0.N
    = Cert.Reference5Ideal.Read.val_main_v42 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  refine (dats m 0 c).arrAt_eq_of_covers 11 _ (by decide +kernel) fun t _ y => ?_
  have h0 : (y 0).val < 1024 := (y 0).isLt
  have h1 : (y 1).val < 1024 := (y 1).isLt
  blk_simp
  rw [after0_11]
  have e : y = ix2 (⟨(y 0).val, h0⟩ : Fin 1024) (⟨(y 1).val, h1⟩ : Fin 1024) := by
    funext a; fin_cases a <;> rfl
  rw [e]
  refine (out_at m c t _ _).trans ?_
  blk_ext [idx t]

end Cert.Kernel5Ideal.Gen

end

end
-- ==== Proof.OutClaim.lean ====
module

public import proofs.«01_k».proof.Defs
public import proofs.«01_k».proof.Proof.Gen.Kernel5.Frame
public import proofs.«01_k».proof.Proof.Gen.Reference5Ideal.Run
public import proofs.«01_k».proof.Proof.OutArr
public import Idealize.ShloMosaic.Lib.Claim
public import Idealize.ShloMosaic.Adequacy
public import Idealize.ShloMosaic.Init

@[expose] public section

noncomputable section

namespace Cert.Proof

open Idealize.ShloMosaic Idealize.ShloMosaic.TcCoe

set_option maxHeartbeats 4000000 in
/-- The output projection: the kernel's array is the reference's. -/
theorem outproj : Cert.algebraic_Kernel5Ideal_Reference5Ideal := by
  pair_intro
  · run_from Cert.Kernel5Ideal.Gen.run_main m g
  · run_from Cert.Reference5Ideal.Value.run m' g'
    rw [Cert.Reference5Ideal.Read.val_main_v42_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (Cert.Kernel5Ideal.Gen.final_out m c).symm

end Cert.Proof

end

end
-- ==== Proof.lean ====
module

public import proofs.«01_k».proof.Defs
public import proofs.«01_k».proof.Proof.Gen.Kernel.Frame
public import proofs.«01_k».proof.Proof.Gen.ReferenceIdeal.Run
public import proofs.«01_k».proof.Proof.Attn1
public import proofs.«01_k».proof.Proof.Gen.Kernel2.Frame
public import proofs.«01_k».proof.Proof.Gen.Reference2Ideal.Run
public import proofs.«01_k».proof.Proof.Attn4
public import proofs.«01_k».proof.Proof.Gen.Kernel3.Frame
public import proofs.«01_k».proof.Proof.Gen.Reference3Ideal.Run
public import proofs.«01_k».proof.Proof.Attn16
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.ProjClaim
public import proofs.«01_k».proof.Proof.OutClaim
public import Idealize.ShloMosaic.Lib.Claim
public import Idealize.ShloMosaic.Adequacy
public import Idealize.ShloMosaic.Init

@[expose] public section

noncomputable section

namespace Cert.Proof

open Idealize.ShloMosaic Idealize.ShloMosaic.TcCoe

/-- Stride 1: the kernel's two arrays are the reference's. -/
theorem attn1 : Cert.algebraic_KernelIdeal_ReferenceIdeal := by
  pair_intro
  · run_from Cert.KernelIdeal.Gen.run_main m g
  · run_from Cert.ReferenceIdeal.Value.run m' g'
    · rw [Cert.ReferenceIdeal.Read.val_main_v42_eq, (hagree c).1, (hagree c).2.1, (hagree c).2.2]
      exact (Cert.KernelIdeal.Gen.final_out m c).symm
    · rw [Cert.ReferenceIdeal.Read.val_main_v45_eq, (hagree c).1, (hagree c).2.1]
      exact (Cert.KernelIdeal.Gen.final_lse m c).symm

/-- Stride 1: the reference ends with its arguments unchanged. -/
theorem frame1 : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Stride 1: the named constants. -/
theorem names1 : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

/-- Stride 4: the kernel's two arrays are the reference's. -/
theorem attn4 : Cert.algebraic_Kernel2Ideal_Reference2Ideal := by
  pair_intro
  · run_from Cert.Kernel2Ideal.Gen.run_main m g
  · run_from Cert.Reference2Ideal.Value.run m' g'
    · rw [Cert.Reference2Ideal.Read.val_main_v42_eq, (hagree c).1, (hagree c).2.1, (hagree c).2.2]
      exact (Cert.Kernel2Ideal.Gen.final_out m c).symm
    · rw [Cert.Reference2Ideal.Read.val_main_v45_eq, (hagree c).1, (hagree c).2.1]
      exact (Cert.Kernel2Ideal.Gen.final_lse m c).symm

/-- Stride 4: the reference ends with its arguments unchanged. -/
theorem frame4 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- Stride 4: the named constants. -/
theorem names4 : Cert.preserves_Kernel2_Kernel2Ideal :=
  ⟨IdealRules.named_const.statement Cert.Kernel2Ideal.κ "mask" .f32 0xF149F2CA#32 ⊥ rfl,
    IdealRules.named_const.statement Cert.Kernel2Ideal.κ "ln2" .f32 0x3F317218#32 ((Real.log 2 : ℝ) : EReal) rfl⟩

/-- Stride 16: the kernel's two arrays are the reference's. -/
theorem attn16 : Cert.algebraic_Kernel3Ideal_Reference3Ideal := by
  pair_intro
  · run_from Cert.Kernel3Ideal.Gen.run_main m g
  · run_from Cert.Reference3Ideal.Value.run m' g'
    · rw [Cert.Reference3Ideal.Read.val_main_v42_eq, (hagree c).1, (hagree c).2.1, (hagree c).2.2]
      exact (Cert.Kernel3Ideal.Gen.final_out m c).symm
    · rw [Cert.Reference3Ideal.Read.val_main_v45_eq, (hagree c).1, (hagree c).2.1]
      exact (Cert.Kernel3Ideal.Gen.final_lse m c).symm

/-- Stride 16: the reference ends with its arguments unchanged. -/
theorem frame16 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- Stride 16: the named constants. -/
theorem names16 : Cert.preserves_Kernel3_Kernel3Ideal :=
  ⟨IdealRules.named_const.statement Cert.Kernel3Ideal.κ "mask" .f32 0xF149F2CA#32 ⊥ rfl,
    IdealRules.named_const.statement Cert.Kernel3Ideal.κ "ln2" .f32 0x3F317218#32 ((Real.log 2 : ℝ) : EReal) rfl⟩

/-- The input projection's reference ends with its arguments unchanged. -/
theorem frameIn : Cert.quiescent_Reference4Ideal := fun m ρ _ =>
  (θ_run Cert.Reference4Ideal.defs _ _).mono (fun r h => ⟨fun c => (h c).2.2.2.2.2.2.2.2.2.2.2.2.2, sem_eq_zero_of_no_sems (by decide) r.2⟩)
    (Cert.Reference4Ideal.Value.run m ρ)

/-- The output projection's reference ends with its arguments unchanged. -/
theorem frameOut : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The output projection: the named constant. -/
theorem namesOut : Cert.preserves_Kernel5_Kernel5Ideal :=
  IdealRules.named_const.statement Cert.Kernel5Ideal.κ "minus_log2e" .f32 0xBFB8AA3B#32 ((-((Real.log 2)⁻¹) : ℝ) : EReal) rfl

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    fun m ρ _ => Cert.Kernel.Gen.frame m ρ, fun m ρ _ => Cert.KernelIdeal.Gen.frame m ρ, frame1,
    fun m ρ _ => Cert.Kernel2.Gen.frame m ρ, fun m ρ _ => Cert.Kernel2Ideal.Gen.frame m ρ, frame4,
    fun m ρ _ => Cert.Kernel3.Gen.frame m ρ, fun m ρ _ => Cert.Kernel3Ideal.Gen.frame m ρ, frame16,
    fun m ρ _ => Cert.Kernel4.Gen.frame m ρ, fun m ρ _ => Cert.Kernel4Ideal.Gen.frame m ρ, frameIn,
    fun m ρ _ => Cert.Kernel5.Gen.frame m ρ, fun m ρ _ => Cert.Kernel5Ideal.Gen.frame m ρ, frameOut,
    names1, attn1, names4, attn4, names16, attn16, trivial, inproj, namesOut, outproj⟩

end Cert.Proof

end

end
